-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_classes [hPre_in_classes : Cert.Pre_in_classes.Facts] (m : (ℓ : Loc Cert.KernelIdeal.nD Cert.KernelIdeal.τ Cert.KernelIdeal.sig) → Buf (Elt Ideal) ℓ) : Prop :=
  ∀ c : Dev Cert.KernelIdeal.nD,
    (Cert.Pre_in_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_classes [hPre_in_classes : Cert.Pre_in_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_classes [hKernelIdeal : Cert.KernelIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_classes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_classes [hReferenceIdeal : Cert.ReferenceIdeal.Facts] [hPre_in_classes : Cert.Pre_in_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_classes [hKernelIdeal : Cert.KernelIdeal.Facts] [hReferenceIdeal : Cert.ReferenceIdeal.Facts] [hPre_in_classes : Cert.Pre_in_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_classes : Cert.Pre_in_classes.Facts),
    quiescent_Kernel (hKernel := hKernel)
    ∧ quiescent_KernelIdeal (hKernelIdeal := hKernelIdeal)
    ∧ quiescent_KernelIdeal_pre_in_classes (hKernelIdeal := hKernelIdeal) (hPre_in_classes := hPre_in_classes)
    ∧ quiescent_ReferenceIdeal (hReferenceIdeal := hReferenceIdeal)
    ∧ quiescent_ReferenceIdeal_pre_in_classes (hReferenceIdeal := hReferenceIdeal) (hPre_in_classes := hPre_in_classes)
    ∧ preserves_Kernel_KernelIdeal
    ∧ algebraic_KernelIdeal_ReferenceIdeal_pre_in_classes (hKernelIdeal := hKernelIdeal) (hReferenceIdeal := hReferenceIdeal) (hPre_in_classes := hPre_in_classes)
-- ==== Pre_in_classes.lean ====
abbrev S16x10x512x512 : Shape := ⟨4, ![16, 10, 512, 512]⟩
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S16x10x512x512 : S_.BroadcastsInDim S16x10x512x512 (![] : Fin 0 → Fin S16x10x512x512.rank)
  reducesTo_S16x10x512x512_S_d0_1_2_3 : S16x10x512x512.ReducesTo [0, 1, 2, 3] S_

variable [Facts]

def fn {F : FTy → Type} [FloatOps F] (main_arg0 : FVec F S16x10x512x512 .f32) (main_arg1 : IVec S16x512x512 32) : IVec S_ 1 :=
  let main_c : IVec S_ 32 := constantI S_ 32 0#32
  let main_v0 : IVec S16x512x512 32 := broadcastInDim S16x512x512 ![] bcast_S_S16x512x512 main_c
  let main_v1 : IVec S16x512x512 1 := cmpi .sge main_arg1 main_v0
  let main_c_0 : IVec S_ 1 := constantI S_ 1 1#1
  let main_v2 : IVec S_ 1 := (fun x v => Host.reduce IntOp.andi x v reducesTo_S16x512x512_S_d0_1_2 h_S_) main_v1 main_c_0
  let main_c_1 : IVec S_ 32 := constantI S_ 32 10#32
  let main_v3 : IVec S16x512x512 32 := broadcastInDim S16x512x512 ![] bcast_S_S16x512x512 main_c_1
  let main_v4 : IVec S16x512x512 1 := cmpi .slt main_arg1 main_v3
  let main_c_2 : IVec S_ 1 := constantI S_ 1 1#1
  let main_v5 : IVec S_ 1 := (fun x v => Host.reduce IntOp.andi x v reducesTo_S16x512x512_S_d0_1_2 h_S_) main_v4 main_c_2
  let main_v6 : IVec S_ 1 := andi main_v2 main_v5
  let main_v7 : FVec F S16x10x512x512 .f32 := Host.absf main_arg0
  let main_cst : FVec F S_ .f32 := constant S_ .f32 0x7F800000#32
  let main_v8 : FVec F S16x10x512x512 .f32 := broadcastInDim S16x10x512x512 ![] bcast_S_S16x10x512x512 main_cst
  let main_v9 : IVec S16x10x512x512 1 := cmpf .olt main_v7 main_v8
  let main_c_3 : IVec S_ 1 := constantI S_ 1 1#1
  let main_v10 : IVec S_ 1 := (fun x v => Host.reduce IntOp.andi x v reducesTo_S16x10x512x512_S_d0_1_2_3 h_S_) main_v9 main_c_3
  let main_v11 : IVec S_ 1 := andi main_v6 main_v10
  main_v11
-- ==== Kernel.lean ====
abbrev S16x10x512x512 : Shape := ⟨4, ![16, 10, 512, 512]⟩
abbrev S16x512x512 : Shape := ⟨3, ![16, 512, 512]⟩
abbrev S1x1 : Shape := ⟨2, ![1, 1]⟩
abbrev S2x10x512x512 : Shape := ⟨4, ![2, 10, 512, 512]⟩
abbrev S2x512x512 : Shape := ⟨3, ![2, 512, 512]⟩
abbrev S1x512x512 : Shape := ⟨3, ![1, 512, 512]⟩
abbrev S512x512 : Shape := ⟨2, ![512, 512]⟩
abbrev S1x1x512x512 : Shape := ⟨4, ![1, 1, 512, 512]⟩
abbrev S1 : Shape := ⟨1, ![1]⟩
abbrev S1x1x1 : Shape := ⟨3, ![1, 1, 1]⟩
abbrev S32x16 : Shape := ⟨2, ![32, 16]⟩
abbrev S10x8x512 : Shape := ⟨3, ![10, 8, 512]⟩
abbrev S8x512 : Shape := ⟨2, ![8, 512]⟩
abbrev S32x512 : Shape := ⟨2, ![32, 512]⟩
abbrev S16 : Shape := ⟨1, ![16]⟩
abbrev S_ : Shape := ⟨0, ![]⟩
abbrev S1x10x8x512 : Shape := ⟨4, ![1, 10, 8, 512]⟩
abbrev S1x8x512 : Shape := ⟨3, ![1, 8, 512]⟩
abbrev S1x16 : Shape := ⟨2, ![1, 16]⟩
abbrev S1x1x16 : Shape := ⟨3, ![1, 1, 16]⟩
abbrev S1x32x512 : Shape := ⟨3, ![1, 32, 512]⟩
abbrev S1x32x16 : Shape := ⟨3, ![1, 32, 16]⟩

abbrev nBuf : Table → Nat
  | .hbm => 9
  | .local .tc .vmem => 7
  | .local .tc .smem => 5
  | .local .scVector .vmem => 9
  | _ => 0

abbrev bufTy : (tb : Table) → Fin (nBuf tb) → BufTy
  | .hbm, ⟨0, _⟩ => ⟨S16x10x512x512, .f32⟩
  | .hbm, ⟨1, _⟩ => ⟨S16x512x512, .i32⟩
  | .hbm, ⟨2, _⟩ => ⟨S1x1, .f32⟩
  | .hbm, ⟨3, _⟩ => ⟨S1x1, .f32⟩
  | .hbm, ⟨4, _⟩ => ⟨S32x16, .f32⟩
  | .hbm, ⟨5, _⟩ => ⟨S32x16, .f32⟩
  | .hbm, ⟨6, _⟩ => ⟨S32x16, .i32⟩
  | .hbm, ⟨7, _⟩ => ⟨S1x1, .f32⟩
  | .hbm, ⟨8, _⟩ => ⟨S_, .f32⟩
  | .local .tc .vmem, ⟨0, _⟩ => ⟨S2x10x512x512, .f32⟩
  | .local .tc .vmem, ⟨1, _⟩ => ⟨S2x10x512x512, .f32⟩
  | .local .tc .vmem, ⟨2, _⟩ => ⟨S2x512x512, .i32⟩
  | .local .tc .vmem, ⟨3, _⟩ => ⟨S2x512x512, .i32⟩
  | .local .tc .vmem, ⟨4, _⟩ => ⟨S32x16, .f32⟩
  | .local .tc .vmem, ⟨5, _⟩ => ⟨S32x16, .f32⟩
  | .local .tc .vmem, ⟨6, _⟩ => ⟨S32x16, .i32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .tc .smem, ⟨3, _⟩ => ⟨S1x1, .f32⟩
  | .local .tc .smem, ⟨4, _⟩ => ⟨S1x1, .f32⟩
  | .local .scVector .vmem, ⟨0, _⟩ => ⟨S10x8x512, .f32⟩
  | .local .scVector .vmem, ⟨1, _⟩ => ⟨S10x8x512, .f32⟩
  | .local .scVector .vmem, ⟨2, _⟩ => ⟨S8x512, .i32⟩
  | .local .scVector .vmem, ⟨3, _⟩ => ⟨S8x512, .i32⟩
  | .local .scVector .vmem, ⟨4, _⟩ => ⟨S32x512, .i32⟩
  | .local .scVector .vmem, ⟨5, _⟩ => ⟨S32x512, .i32⟩
  | .local .scVector .vmem, ⟨6, _⟩ => ⟨S16, .f32⟩
  | .local .scVector .vmem, ⟨7, _⟩ => ⟨S16, .f32⟩
  | .local .scVector .vmem, ⟨8, _⟩ => ⟨S16, .i32⟩
  | _, _ => ⟨S16x10x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_arg0_scv : Ref sig .scVector := ⟨.hbm, 0, rfl⟩
abbrev main_arg1_scv : Ref sig .scVector := ⟨.hbm, 1, rfl⟩
abbrev main_v1_0_scv : Ref sig .scVector := ⟨.hbm, 4, rfl⟩
abbrev main_v1_1_scv : Ref sig .scVector := ⟨.hbm, 5, rfl⟩
abbrev main_v1_2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc0_stg2_0 : Ref sig .tc := ⟨.smem, 0, rfl⟩
abbrev cc0_stg3_0 : Ref sig .tc := ⟨.smem, 1, rfl⟩
abbrev cc2_stg0_0 : Ref sig .tc := ⟨.smem, 2, rfl⟩
abbrev cc2_stg1_0 : Ref sig .tc := ⟨.smem, 3, rfl⟩
abbrev cc2_stg5_0 : Ref sig .tc := ⟨.smem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![6, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x10x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![2, 16], ![false, false]⟩

def k1_off1 (i : grid1.Coords) (c0_i32_10 : BitVec 32) : Fin 4 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c0_i32_11 : BitVec 32 := 0#32
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c64_i32 : BitVec 32 := 64#32
  let v30 : BitVec 32 := Scalar.muli v29 c64_i32
  let v32 : BitVec 32 := Scalar.addi v30 c0_i32_10
  let c0_i32_12 : BitVec 32 := 0#32
  ![v19.toNat, 0, v32.toNat, 0]
def k1_off2 (i : grid1.Coords) (c0_i32_15 : BitVec 32) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v19 : BitVec 32 := Scalar.addi c12_i32 v18
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi v1 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c64_i32 : BitVec 32 := 64#32
  let v30 : BitVec 32 := Scalar.muli v29 c64_i32
  let v37 : BitVec 32 := Scalar.addi v30 c0_i32_15
  let c0_i32_16 : BitVec 32 := 0#32
  ![v19.toNat, v37.toNat, 0]
@[reducible] def k1_t1_loop : Scf.Loop 32 :=
  let c0_i32_42 : BitVec 32 := 0#32
  let c8_i32_43 : BitVec 32 := 8#32
  let v77 : BitVec 32 := Scalar.addi c0_i32_42 c8_i32_43
  let c1_i32_44 : BitVec 32 := 1#32
  ⟨c0_i32_42, v77, c1_i32_44⟩
@[reducible] def k1_t2_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off3 (k1_t1 : Fin k1_t1_loop.trips) (k1_t2 : Fin k1_t2_loop.trips) : Fin 2 → Nat :=
  let c0_i32_42 : BitVec 32 := 0#32
  let c1_i32_44 : BitVec 32 := 1#32
  let arg22 : BitVec 32 := Scf.iv c0_i32_42 c1_i32_44 k1_t1
  let v449 : Index := Scalar.indexCast arg22
  let c0_i32_288 : BitVec 32 := 0#32
  let c1_i32_290 : BitVec 32 := 1#32
  let arg26 : BitVec 32 := Scf.iv c0_i32_288 c1_i32_290 k1_t2
  let c16_i32_292 : BitVec 32 := 16#32
  let v448 : BitVec 32 := Scalar.muli arg26 c16_i32_292
  let v450 : Index := Scalar.indexCast v448
  ![v449.toNat, v450.toNat]
def k1_off4 (k1_t1 : Fin k1_t1_loop.trips) (k1_t2 : Fin k1_t2_loop.trips) : Fin 3 → Nat :=
  let c0_i32_294 : BitVec 32 := 0#32
  let v454 : Index := Scalar.indexCast c0_i32_294
  let c0_i32_42 : BitVec 32 := 0#32
  let c1_i32_44 : BitVec 32 := 1#32
  let arg22 : BitVec 32 := Scf.iv c0_i32_42 c1_i32_44 k1_t1
  let v455 : Index := Scalar.indexCast arg22
  let c0_i32_288 : BitVec 32 := 0#32
  let c1_i32_290 : BitVec 32 := 1#32
  let arg26 : BitVec 32 := Scf.iv c0_i32_288 c1_i32_290 k1_t2
  let c16_i32_293 : BitVec 32 := 16#32
  let v453 : BitVec 32 := Scalar.muli arg26 c16_i32_293
  let v456 : Index := Scalar.indexCast v453
  ![0, v455.toNat, v456.toNat]
def k1_off5 (k1_t1 : Fin k1_t1_loop.trips) (k1_t2 : Fin k1_t2_loop.trips) : Fin 3 → Nat :=
  let c1_i32_296 : BitVec 32 := 1#32
  let v464 : Index := Scalar.indexCast c1_i32_296
  let c0_i32_42 : BitVec 32 := 0#32
  let c1_i32_44 : BitVec 32 := 1#32
  let arg22 : BitVec 32 := Scf.iv c0_i32_42 c1_i32_44 k1_t1
  let v465 : Index := Scalar.indexCast arg22
  let c0_i32_288 : BitVec 32 := 0#32
  let c1_i32_290 : BitVec 32 := 1#32
  let arg26 : BitVec 32 := Scf.iv c0_i32_288 c1_i32_290 k1_t2
  let c16_i32_295 : BitVec 32 := 16#32
  let v463 : BitVec 32 := Scalar.muli arg26 c16_i32_295
  let v466 : Index := Scalar.indexCast v463
  ![1, v465.toNat, v466.toNat]
def k1_off6 (k1_t1 : Fin k1_t1_loop.trips) (k1_t2 : Fin k1_t2_loop.trips) : Fin 3 → Nat :=
  let c2_i32_298 : BitVec 32 := 2#32
  let v474 : Index := Scalar.indexCast c2_i32_298
  let c0_i32_42 : BitVec 32 := 0#32
  let c1_i32_44 : BitVec 32 := 1#32
  let arg22 : BitVec 32 := Scf.iv c0_i32_42 c1_i32_44 k1_t1
  let v475 : Index := Scalar.indexCast arg22
  let c0_i32_288 : BitVec 32 := 0#32
  let c1_i32_290 : BitVec 32 := 1#32
  let arg26 : BitVec 32 := Scf.iv c0_i32_288 c1_i32_290 k1_t2
  let c16_i32_297 : BitVec 32 := 16#32
  let v473 : BitVec 32 := Scalar.muli arg26 c16_i32_297
  let v476 : Index := Scalar.indexCast v473
  ![2, v475.toNat, v476.toNat]
def k1_off7 (k1_t1 : Fin k1_t1_loop.trips) (k1_t2 : Fin k1_t2_loop.trips) : Fin 3 → Nat :=
  let c3_i32_300 : BitVec 32 := 3#32
  let v484 : Index := Scalar.indexCast c3_i32_300
  let c0_i32_42 : BitVec 32 := 0#32
  let c1_i32_44 : BitVec 32 := 1#32
  let arg22 : BitVec 32 := Scf.iv c0_i32_42 c1_i32_44 k1_t1
  let v485 : Index := Scalar.indexCast arg22
  let c0_i32_288 : BitVec 32 := 0#32
  let c1_i32_290 : BitVec 32 := 1#32
  let arg26 : BitVec 32 := Scf.iv c0_i32_288 c1_i32_290 k1_t2
  let c16_i32_299 : BitVec 32 := 16#32
  let v483 : BitVec 32 := Scalar.muli arg26 c16_i32_299
  let v486 : Index := Scalar.indexCast v483
  ![3, v485.toNat, v486.toNat]
def k1_off8 (k1_t1 : Fin k1_t1_loop.trips) (k1_t2 : Fin k1_t2_loop.trips) : Fin 3 → Nat :=
  let c4_i32_302 : BitVec 32 := 4#32
  let v494 : Index := Scalar.indexCast c4_i32_302
  let c0_i32_42 : BitVec 32 := 0#32
  let c1_i32_44 : BitVec 32 := 1#32
  let arg22 : BitVec 32 := Scf.iv c0_i32_42 c1_i32_44 k1_t1
  let v495 : Index := Scalar.indexCast arg22
  let c0_i32_288 : BitVec 32 := 0#32
  let c1_i32_290 : BitVec 32 := 1#32
  let arg26 : BitVec 32 := Scf.iv c0_i32_288 c1_i32_290 k1_t2
  let c16_i32_301 : BitVec 32 := 16#32
  let v493 : BitVec 32 := Scalar.muli arg26 c16_i32_301
  let v496 : Index := Scalar.indexCast v493
  ![4, v495.toNat, v496.toNat]
def k1_off9 (k1_t1 : Fin k1_t1_loop.trips) (k1_t2 : Fin k1_t2_loop.trips) : Fin 3 → Nat :=
  let c5_i32_304 : BitVec 32 := 5#32
  let v504 : Index := Scalar.indexCast c5_i32_304
  let c0_i32_42 : BitVec 32 := 0#32
  let c1_i32_44 : BitVec 32 := 1#32
  let arg22 : BitVec 32 := Scf.iv c0_i32_42 c1_i32_44 k1_t1
  let v505 : Index := Scalar.indexCast arg22
  let c0_i32_288 : BitVec 32 := 0#32
  let c1_i32_290 : BitVec 32 := 1#32
  let arg26 : BitVec 32 := Scf.iv c0_i32_288 c1_i32_290 k1_t2
  let c16_i32_303 : BitVec 32 := 16#32
  let v503 : BitVec 32 := Scalar.muli arg26 c16_i32_303
  let v506 : Index := Scalar.indexCast v503
  ![5, v505.toNat, v506.toNat]
def k1_off10 (k1_t1 : Fin k1_t1_loop.trips) (k1_t2 : Fin k1_t2_loop.trips) : Fin 3 → Nat :=
  let c6_i32_306 : BitVec 32 := 6#32
  let v514 : Index := Scalar.indexCast c6_i32_306
  let c0_i32_42 : BitVec 32 := 0#32
  let c1_i32_44 : BitVec 32 := 1#32
  let arg22 : BitVec 32 := Scf.iv c0_i32_42 c1_i32_44 k1_t1
  let v515 : Index := Scalar.indexCast arg22
  let c0_i32_288 : BitVec 32 := 0#32
  let c1_i32_290 : BitVec 32 := 1#32
  let arg26 : BitVec 32 := Scf.iv c0_i32_288 c1_i32_290 k1_t2
  let c16_i32_305 : BitVec 32 := 16#32
  let v513 : BitVec 32 := Scalar.muli arg26 c16_i32_305
  let v516 : Index := Scalar.indexCast v513
  ![6, v515.toNat, v516.toNat]
def k1_off11 (k1_t1 : Fin k1_t1_loop.trips) (k1_t2 : Fin k1_t2_loop.trips) : Fin 3 → Nat :=
  let c7_i32_308 : BitVec 32 := 7#32
  let v524 : Index := Scalar.indexCast c7_i32_308
  let c0_i32_42 : BitVec 32 := 0#32
  let c1_i32_44 : BitVec 32 := 1#32
  let arg22 : BitVec 32 := Scf.iv c0_i32_42 c1_i32_44 k1_t1
  let v525 : Index := Scalar.indexCast arg22
  let c0_i32_288 : BitVec 32 := 0#32
  let c1_i32_290 : BitVec 32 := 1#32
  let arg26 : BitVec 32 := Scf.iv c0_i32_288 c1_i32_290 k1_t2
  let c16_i32_307 : BitVec 32 := 16#32
  let v523 : BitVec 32 := Scalar.muli arg26 c16_i32_307
  let v526 : Index := Scalar.indexCast v523
  ![7, v525.toNat, v526.toNat]
def k1_off12 (k1_t1 : Fin k1_t1_loop.trips) (k1_t2 : Fin k1_t2_loop.trips) : Fin 3 → Nat :=
  let c8_i32_310 : BitVec 32 := 8#32
  let v534 : Index := Scalar.indexCast c8_i32_310
  let c0_i32_42 : BitVec 32 := 0#32
  let c1_i32_44 : BitVec 32 := 1#32
  let arg22 : BitVec 32 := Scf.iv c0_i32_42 c1_i32_44 k1_t1
  let v535 : Index := Scalar.indexCast arg22
  let c0_i32_288 : BitVec 32 := 0#32
  let c1_i32_290 : BitVec 32 := 1#32
  let arg26 : BitVec 32 := Scf.iv c0_i32_288 c1_i32_290 k1_t2
  let c16_i32_309 : BitVec 32 := 16#32
  let v533 : BitVec 32 := Scalar.muli arg26 c16_i32_309
  let v536 : Index := Scalar.indexCast v533
  ![8, v535.toNat, v536.toNat]
def k1_off13 (k1_t1 : Fin k1_t1_loop.trips) (k1_t2 : Fin k1_t2_loop.trips) : Fin 3 → Nat :=
  let c9_i32_312 : BitVec 32 := 9#32
  let v544 : Index := Scalar.indexCast c9_i32_312
  let c0_i32_42 : BitVec 32 := 0#32
  let c1_i32_44 : BitVec 32 := 1#32
  let arg22 : BitVec 32 := Scf.iv c0_i32_42 c1_i32_44 k1_t1
  let v545 : Index := Scalar.indexCast arg22
  let c0_i32_288 : BitVec 32 := 0#32
  let c1_i32_290 : BitVec 32 := 1#32
  let arg26 : BitVec 32 := Scf.iv c0_i32_288 c1_i32_290 k1_t2
  let c16_i32_311 : BitVec 32 := 16#32
  let v543 : BitVec 32 := Scalar.muli arg26 c16_i32_311
  let v546 : Index := Scalar.indexCast v543
  ![9, v545.toNat, v546.toNat]
@[reducible] def k1_t3_loop : Scf.Loop 32 :=
  let c0_i32_59 : BitVec 32 := 0#32
  let c8_i32_60 : BitVec 32 := 8#32
  let v97 : BitVec 32 := Scalar.addi c0_i32_59 c8_i32_60
  let c1_i32_61 : BitVec 32 := 1#32
  ⟨c0_i32_59, v97, c1_i32_61⟩
@[reducible] def k1_t4_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off14 (k1_t3 : Fin k1_t3_loop.trips) (k1_t4 : Fin k1_t4_loop.trips) : Fin 2 → Nat :=
  let c0_i32_59 : BitVec 32 := 0#32
  let c1_i32_61 : BitVec 32 := 1#32
  let arg22 : BitVec 32 := Scf.iv c0_i32_59 c1_i32_61 k1_t3
  let v449 : Index := Scalar.indexCast arg22
  let c0_i32_288 : BitVec 32 := 0#32
  let c1_i32_290 : BitVec 32 := 1#32
  let arg26 : BitVec 32 := Scf.iv c0_i32_288 c1_i32_290 k1_t4
  let c16_i32_292 : BitVec 32 := 16#32
  let v448 : BitVec 32 := Scalar.muli arg26 c16_i32_292
  let v450 : Index := Scalar.indexCast v448
  ![v449.toNat, v450.toNat]
def k1_off15 (k1_t3 : Fin k1_t3_loop.trips) (k1_t4 : Fin k1_t4_loop.trips) : Fin 3 → Nat :=
  let c0_i32_294 : BitVec 32 := 0#32
  let v454 : Index := Scalar.indexCast c0_i32_294
  let c0_i32_59 : BitVec 32 := 0#32
  let c1_i32_61 : BitVec 32 := 1#32
  let arg22 : BitVec 32 := Scf.iv c0_i32_59 c1_i32_61 k1_t3
  let v455 : Index := Scalar.indexCast arg22
  let c0_i32_288 : BitVec 32 := 0#32
  let c1_i32_290 : BitVec 32 := 1#32
  let arg26 : BitVec 32 := Scf.iv c0_i32_288 c1_i32_290 k1_t4
  let c16_i32_293 : BitVec 32 := 16#32
  let v453 : BitVec 32 := Scalar.muli arg26 c16_i32_293
  let v456 : Index := Scalar.indexCast v453
  ![0, v455.toNat, v456.toNat]
def k1_off16 (k1_t3 : Fin k1_t3_loop.trips) (k1_t4 : Fin k1_t4_loop.trips) : Fin 3 → Nat :=
  let c1_i32_296 : BitVec 32 := 1#32
  let v464 : Index := Scalar.indexCast c1_i32_296
  let c0_i32_59 : BitVec 32 := 0#32
  let c1_i32_61 : BitVec 32 := 1#32
  let arg22 : BitVec 32 := Scf.iv c0_i32_59 c1_i32_61 k1_t3
  let v465 : Index := Scalar.indexCast arg22
  let c0_i32_288 : BitVec 32 := 0#32
  let c1_i32_290 : BitVec 32 := 1#32
  let arg26 : BitVec 32 := Scf.iv c0_i32_288 c1_i32_290 k1_t4
  let c16_i32_295 : BitVec 32 := 16#32
  let v463 : BitVec 32 := Scalar.muli arg26 c16_i32_295
  let v466 : Index := Scalar.indexCast v463
  ![1, v465.toNat, v466.toNat]
def k1_off17 (k1_t3 : Fin k1_t3_loop.trips) (k1_t4 : Fin k1_t4_loop.trips) : Fin 3 → Nat :=
  let c2_i32_298 : BitVec 32 := 2#32
  let v474 : Index := Scalar.indexCast c2_i32_298
  let c0_i32_59 : BitVec 32 := 0#32
  let c1_i32_61 : BitVec 32 := 1#32
  let arg22 : BitVec 32 := Scf.iv c0_i32_59 c1_i32_61 k1_t3
  let v475 : Index := Scalar.indexCast arg22
  let c0_i32_288 : BitVec 32 := 0#32
  let c1_i32_290 : BitVec 32 := 1#32
  let arg26 : BitVec 32 := Scf.iv c0_i32_288 c1_i32_290 k1_t4
  let c16_i32_297 : BitVec 32 := 16#32
  let v473 : BitVec 32 := Scalar.muli arg26 c16_i32_297
  let v476 : Index := Scalar.indexCast v473
  ![2, v475.toNat, v476.toNat]
def k1_off18 (k1_t3 : Fin k1_t3_loop.trips) (k1_t4 : Fin k1_t4_loop.trips) : Fin 3 → Nat :=
  let c3_i32_300 : BitVec 32 := 3#32
  let v484 : Index := Scalar.indexCast c3_i32_300
  let c0_i32_59 : BitVec 32 := 0#32
  let c1_i32_61 : BitVec 32 := 1#32
  let arg22 : BitVec 32 := Scf.iv c0_i32_59 c1_i32_61 k1_t3
  let v485 : Index := Scalar.indexCast arg22
  let c0_i32_288 : BitVec 32 := 0#32
  let c1_i32_290 : BitVec 32 := 1#32
  let arg26 : BitVec 32 := Scf.iv c0_i32_288 c1_i32_290 k1_t4
  let c16_i32_299 : BitVec 32 := 16#32
  let v483 : BitVec 32 := Scalar.muli arg26 c16_i32_299
  let v486 : Index := Scalar.indexCast v483
  ![3, v485.toNat, v486.toNat]
def k1_off19 (k1_t3 : Fin k1_t3_loop.trips) (k1_t4 : Fin k1_t4_loop.trips) : Fin 3 → Nat :=
  let c4_i32_302 : BitVec 32 := 4#32
  let v494 : Index := Scalar.indexCast c4_i32_302
  let c0_i32_59 : BitVec 32 := 0#32
  let c1_i32_61 : BitVec 32 := 1#32
  let arg22 : BitVec 32 := Scf.iv c0_i32_59 c1_i32_61 k1_t3
  let v495 : Index := Scalar.indexCast arg22
  let c0_i32_288 : BitVec 32 := 0#32
  let c1_i32_290 : BitVec 32 := 1#32
  let arg26 : BitVec 32 := Scf.iv c0_i32_288 c1_i32_290 k1_t4
  let c16_i32_301 : BitVec 32 := 16#32
  let v493 : BitVec 32 := Scalar.muli arg26 c16_i32_301
  let v496 : Index := Scalar.indexCast v493
  ![4, v495.toNat, v496.toNat]
def k1_off20 (k1_t3 : Fin k1_t3_loop.trips) (k1_t4 : Fin k1_t4_loop.trips) : Fin 3 → Nat :=
  let c5_i32_304 : BitVec 32 := 5#32
  let v504 : Index := Scalar.indexCast c5_i32_304
  let c0_i32_59 : BitVec 32 := 0#32
  let c1_i32_61 : BitVec 32 := 1#32
  let arg22 : BitVec 32 := Scf.iv c0_i32_59 c1_i32_61 k1_t3
  let v505 : Index := Scalar.indexCast arg22
  let c0_i32_288 : BitVec 32 := 0#32
  let c1_i32_290 : BitVec 32 := 1#32
  let arg26 : BitVec 32 := Scf.iv c0_i32_288 c1_i32_290 k1_t4
  let c16_i32_303 : BitVec 32 := 16#32
  let v503 : BitVec 32 := Scalar.muli arg26 c16_i32_303
  let v506 : Index := Scalar.indexCast v503
  ![5, v505.toNat, v506.toNat]
def k1_off21 (k1_t3 : Fin k1_t3_loop.trips) (k1_t4 : Fin k1_t4_loop.trips) : Fin 3 → Nat :=
  let c6_i32_306 : BitVec 32 := 6#32
  let v514 : Index := Scalar.indexCast c6_i32_306
  let c0_i32_59 : BitVec 32 := 0#32
  let c1_i32_61 : BitVec 32 := 1#32
  let arg22 : BitVec 32 := Scf.iv c0_i32_59 c1_i32_61 k1_t3
  let v515 : Index := Scalar.indexCast arg22
  let c0_i32_288 : BitVec 32 := 0#32
  let c1_i32_290 : BitVec 32 := 1#32
  let arg26 : BitVec 32 := Scf.iv c0_i32_288 c1_i32_290 k1_t4
  let c16_i32_305 : BitVec 32 := 16#32
  let v513 : BitVec 32 := Scalar.muli arg26 c16_i32_305
  let v516 : Index := Scalar.indexCast v513
  ![6, v515.toNat, v516.toNat]
def k1_off22 (k1_t3 : Fin k1_t3_loop.trips) (k1_t4 : Fin k1_t4_loop.trips) : Fin 3 → Nat :=
  let c7_i32_308 : BitVec 32 := 7#32
  let v524 : Index := Scalar.indexCast c7_i32_308
  let c0_i32_59 : BitVec 32 := 0#32
  let c1_i32_61 : BitVec 32 := 1#32
  let arg22 : BitVec 32 := Scf.iv c0_i32_59 c1_i32_61 k1_t3
  let v525 : Index := Scalar.indexCast arg22
  let c0_i32_288 : BitVec 32 := 0#32
  let c1_i32_290 : BitVec 32 := 1#32
  let arg26 : BitVec 32 := Scf.iv c0_i32_288 c1_i32_290 k1_t4
  let c16_i32_307 : BitVec 32 := 16#32
  let v523 : BitVec 32 := Scalar.muli arg26 c16_i32_307
  let v526 : Index := Scalar.indexCast v523
  ![7, v525.toNat, v526.toNat]
def k1_off23 (k1_t3 : Fin k1_t3_loop.trips) (k1_t4 : Fin k1_t4_loop.trips) : Fin 3 → Nat :=
  let c8_i32_310 : BitVec 32 := 8#32
  let v534 : Index := Scalar.indexCast c8_i32_310
  let c0_i32_59 : BitVec 32 := 0#32
  let c1_i32_61 : BitVec 32 := 1#32
  let arg22 : BitVec 32 := Scf.iv c0_i32_59 c1_i32_61 k1_t3
  let v535 : Index := Scalar.indexCast arg22
  let c0_i32_288 : BitVec 32 := 0#32
  let c1_i32_290 : BitVec 32 := 1#32
  let arg26 : BitVec 32 := Scf.iv c0_i32_288 c1_i32_290 k1_t4
  let c16_i32_309 : BitVec 32 := 16#32
  let v533 : BitVec 32 := Scalar.muli arg26 c16_i32_309
  let v536 : Index := Scalar.indexCast v533
  ![8, v535.toNat, v536.toNat]
def k1_off24 (k1_t3 : Fin k1_t3_loop.trips) (k1_t4 : Fin k1_t4_loop.trips) : Fin 3 → Nat :=
  let c9_i32_312 : BitVec 32 := 9#32
  let v544 : Index := Scalar.indexCast c9_i32_312
  let c0_i32_59 : BitVec 32 := 0#32
  let c1_i32_61 : BitVec 32 := 1#32
  let arg22 : BitVec 32 := Scf.iv c0_i32_59 c1_i32_61 k1_t3
  let v545 : Index := Scalar.indexCast arg22
  let c0_i32_288 : BitVec 32 := 0#32
  let c1_i32_290 : BitVec 32 := 1#32
  let arg26 : BitVec 32 := Scf.iv c0_i32_288 c1_i32_290 k1_t4
  let c16_i32_311 : BitVec 32 := 16#32
  let v543 : BitVec 32 := Scalar.muli arg26 c16_i32_311
  let v546 : Index := Scalar.indexCast v543
  ![9, v545.toNat, v546.toNat]
@[reducible] def k1_t5_loop : Scf.Loop 32 :=
  let c0_i32_76 : BitVec 32 := 0#32
  let c8_i32_77 : BitVec 32 := 8#32
  let v117 : BitVec 32 := Scalar.addi c0_i32_76 c8_i32_77
  let c1_i32_78 : BitVec 32 := 1#32
  ⟨c0_i32_76, v117, c1_i32_78⟩
@[reducible] def k1_t6_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off25 (k1_t5 : Fin k1_t5_loop.trips) (k1_t6 : Fin k1_t6_loop.trips) : Fin 2 → Nat :=
  let c0_i32_76 : BitVec 32 := 0#32
  let c1_i32_78 : BitVec 32 := 1#32
  let arg22 : BitVec 32 := Scf.iv c0_i32_76 c1_i32_78 k1_t5
  let v449 : Index := Scalar.indexCast arg22
  let c0_i32_288 : BitVec 32 := 0#32
  let c1_i32_290 : BitVec 32 := 1#32
  let arg26 : BitVec 32 := Scf.iv c0_i32_288 c1_i32_290 k1_t6
  let c16_i32_292 : BitVec 32 := 16#32
  let v448 : BitVec 32 := Scalar.muli arg26 c16_i32_292
  let v450 : Index := Scalar.indexCast v448
  ![v449.toNat, v450.toNat]
def k1_off26 (k1_t5 : Fin k1_t5_loop.trips) (k1_t6 : Fin k1_t6_loop.trips) : Fin 3 → Nat :=
  let c0_i32_294 : BitVec 32 := 0#32
  let v454 : Index := Scalar.indexCast c0_i32_294
  let c0_i32_76 : BitVec 32 := 0#32
  let c1_i32_78 : BitVec 32 := 1#32
  let arg22 : BitVec 32 := Scf.iv c0_i32_76 c1_i32_78 k1_t5
  let v455 : Index := Scalar.indexCast arg22
  let c0_i32_288 : BitVec 32 := 0#32
  let c1_i32_290 : BitVec 32 := 1#32
  let arg26 : BitVec 32 := Scf.iv c0_i32_288 c1_i32_290 k1_t6
  let c16_i32_293 : BitVec 32 := 16#32
  let v453 : BitVec 32 := Scalar.muli arg26 c16_i32_293
  let v456 : Index := Scalar.indexCast v453
  ![0, v455.toNat, v456.toNat]
def k1_off27 (k1_t5 : Fin k1_t5_loop.trips) (k1_t6 : Fin k1_t6_loop.trips) : Fin 3 → Nat :=
  let c1_i32_296 : BitVec 32 := 1#32
  let v464 : Index := Scalar.indexCast c1_i32_296
  let c0_i32_76 : BitVec 32 := 0#32
  let c1_i32_78 : BitVec 32 := 1#32
  let arg22 : BitVec 32 := Scf.iv c0_i32_76 c1_i32_78 k1_t5
  let v465 : Index := Scalar.indexCast arg22
  let c0_i32_288 : BitVec 32 := 0#32
  let c1_i32_290 : BitVec 32 := 1#32
  let arg26 : BitVec 32 := Scf.iv c0_i32_288 c1_i32_290 k1_t6
  let c16_i32_295 : BitVec 32 := 16#32
  let v463 : BitVec 32 := Scalar.muli arg26 c16_i32_295
  let v466 : Index := Scalar.indexCast v463
  ![1, v465.toNat, v466.toNat]
def k1_off28 (k1_t5 : Fin k1_t5_loop.trips) (k1_t6 : Fin k1_t6_loop.trips) : Fin 3 → Nat :=
  let c2_i32_298 : BitVec 32 := 2#32
  let v474 : Index := Scalar.indexCast c2_i32_298
  let c0_i32_76 : BitVec 32 := 0#32
  let c1_i32_78 : BitVec 32 := 1#32
  let arg22 : BitVec 32 := Scf.iv c0_i32_76 c1_i32_78 k1_t5
  let v475 : Index := Scalar.indexCast arg22
  let c0_i32_288 : BitVec 32 := 0#32
  let c1_i32_290 : BitVec 32 := 1#32
  let arg26 : BitVec 32 := Scf.iv c0_i32_288 c1_i32_290 k1_t6
  let c16_i32_297 : BitVec 32 := 16#32
  let v473 : BitVec 32 := Scalar.muli arg26 c16_i32_297
  let v476 : Index := Scalar.indexCast v473
  ![2, v475.toNat, v476.toNat]
def k1_off29 (k1_t5 : Fin k1_t5_loop.trips) (k1_t6 : Fin k1_t6_loop.trips) : Fin 3 → Nat :=
  let c3_i32_300 : BitVec 32 := 3#32
  let v484 : Index := Scalar.indexCast c3_i32_300
  let c0_i32_76 : BitVec 32 := 0#32
  let c1_i32_78 : BitVec 32 := 1#32
  let arg22 : BitVec 32 := Scf.iv c0_i32_76 c1_i32_78 k1_t5
  let v485 : Index := Scalar.indexCast arg22
  let c0_i32_288 : BitVec 32 := 0#32
  let c1_i32_290 : BitVec 32 := 1#32
  let arg26 : BitVec 32 := Scf.iv c0_i32_288 c1_i32_290 k1_t6
  let c16_i32_299 : BitVec 32 := 16#32
  let v483 : BitVec 32 := Scalar.muli arg26 c16_i32_299
  let v486 : Index := Scalar.indexCast v483
  ![3, v485.toNat, v486.toNat]
def k1_off30 (k1_t5 : Fin k1_t5_loop.trips) (k1_t6 : Fin k1_t6_loop.trips) : Fin 3 → Nat :=
  let c4_i32_302 : BitVec 32 := 4#32
  let v494 : Index := Scalar.indexCast c4_i32_302
  let c0_i32_76 : BitVec 32 := 0#32
  let c1_i32_78 : BitVec 32 := 1#32
  let arg22 : BitVec 32 := Scf.iv c0_i32_76 c1_i32_78 k1_t5
  let v495 : Index := Scalar.indexCast arg22
  let c0_i32_288 : BitVec 32 := 0#32
  let c1_i32_290 : BitVec 32 := 1#32
  let arg26 : BitVec 32 := Scf.iv c0_i32_288 c1_i32_290 k1_t6
  let c16_i32_301 : BitVec 32 := 16#32
  let v493 : BitVec 32 := Scalar.muli arg26 c16_i32_301
  let v496 : Index := Scalar.indexCast v493
  ![4, v495.toNat, v496.toNat]
def k1_off31 (k1_t5 : Fin k1_t5_loop.trips) (k1_t6 : Fin k1_t6_loop.trips) : Fin 3 → Nat :=
  let c5_i32_304 : BitVec 32 := 5#32
  let v504 : Index := Scalar.indexCast c5_i32_304
  let c0_i32_76 : BitVec 32 := 0#32
  let c1_i32_78 : BitVec 32 := 1#32
  let arg22 : BitVec 32 := Scf.iv c0_i32_76 c1_i32_78 k1_t5
  let v505 : Index := Scalar.indexCast arg22
  let c0_i32_288 : BitVec 32 := 0#32
  let c1_i32_290 : BitVec 32 := 1#32
  let arg26 : BitVec 32 := Scf.iv c0_i32_288 c1_i32_290 k1_t6
  let c16_i32_303 : BitVec 32 := 16#32
  let v503 : BitVec 32 := Scalar.muli arg26 c16_i32_303
  let v506 : Index := Scalar.indexCast v503
  ![5, v505.toNat, v506.toNat]
def k1_off32 (k1_t5 : Fin k1_t5_loop.trips) (k1_t6 : Fin k1_t6_loop.trips) : Fin 3 → Nat :=
  let c6_i32_306 : BitVec 32 := 6#32
  let v514 : Index := Scalar.indexCast c6_i32_306
  let c0_i32_76 : BitVec 32 := 0#32
  let c1_i32_78 : BitVec 32 := 1#32
  let arg22 : BitVec 32 := Scf.iv c0_i32_76 c1_i32_78 k1_t5
  let v515 : Index := Scalar.indexCast arg22
  let c0_i32_288 : BitVec 32 := 0#32
  let c1_i32_290 : BitVec 32 := 1#32
  let arg26 : BitVec 32 := Scf.iv c0_i32_288 c1_i32_290 k1_t6
  let c16_i32_305 : BitVec 32 := 16#32
  let v513 : BitVec 32 := Scalar.muli arg26 c16_i32_305
  let v516 : Index := Scalar.indexCast v513
  ![6, v515.toNat, v516.toNat]
def k1_off33 (k1_t5 : Fin k1_t5_loop.trips) (k1_t6 : Fin k1_t6_loop.trips) : Fin 3 → Nat :=
  let c7_i32_308 : BitVec 32 := 7#32
  let v524 : Index := Scalar.indexCast c7_i32_308
  let c0_i32_76 : BitVec 32 := 0#32
  let c1_i32_78 : BitVec 32 := 1#32
  let arg22 : BitVec 32 := Scf.iv c0_i32_76 c1_i32_78 k1_t5
  let v525 : Index := Scalar.indexCast arg22
  let c0_i32_288 : BitVec 32 := 0#32
  let c1_i32_290 : BitVec 32 := 1#32
  let arg26 : BitVec 32 := Scf.iv c0_i32_288 c1_i32_290 k1_t6
  let c16_i32_307 : BitVec 32 := 16#32
  let v523 : BitVec 32 := Scalar.muli arg26 c16_i32_307
  let v526 : Index := Scalar.indexCast v523
  ![7, v525.toNat, v526.toNat]
def k1_off34 (k1_t5 : Fin k1_t5_loop.trips) (k1_t6 : Fin k1_t6_loop.trips) : Fin 3 → Nat :=
  let c8_i32_310 : BitVec 32 := 8#32
  let v534 : Index := Scalar.indexCast c8_i32_310
  let c0_i32_76 : BitVec 32 := 0#32
  let c1_i32_78 : BitVec 32 := 1#32
  let arg22 : BitVec 32 := Scf.iv c0_i32_76 c1_i32_78 k1_t5
  let v535 : Index := Scalar.indexCast arg22
  let c0_i32_288 : BitVec 32 := 0#32
  let c1_i32_290 : BitVec 32 := 1#32
  let arg26 : BitVec 32 := Scf.iv c0_i32_288 c1_i32_290 k1_t6
  let c16_i32_309 : BitVec 32 := 16#32
  let v533 : BitVec 32 := Scalar.muli arg26 c16_i32_309
  let v536 : Index := Scalar.indexCast v533
  ![8, v535.toNat, v536.toNat]
def k1_off35 (k1_t5 : Fin k1_t5_loop.trips) (k1_t6 : Fin k1_t6_loop.trips) : Fin 3 → Nat :=
  let c9_i32_312 : BitVec 32 := 9#32
  let v544 : Index := Scalar.indexCast c9_i32_312
  let c0_i32_76 : BitVec 32 := 0#32
  let c1_i32_78 : BitVec 32 := 1#32
  let arg22 : BitVec 32 := Scf.iv c0_i32_76 c1_i32_78 k1_t5
  let v545 : Index := Scalar.indexCast arg22
  let c0_i32_288 : BitVec 32 := 0#32
  let c1_i32_290 : BitVec 32 := 1#32
  let arg26 : BitVec 32 := Scf.iv c0_i32_288 c1_i32_290 k1_t6
  let c16_i32_311 : BitVec 32 := 16#32
  let v543 : BitVec 32 := Scalar.muli arg26 c16_i32_311
  let v546 : Index := Scalar.indexCast v543
  ![9, v545.toNat, v546.toNat]
@[reducible] def k1_t7_loop : Scf.Loop 32 :=
  let c0_i32_93 : BitVec 32 := 0#32
  let c8_i32_94 : BitVec 32 := 8#32
  let v137 : BitVec 32 := Scalar.addi c0_i32_93 c8_i32_94
  let c1_i32_95 : BitVec 32 := 1#32
  ⟨c0_i32_93, v137, c1_i32_95⟩
@[reducible] def k1_t8_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off36 (k1_t7 : Fin k1_t7_loop.trips) (k1_t8 : Fin k1_t8_loop.trips) : Fin 2 → Nat :=
  let c0_i32_93 : BitVec 32 := 0#32
  let c1_i32_95 : BitVec 32 := 1#32
  let arg22 : BitVec 32 := Scf.iv c0_i32_93 c1_i32_95 k1_t7
  let v449 : Index := Scalar.indexCast arg22
  let c0_i32_288 : BitVec 32 := 0#32
  let c1_i32_290 : BitVec 32 := 1#32
  let arg26 : BitVec 32 := Scf.iv c0_i32_288 c1_i32_290 k1_t8
  let c16_i32_292 : BitVec 32 := 16#32
  let v448 : BitVec 32 := Scalar.muli arg26 c16_i32_292
  let v450 : Index := Scalar.indexCast v448
  ![v449.toNat, v450.toNat]
def k1_off37 (k1_t7 : Fin k1_t7_loop.trips) (k1_t8 : Fin k1_t8_loop.trips) : Fin 3 → Nat :=
  let c0_i32_294 : BitVec 32 := 0#32
  let v454 : Index := Scalar.indexCast c0_i32_294
  let c0_i32_93 : BitVec 32 := 0#32
  let c1_i32_95 : BitVec 32 := 1#32
  let arg22 : BitVec 32 := Scf.iv c0_i32_93 c1_i32_95 k1_t7
  let v455 : Index := Scalar.indexCast arg22
  let c0_i32_288 : BitVec 32 := 0#32
  let c1_i32_290 : BitVec 32 := 1#32
  let arg26 : BitVec 32 := Scf.iv c0_i32_288 c1_i32_290 k1_t8
  let c16_i32_293 : BitVec 32 := 16#32
  let v453 : BitVec 32 := Scalar.muli arg26 c16_i32_293
  let v456 : Index := Scalar.indexCast v453
  ![0, v455.toNat, v456.toNat]
def k1_off38 (k1_t7 : Fin k1_t7_loop.trips) (k1_t8 : Fin k1_t8_loop.trips) : Fin 3 → Nat :=
  let c1_i32_296 : BitVec 32 := 1#32
  let v464 : Index := Scalar.indexCast c1_i32_296
  let c0_i32_93 : BitVec 32 := 0#32
  let c1_i32_95 : BitVec 32 := 1#32
  let arg22 : BitVec 32 := Scf.iv c0_i32_93 c1_i32_95 k1_t7
  let v465 : Index := Scalar.indexCast arg22
  let c0_i32_288 : BitVec 32 := 0#32
  let c1_i32_290 : BitVec 32 := 1#32
  let arg26 : BitVec 32 := Scf.iv c0_i32_288 c1_i32_290 k1_t8
  let c16_i32_295 : BitVec 32 := 16#32
  let v463 : BitVec 32 := Scalar.muli arg26 c16_i32_295
  let v466 : Index := Scalar.indexCast v463
  ![1, v465.toNat, v466.toNat]
def k1_off39 (k1_t7 : Fin k1_t7_loop.trips) (k1_t8 : Fin k1_t8_loop.trips) : Fin 3 → Nat :=
  let c2_i32_298 : BitVec 32 := 2#32
  let v474 : Index := Scalar.indexCast c2_i32_298
  let c0_i32_93 : BitVec 32 := 0#32
  let c1_i32_95 : BitVec 32 := 1#32
  let arg22 : BitVec 32 := Scf.iv c0_i32_93 c1_i32_95 k1_t7
  let v475 : Index := Scalar.indexCast arg22
  let c0_i32_288 : BitVec 32 := 0#32
  let c1_i32_290 : BitVec 32 := 1#32
  let arg26 : BitVec 32 := Scf.iv c0_i32_288 c1_i32_290 k1_t8
  let c16_i32_297 : BitVec 32 := 16#32
  let v473 : BitVec 32 := Scalar.muli arg26 c16_i32_297
  let v476 : Index := Scalar.indexCast v473
  ![2, v475.toNat, v476.toNat]
def k1_off40 (k1_t7 : Fin k1_t7_loop.trips) (k1_t8 : Fin k1_t8_loop.trips) : Fin 3 → Nat :=
  let c3_i32_300 : BitVec 32 := 3#32
  let v484 : Index := Scalar.indexCast c3_i32_300
  let c0_i32_93 : BitVec 32 := 0#32
  let c1_i32_95 : BitVec 32 := 1#32
  let arg22 : BitVec 32 := Scf.iv c0_i32_93 c1_i32_95 k1_t7
  let v485 : Index := Scalar.indexCast arg22
  let c0_i32_288 : BitVec 32 := 0#32
  let c1_i32_290 : BitVec 32 := 1#32
  let arg26 : BitVec 32 := Scf.iv c0_i32_288 c1_i32_290 k1_t8
  let c16_i32_299 : BitVec 32 := 16#32
  let v483 : BitVec 32 := Scalar.muli arg26 c16_i32_299
  let v486 : Index := Scalar.indexCast v483
  ![3, v485.toNat, v486.toNat]
def k1_off41 (k1_t7 : Fin k1_t7_loop.trips) (k1_t8 : Fin k1_t8_loop.trips) : Fin 3 → Nat :=
  let c4_i32_302 : BitVec 32 := 4#32
  let v494 : Index := Scalar.indexCast c4_i32_302
  let c0_i32_93 : BitVec 32 := 0#32
  let c1_i32_95 : BitVec 32 := 1#32
  let arg22 : BitVec 32 := Scf.iv c0_i32_93 c1_i32_95 k1_t7
  let v495 : Index := Scalar.indexCast arg22
  let c0_i32_288 : BitVec 32 := 0#32
  let c1_i32_290 : BitVec 32 := 1#32
  let arg26 : BitVec 32 := Scf.iv c0_i32_288 c1_i32_290 k1_t8
  let c16_i32_301 : BitVec 32 := 16#32
  let v493 : BitVec 32 := Scalar.muli arg26 c16_i32_301
  let v496 : Index := Scalar.indexCast v493
  ![4, v495.toNat, v496.toNat]
def k1_off42 (k1_t7 : Fin k1_t7_loop.trips) (k1_t8 : Fin k1_t8_loop.trips) : Fin 3 → Nat :=
  let c5_i32_304 : BitVec 32 := 5#32
  let v504 : Index := Scalar.indexCast c5_i32_304
  let c0_i32_93 : BitVec 32 := 0#32
  let c1_i32_95 : BitVec 32 := 1#32
  let arg22 : BitVec 32 := Scf.iv c0_i32_93 c1_i32_95 k1_t7
  let v505 : Index := Scalar.indexCast arg22
  let c0_i32_288 : BitVec 32 := 0#32
  let c1_i32_290 : BitVec 32 := 1#32
  let arg26 : BitVec 32 := Scf.iv c0_i32_288 c1_i32_290 k1_t8
  let c16_i32_303 : BitVec 32 := 16#32
  let v503 : BitVec 32 := Scalar.muli arg26 c16_i32_303
  let v506 : Index := Scalar.indexCast v503
  ![5, v505.toNat, v506.toNat]
def k1_off43 (k1_t7 : Fin k1_t7_loop.trips) (k1_t8 : Fin k1_t8_loop.trips) : Fin 3 → Nat :=
  let c6_i32_306 : BitVec 32 := 6#32
  let v514 : Index := Scalar.indexCast c6_i32_306
  let c0_i32_93 : BitVec 32 := 0#32
  let c1_i32_95 : BitVec 32 := 1#32
  let arg22 : BitVec 32 := Scf.iv c0_i32_93 c1_i32_95 k1_t7
  let v515 : Index := Scalar.indexCast arg22
  let c0_i32_288 : BitVec 32 := 0#32
  let c1_i32_290 : BitVec 32 := 1#32
  let arg26 : BitVec 32 := Scf.iv c0_i32_288 c1_i32_290 k1_t8
  let c16_i32_305 : BitVec 32 := 16#32
  let v513 : BitVec 32 := Scalar.muli arg26 c16_i32_305
  let v516 : Index := Scalar.indexCast v513
  ![6, v515.toNat, v516.toNat]
def k1_off44 (k1_t7 : Fin k1_t7_loop.trips) (k1_t8 : Fin k1_t8_loop.trips) : Fin 3 → Nat :=
  let c7_i32_308 : BitVec 32 := 7#32
  let v524 : Index := Scalar.indexCast c7_i32_308
  let c0_i32_93 : BitVec 32 := 0#32
  let c1_i32_95 : BitVec 32 := 1#32
  let arg22 : BitVec 32 := Scf.iv c0_i32_93 c1_i32_95 k1_t7
  let v525 : Index := Scalar.indexCast arg22
  let c0_i32_288 : BitVec 32 := 0#32
  let c1_i32_290 : BitVec 32 := 1#32
  let arg26 : BitVec 32 := Scf.iv c0_i32_288 c1_i32_290 k1_t8
  let c16_i32_307 : BitVec 32 := 16#32
  let v523 : BitVec 32 := Scalar.muli arg26 c16_i32_307
  let v526 : Index := Scalar.indexCast v523
  ![7, v525.toNat, v526.toNat]
def k1_off45 (k1_t7 : Fin k1_t7_loop.trips) (k1_t8 : Fin k1_t8_loop.trips) : Fin 3 → Nat :=
  let c8_i32_310 : BitVec 32 := 8#32
  let v534 : Index := Scalar.indexCast c8_i32_310
  let c0_i32_93 : BitVec 32 := 0#32
  let c1_i32_95 : BitVec 32 := 1#32
  let arg22 : BitVec 32 := Scf.iv c0_i32_93 c1_i32_95 k1_t7
  let v535 : Index := Scalar.indexCast arg22
  let c0_i32_288 : BitVec 32 := 0#32
  let c1_i32_290 : BitVec 32 := 1#32
  let arg26 : BitVec 32 := Scf.iv c0_i32_288 c1_i32_290 k1_t8
  let c16_i32_309 : BitVec 32 := 16#32
  let v533 : BitVec 32 := Scalar.muli arg26 c16_i32_309
  let v536 : Index := Scalar.indexCast v533
  ![8, v535.toNat, v536.toNat]
def k1_off46 (k1_t7 : Fin k1_t7_loop.trips) (k1_t8 : Fin k1_t8_loop.trips) : Fin 3 → Nat :=
  let c9_i32_312 : BitVec 32 := 9#32
  let v544 : Index := Scalar.indexCast c9_i32_312
  let c0_i32_93 : BitVec 32 := 0#32
  let c1_i32_95 : BitVec 32 := 1#32
  let arg22 : BitVec 32 := Scf.iv c0_i32_93 c1_i32_95 k1_t7
  let v545 : Index := Scalar.indexCast arg22
  let c0_i32_288 : BitVec 32 := 0#32
  let c1_i32_290 : BitVec 32 := 1#32
  let arg26 : BitVec 32 := Scf.iv c0_i32_288 c1_i32_290 k1_t8
  let c16_i32_311 : BitVec 32 := 16#32
  let v543 : BitVec 32 := Scalar.muli arg26 c16_i32_311
  let v546 : Index := Scalar.indexCast v543
  ![9, v545.toNat, v546.toNat]
@[reducible] def k1_t9_loop : Scf.Loop 32 :=
  let c0_i32_110 : BitVec 32 := 0#32
  let c8_i32_111 : BitVec 32 := 8#32
  let v157 : BitVec 32 := Scalar.addi c0_i32_110 c8_i32_111
  let c1_i32_112 : BitVec 32 := 1#32
  ⟨c0_i32_110, v157, c1_i32_112⟩
@[reducible] def k1_t10_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off47 (k1_t9 : Fin k1_t9_loop.trips) (k1_t10 : Fin k1_t10_loop.trips) : Fin 2 → Nat :=
  let c0_i32_110 : BitVec 32 := 0#32
  let c1_i32_112 : BitVec 32 := 1#32
  let arg22 : BitVec 32 := Scf.iv c0_i32_110 c1_i32_112 k1_t9
  let v449 : Index := Scalar.indexCast arg22
  let c0_i32_288 : BitVec 32 := 0#32
  let c1_i32_290 : BitVec 32 := 1#32
  let arg26 : BitVec 32 := Scf.iv c0_i32_288 c1_i32_290 k1_t10
  let c16_i32_292 : BitVec 32 := 16#32
  let v448 : BitVec 32 := Scalar.muli arg26 c16_i32_292
  let v450 : Index := Scalar.indexCast v448
  ![v449.toNat, v450.toNat]
def k1_off48 (k1_t9 : Fin k1_t9_loop.trips) (k1_t10 : Fin k1_t10_loop.trips) : Fin 3 → Nat :=
  let c0_i32_294 : BitVec 32 := 0#32
  let v454 : Index := Scalar.indexCast c0_i32_294
  let c0_i32_110 : BitVec 32 := 0#32
  let c1_i32_112 : BitVec 32 := 1#32
  let arg22 : BitVec 32 := Scf.iv c0_i32_110 c1_i32_112 k1_t9
  let v455 : Index := Scalar.indexCast arg22
  let c0_i32_288 : BitVec 32 := 0#32
  let c1_i32_290 : BitVec 32 := 1#32
  let arg26 : BitVec 32 := Scf.iv c0_i32_288 c1_i32_290 k1_t10
  let c16_i32_293 : BitVec 32 := 16#32
  let v453 : BitVec 32 := Scalar.muli arg26 c16_i32_293
  let v456 : Index := Scalar.indexCast v453
  ![0, v455.toNat, v456.toNat]
def k1_off49 (k1_t9 : Fin k1_t9_loop.trips) (k1_t10 : Fin k1_t10_loop.trips) : Fin 3 → Nat :=
  let c1_i32_296 : BitVec 32 := 1#32
  let v464 : Index := Scalar.indexCast c1_i32_296
  let c0_i32_110 : BitVec 32 := 0#32
  let c1_i32_112 : BitVec 32 := 1#32
  let arg22 : BitVec 32 := Scf.iv c0_i32_110 c1_i32_112 k1_t9
  let v465 : Index := Scalar.indexCast arg22
  let c0_i32_288 : BitVec 32 := 0#32
  let c1_i32_290 : BitVec 32 := 1#32
  let arg26 : BitVec 32 := Scf.iv c0_i32_288 c1_i32_290 k1_t10
  let c16_i32_295 : BitVec 32 := 16#32
  let v463 : BitVec 32 := Scalar.muli arg26 c16_i32_295
  let v466 : Index := Scalar.indexCast v463
  ![1, v465.toNat, v466.toNat]
def k1_off50 (k1_t9 : Fin k1_t9_loop.trips) (k1_t10 : Fin k1_t10_loop.trips) : Fin 3 → Nat :=
  let c2_i32_298 : BitVec 32 := 2#32
  let v474 : Index := Scalar.indexCast c2_i32_298
  let c0_i32_110 : BitVec 32 := 0#32
  let c1_i32_112 : BitVec 32 := 1#32
  let arg22 : BitVec 32 := Scf.iv c0_i32_110 c1_i32_112 k1_t9
  let v475 : Index := Scalar.indexCast arg22
  let c0_i32_288 : BitVec 32 := 0#32
  let c1_i32_290 : BitVec 32 := 1#32
  let arg26 : BitVec 32 := Scf.iv c0_i32_288 c1_i32_290 k1_t10
  let c16_i32_297 : BitVec 32 := 16#32
  let v473 : BitVec 32 := Scalar.muli arg26 c16_i32_297
  let v476 : Index := Scalar.indexCast v473
  ![2, v475.toNat, v476.toNat]
def k1_off51 (k1_t9 : Fin k1_t9_loop.trips) (k1_t10 : Fin k1_t10_loop.trips) : Fin 3 → Nat :=
  let c3_i32_300 : BitVec 32 := 3#32
  let v484 : Index := Scalar.indexCast c3_i32_300
  let c0_i32_110 : BitVec 32 := 0#32
  let c1_i32_112 : BitVec 32 := 1#32
  let arg22 : BitVec 32 := Scf.iv c0_i32_110 c1_i32_112 k1_t9
  let v485 : Index := Scalar.indexCast arg22
  let c0_i32_288 : BitVec 32 := 0#32
  let c1_i32_290 : BitVec 32 := 1#32
  let arg26 : BitVec 32 := Scf.iv c0_i32_288 c1_i32_290 k1_t10
  let c16_i32_299 : BitVec 32 := 16#32
  let v483 : BitVec 32 := Scalar.muli arg26 c16_i32_299
  let v486 : Index := Scalar.indexCast v483
  ![3, v485.toNat, v486.toNat]
def k1_off52 (k1_t9 : Fin k1_t9_loop.trips) (k1_t10 : Fin k1_t10_loop.trips) : Fin 3 → Nat :=
  let c4_i32_302 : BitVec 32 := 4#32
  let v494 : Index := Scalar.indexCast c4_i32_302
  let c0_i32_110 : BitVec 32 := 0#32
  let c1_i32_112 : BitVec 32 := 1#32
  let arg22 : BitVec 32 := Scf.iv c0_i32_110 c1_i32_112 k1_t9
  let v495 : Index := Scalar.indexCast arg22
  let c0_i32_288 : BitVec 32 := 0#32
  let c1_i32_290 : BitVec 32 := 1#32
  let arg26 : BitVec 32 := Scf.iv c0_i32_288 c1_i32_290 k1_t10
  let c16_i32_301 : BitVec 32 := 16#32
  let v493 : BitVec 32 := Scalar.muli arg26 c16_i32_301
  let v496 : Index := Scalar.indexCast v493
  ![4, v495.toNat, v496.toNat]
def k1_off53 (k1_t9 : Fin k1_t9_loop.trips) (k1_t10 : Fin k1_t10_loop.trips) : Fin 3 → Nat :=
  let c5_i32_304 : BitVec 32 := 5#32
  let v504 : Index := Scalar.indexCast c5_i32_304
  let c0_i32_110 : BitVec 32 := 0#32
  let c1_i32_112 : BitVec 32 := 1#32
  let arg22 : BitVec 32 := Scf.iv c0_i32_110 c1_i32_112 k1_t9
  let v505 : Index := Scalar.indexCast arg22
  let c0_i32_288 : BitVec 32 := 0#32
  let c1_i32_290 : BitVec 32 := 1#32
  let arg26 : BitVec 32 := Scf.iv c0_i32_288 c1_i32_290 k1_t10
  let c16_i32_303 : BitVec 32 := 16#32
  let v503 : BitVec 32 := Scalar.muli arg26 c16_i32_303
  let v506 : Index := Scalar.indexCast v503
  ![5, v505.toNat, v506.toNat]
def k1_off54 (k1_t9 : Fin k1_t9_loop.trips) (k1_t10 : Fin k1_t10_loop.trips) : Fin 3 → Nat :=
  let c6_i32_306 : BitVec 32 := 6#32
  let v514 : Index := Scalar.indexCast c6_i32_306
  let c0_i32_110 : BitVec 32 := 0#32
  let c1_i32_112 : BitVec 32 := 1#32
  let arg22 : BitVec 32 := Scf.iv c0_i32_110 c1_i32_112 k1_t9
  let v515 : Index := Scalar.indexCast arg22
  let c0_i32_288 : BitVec 32 := 0#32
  let c1_i32_290 : BitVec 32 := 1#32
  let arg26 : BitVec 32 := Scf.iv c0_i32_288 c1_i32_290 k1_t10
  let c16_i32_305 : BitVec 32 := 16#32
  let v513 : BitVec 32 := Scalar.muli arg26 c16_i32_305
  let v516 : Index := Scalar.indexCast v513
  ![6, v515.toNat, v516.toNat]
def k1_off55 (k1_t9 : Fin k1_t9_loop.trips) (k1_t10 : Fin k1_t10_loop.trips) : Fin 3 → Nat :=
  let c7_i32_308 : BitVec 32 := 7#32
  let v524 : Index := Scalar.indexCast c7_i32_308
  let c0_i32_110 : BitVec 32 := 0#32
  let c1_i32_112 : BitVec 32 := 1#32
  let arg22 : BitVec 32 := Scf.iv c0_i32_110 c1_i32_112 k1_t9
  let v525 : Index := Scalar.indexCast arg22
  let c0_i32_288 : BitVec 32 := 0#32
  let c1_i32_290 : BitVec 32 := 1#32
  let arg26 : BitVec 32 := Scf.iv c0_i32_288 c1_i32_290 k1_t10
  let c16_i32_307 : BitVec 32 := 16#32
  let v523 : BitVec 32 := Scalar.muli arg26 c16_i32_307
  let v526 : Index := Scalar.indexCast v523
  ![7, v525.toNat, v526.toNat]
def k1_off56 (k1_t9 : Fin k1_t9_loop.trips) (k1_t10 : Fin k1_t10_loop.trips) : Fin 3 → Nat :=
  let c8_i32_310 : BitVec 32 := 8#32
  let v534 : Index := Scalar.indexCast c8_i32_310
  let c0_i32_110 : BitVec 32 := 0#32
  let c1_i32_112 : BitVec 32 := 1#32
  let arg22 : BitVec 32 := Scf.iv c0_i32_110 c1_i32_112 k1_t9
  let v535 : Index := Scalar.indexCast arg22
  let c0_i32_288 : BitVec 32 := 0#32
  let c1_i32_290 : BitVec 32 := 1#32
  let arg26 : BitVec 32 := Scf.iv c0_i32_288 c1_i32_290 k1_t10
  let c16_i32_309 : BitVec 32 := 16#32
  let v533 : BitVec 32 := Scalar.muli arg26 c16_i32_309
  let v536 : Index := Scalar.indexCast v533
  ![8, v535.toNat, v536.toNat]
def k1_off57 (k1_t9 : Fin k1_t9_loop.trips) (k1_t10 : Fin k1_t10_loop.trips) : Fin 3 → Nat :=
  let c9_i32_312 : BitVec 32 := 9#32
  let v544 : Index := Scalar.indexCast c9_i32_312
  let c0_i32_110 : BitVec 32 := 0#32
  let c1_i32_112 : BitVec 32 := 1#32
  let arg22 : BitVec 32 := Scf.iv c0_i32_110 c1_i32_112 k1_t9
  let v545 : Index := Scalar.indexCast arg22
  let c0_i32_288 : BitVec 32 := 0#32
  let c1_i32_290 : BitVec 32 := 1#32
  let arg26 : BitVec 32 := Scf.iv c0_i32_288 c1_i32_290 k1_t10
  let c16_i32_311 : BitVec 32 := 16#32
  let v543 : BitVec 32 := Scalar.muli arg26 c16_i32_311
  let v546 : Index := Scalar.indexCast v543
  ![9, v545.toNat, v546.toNat]
@[reducible] def k1_t11_loop : Scf.Loop 32 :=
  let c0_i32_127 : BitVec 32 := 0#32
  let c8_i32_128 : BitVec 32 := 8#32
  let v177 : BitVec 32 := Scalar.addi c0_i32_127 c8_i32_128
  let c1_i32_129 : BitVec 32 := 1#32
  ⟨c0_i32_127, v177, c1_i32_129⟩
@[reducible] def k1_t12_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off58 (k1_t11 : Fin k1_t11_loop.trips) (k1_t12 : Fin k1_t12_loop.trips) : Fin 2 → Nat :=
  let c0_i32_127 : BitVec 32 := 0#32
  let c1_i32_129 : BitVec 32 := 1#32
  let arg22 : BitVec 32 := Scf.iv c0_i32_127 c1_i32_129 k1_t11
  let v449 : Index := Scalar.indexCast arg22
  let c0_i32_288 : BitVec 32 := 0#32
  let c1_i32_290 : BitVec 32 := 1#32
  let arg26 : BitVec 32 := Scf.iv c0_i32_288 c1_i32_290 k1_t12
  let c16_i32_292 : BitVec 32 := 16#32
  let v448 : BitVec 32 := Scalar.muli arg26 c16_i32_292
  let v450 : Index := Scalar.indexCast v448
  ![v449.toNat, v450.toNat]
def k1_off59 (k1_t11 : Fin k1_t11_loop.trips) (k1_t12 : Fin k1_t12_loop.trips) : Fin 3 → Nat :=
  let c0_i32_294 : BitVec 32 := 0#32
  let v454 : Index := Scalar.indexCast c0_i32_294
  let c0_i32_127 : BitVec 32 := 0#32
  let c1_i32_129 : BitVec 32 := 1#32
  let arg22 : BitVec 32 := Scf.iv c0_i32_127 c1_i32_129 k1_t11
  let v455 : Index := Scalar.indexCast arg22
  let c0_i32_288 : BitVec 32 := 0#32
  let c1_i32_290 : BitVec 32 := 1#32
  let arg26 : BitVec 32 := Scf.iv c0_i32_288 c1_i32_290 k1_t12
  let c16_i32_293 : BitVec 32 := 16#32
  let v453 : BitVec 32 := Scalar.muli arg26 c16_i32_293
  let v456 : Index := Scalar.indexCast v453
  ![0, v455.toNat, v456.toNat]
def k1_off60 (k1_t11 : Fin k1_t11_loop.trips) (k1_t12 : Fin k1_t12_loop.trips) : Fin 3 → Nat :=
  let c1_i32_296 : BitVec 32 := 1#32
  let v464 : Index := Scalar.indexCast c1_i32_296
  let c0_i32_127 : BitVec 32 := 0#32
  let c1_i32_129 : BitVec 32 := 1#32
  let arg22 : BitVec 32 := Scf.iv c0_i32_127 c1_i32_129 k1_t11
  let v465 : Index := Scalar.indexCast arg22
  let c0_i32_288 : BitVec 32 := 0#32
  let c1_i32_290 : BitVec 32 := 1#32
  let arg26 : BitVec 32 := Scf.iv c0_i32_288 c1_i32_290 k1_t12
  let c16_i32_295 : BitVec 32 := 16#32
  let v463 : BitVec 32 := Scalar.muli arg26 c16_i32_295
  let v466 : Index := Scalar.indexCast v463
  ![1, v465.toNat, v466.toNat]
def k1_off61 (k1_t11 : Fin k1_t11_loop.trips) (k1_t12 : Fin k1_t12_loop.trips) : Fin 3 → Nat :=
  let c2_i32_298 : BitVec 32 := 2#32
  let v474 : Index := Scalar.indexCast c2_i32_298
  let c0_i32_127 : BitVec 32 := 0#32
  let c1_i32_129 : BitVec 32 := 1#32
  let arg22 : BitVec 32 := Scf.iv c0_i32_127 c1_i32_129 k1_t11
  let v475 : Index := Scalar.indexCast arg22
  let c0_i32_288 : BitVec 32 := 0#32
  let c1_i32_290 : BitVec 32 := 1#32
  let arg26 : BitVec 32 := Scf.iv c0_i32_288 c1_i32_290 k1_t12
  let c16_i32_297 : BitVec 32 := 16#32
  let v473 : BitVec 32 := Scalar.muli arg26 c16_i32_297
  let v476 : Index := Scalar.indexCast v473
  ![2, v475.toNat, v476.toNat]
def k1_off62 (k1_t11 : Fin k1_t11_loop.trips) (k1_t12 : Fin k1_t12_loop.trips) : Fin 3 → Nat :=
  let c3_i32_300 : BitVec 32 := 3#32
  let v484 : Index := Scalar.indexCast c3_i32_300
  let c0_i32_127 : BitVec 32 := 0#32
  let c1_i32_129 : BitVec 32 := 1#32
  let arg22 : BitVec 32 := Scf.iv c0_i32_127 c1_i32_129 k1_t11
  let v485 : Index := Scalar.indexCast arg22
  let c0_i32_288 : BitVec 32 := 0#32
  let c1_i32_290 : BitVec 32 := 1#32
  let arg26 : BitVec 32 := Scf.iv c0_i32_288 c1_i32_290 k1_t12
  let c16_i32_299 : BitVec 32 := 16#32
  let v483 : BitVec 32 := Scalar.muli arg26 c16_i32_299
  let v486 : Index := Scalar.indexCast v483
  ![3, v485.toNat, v486.toNat]
def k1_off63 (k1_t11 : Fin k1_t11_loop.trips) (k1_t12 : Fin k1_t12_loop.trips) : Fin 3 → Nat :=
  let c4_i32_302 : BitVec 32 := 4#32
  let v494 : Index := Scalar.indexCast c4_i32_302
  let c0_i32_127 : BitVec 32 := 0#32
  let c1_i32_129 : BitVec 32 := 1#32
  let arg22 : BitVec 32 := Scf.iv c0_i32_127 c1_i32_129 k1_t11
  let v495 : Index := Scalar.indexCast arg22
  let c0_i32_288 : BitVec 32 := 0#32
  let c1_i32_290 : BitVec 32 := 1#32
  let arg26 : BitVec 32 := Scf.iv c0_i32_288 c1_i32_290 k1_t12
  let c16_i32_301 : BitVec 32 := 16#32
  let v493 : BitVec 32 := Scalar.muli arg26 c16_i32_301
  let v496 : Index := Scalar.indexCast v493
  ![4, v495.toNat, v496.toNat]
def k1_off64 (k1_t11 : Fin k1_t11_loop.trips) (k1_t12 : Fin k1_t12_loop.trips) : Fin 3 → Nat :=
  let c5_i32_304 : BitVec 32 := 5#32
  let v504 : Index := Scalar.indexCast c5_i32_304
  let c0_i32_127 : BitVec 32 := 0#32
  let c1_i32_129 : BitVec 32 := 1#32
  let arg22 : BitVec 32 := Scf.iv c0_i32_127 c1_i32_129 k1_t11
  let v505 : Index := Scalar.indexCast arg22
  let c0_i32_288 : BitVec 32 := 0#32
  let c1_i32_290 : BitVec 32 := 1#32
  let arg26 : BitVec 32 := Scf.iv c0_i32_288 c1_i32_290 k1_t12
  let c16_i32_303 : BitVec 32 := 16#32
  let v503 : BitVec 32 := Scalar.muli arg26 c16_i32_303
  let v506 : Index := Scalar.indexCast v503
  ![5, v505.toNat, v506.toNat]
def k1_off65 (k1_t11 : Fin k1_t11_loop.trips) (k1_t12 : Fin k1_t12_loop.trips) : Fin 3 → Nat :=
  let c6_i32_306 : BitVec 32 := 6#32
  let v514 : Index := Scalar.indexCast c6_i32_306
  let c0_i32_127 : BitVec 32 := 0#32
  let c1_i32_129 : BitVec 32 := 1#32
  let arg22 : BitVec 32 := Scf.iv c0_i32_127 c1_i32_129 k1_t11
  let v515 : Index := Scalar.indexCast arg22
  let c0_i32_288 : BitVec 32 := 0#32
  let c1_i32_290 : BitVec 32 := 1#32
  let arg26 : BitVec 32 := Scf.iv c0_i32_288 c1_i32_290 k1_t12
  let c16_i32_305 : BitVec 32 := 16#32
  let v513 : BitVec 32 := Scalar.muli arg26 c16_i32_305
  let v516 : Index := Scalar.indexCast v513
  ![6, v515.toNat, v516.toNat]
def k1_off66 (k1_t11 : Fin k1_t11_loop.trips) (k1_t12 : Fin k1_t12_loop.trips) : Fin 3 → Nat :=
  let c7_i32_308 : BitVec 32 := 7#32
  let v524 : Index := Scalar.indexCast c7_i32_308
  let c0_i32_127 : BitVec 32 := 0#32
  let c1_i32_129 : BitVec 32 := 1#32
  let arg22 : BitVec 32 := Scf.iv c0_i32_127 c1_i32_129 k1_t11
  let v525 : Index := Scalar.indexCast arg22
  let c0_i32_288 : BitVec 32 := 0#32
  let c1_i32_290 : BitVec 32 := 1#32
  let arg26 : BitVec 32 := Scf.iv c0_i32_288 c1_i32_290 k1_t12
  let c16_i32_307 : BitVec 32 := 16#32
  let v523 : BitVec 32 := Scalar.muli arg26 c16_i32_307
  let v526 : Index := Scalar.indexCast v523
  ![7, v525.toNat, v526.toNat]
def k1_off67 (k1_t11 : Fin k1_t11_loop.trips) (k1_t12 : Fin k1_t12_loop.trips) : Fin 3 → Nat :=
  let c8_i32_310 : BitVec 32 := 8#32
  let v534 : Index := Scalar.indexCast c8_i32_310
  let c0_i32_127 : BitVec 32 := 0#32
  let c1_i32_129 : BitVec 32 := 1#32
  let arg22 : BitVec 32 := Scf.iv c0_i32_127 c1_i32_129 k1_t11
  let v535 : Index := Scalar.indexCast arg22
  let c0_i32_288 : BitVec 32 := 0#32
  let c1_i32_290 : BitVec 32 := 1#32
  let arg26 : BitVec 32 := Scf.iv c0_i32_288 c1_i32_290 k1_t12
  let c16_i32_309 : BitVec 32 := 16#32
  let v533 : BitVec 32 := Scalar.muli arg26 c16_i32_309
  let v536 : Index := Scalar.indexCast v533
  ![8, v535.toNat, v536.toNat]
def k1_off68 (k1_t11 : Fin k1_t11_loop.trips) (k1_t12 : Fin k1_t12_loop.trips) : Fin 3 → Nat :=
  let c9_i32_312 : BitVec 32 := 9#32
  let v544 : Index := Scalar.indexCast c9_i32_312
  let c0_i32_127 : BitVec 32 := 0#32
  let c1_i32_129 : BitVec 32 := 1#32
  let arg22 : BitVec 32 := Scf.iv c0_i32_127 c1_i32_129 k1_t11
  let v545 : Index := Scalar.indexCast arg22
  let c0_i32_288 : BitVec 32 := 0#32
  let c1_i32_290 : BitVec 32 := 1#32
  let arg26 : BitVec 32 := Scf.iv c0_i32_288 c1_i32_290 k1_t12
  let c16_i32_311 : BitVec 32 := 16#32
  let v543 : BitVec 32 := Scalar.muli arg26 c16_i32_311
  let v546 : Index := Scalar.indexCast v543
  ![9, v545.toNat, v546.toNat]
@[reducible] def k1_t13_loop : Scf.Loop 32 :=
  let c0_i32_144 : BitVec 32 := 0#32
  let c8_i32_145 : BitVec 32 := 8#32
  let v197 : BitVec 32 := Scalar.addi c0_i32_144 c8_i32_145
  let c1_i32_146 : BitVec 32 := 1#32
  ⟨c0_i32_144, v197, c1_i32_146⟩
@[reducible] def k1_t14_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off69 (k1_t13 : Fin k1_t13_loop.trips) (k1_t14 : Fin k1_t14_loop.trips) : Fin 2 → Nat :=
  let c0_i32_144 : BitVec 32 := 0#32
  let c1_i32_146 : BitVec 32 := 1#32
  let arg22 : BitVec 32 := Scf.iv c0_i32_144 c1_i32_146 k1_t13
  let v449 : Index := Scalar.indexCast arg22
  let c0_i32_288 : BitVec 32 := 0#32
  let c1_i32_290 : BitVec 32 := 1#32
  let arg26 : BitVec 32 := Scf.iv c0_i32_288 c1_i32_290 k1_t14
  let c16_i32_292 : BitVec 32 := 16#32
  let v448 : BitVec 32 := Scalar.muli arg26 c16_i32_292
  let v450 : Index := Scalar.indexCast v448
  ![v449.toNat, v450.toNat]
def k1_off70 (k1_t13 : Fin k1_t13_loop.trips) (k1_t14 : Fin k1_t14_loop.trips) : Fin 3 → Nat :=
  let c0_i32_294 : BitVec 32 := 0#32
  let v454 : Index := Scalar.indexCast c0_i32_294
  let c0_i32_144 : BitVec 32 := 0#32
  let c1_i32_146 : BitVec 32 := 1#32
  let arg22 : BitVec 32 := Scf.iv c0_i32_144 c1_i32_146 k1_t13
  let v455 : Index := Scalar.indexCast arg22
  let c0_i32_288 : BitVec 32 := 0#32
  let c1_i32_290 : BitVec 32 := 1#32
  let arg26 : BitVec 32 := Scf.iv c0_i32_288 c1_i32_290 k1_t14
  let c16_i32_293 : BitVec 32 := 16#32
  let v453 : BitVec 32 := Scalar.muli arg26 c16_i32_293
  let v456 : Index := Scalar.indexCast v453
  ![0, v455.toNat, v456.toNat]
def k1_off71 (k1_t13 : Fin k1_t13_loop.trips) (k1_t14 : Fin k1_t14_loop.trips) : Fin 3 → Nat :=
  let c1_i32_296 : BitVec 32 := 1#32
  let v464 : Index := Scalar.indexCast c1_i32_296
  let c0_i32_144 : BitVec 32 := 0#32
  let c1_i32_146 : BitVec 32 := 1#32
  let arg22 : BitVec 32 := Scf.iv c0_i32_144 c1_i32_146 k1_t13
  let v465 : Index := Scalar.indexCast arg22
  let c0_i32_288 : BitVec 32 := 0#32
  let c1_i32_290 : BitVec 32 := 1#32
  let arg26 : BitVec 32 := Scf.iv c0_i32_288 c1_i32_290 k1_t14
  let c16_i32_295 : BitVec 32 := 16#32
  let v463 : BitVec 32 := Scalar.muli arg26 c16_i32_295
  let v466 : Index := Scalar.indexCast v463
  ![1, v465.toNat, v466.toNat]
def k1_off72 (k1_t13 : Fin k1_t13_loop.trips) (k1_t14 : Fin k1_t14_loop.trips) : Fin 3 → Nat :=
  let c2_i32_298 : BitVec 32 := 2#32
  let v474 : Index := Scalar.indexCast c2_i32_298
  let c0_i32_144 : BitVec 32 := 0#32
  let c1_i32_146 : BitVec 32 := 1#32
  let arg22 : BitVec 32 := Scf.iv c0_i32_144 c1_i32_146 k1_t13
  let v475 : Index := Scalar.indexCast arg22
  let c0_i32_288 : BitVec 32 := 0#32
  let c1_i32_290 : BitVec 32 := 1#32
  let arg26 : BitVec 32 := Scf.iv c0_i32_288 c1_i32_290 k1_t14
  let c16_i32_297 : BitVec 32 := 16#32
  let v473 : BitVec 32 := Scalar.muli arg26 c16_i32_297
  let v476 : Index := Scalar.indexCast v473
  ![2, v475.toNat, v476.toNat]
def k1_off73 (k1_t13 : Fin k1_t13_loop.trips) (k1_t14 : Fin k1_t14_loop.trips) : Fin 3 → Nat :=
  let c3_i32_300 : BitVec 32 := 3#32
  let v484 : Index := Scalar.indexCast c3_i32_300
  let c0_i32_144 : BitVec 32 := 0#32
  let c1_i32_146 : BitVec 32 := 1#32
  let arg22 : BitVec 32 := Scf.iv c0_i32_144 c1_i32_146 k1_t13
  let v485 : Index := Scalar.indexCast arg22
  let c0_i32_288 : BitVec 32 := 0#32
  let c1_i32_290 : BitVec 32 := 1#32
  let arg26 : BitVec 32 := Scf.iv c0_i32_288 c1_i32_290 k1_t14
  let c16_i32_299 : BitVec 32 := 16#32
  let v483 : BitVec 32 := Scalar.muli arg26 c16_i32_299
  let v486 : Index := Scalar.indexCast v483
  ![3, v485.toNat, v486.toNat]
def k1_off74 (k1_t13 : Fin k1_t13_loop.trips) (k1_t14 : Fin k1_t14_loop.trips) : Fin 3 → Nat :=
  let c4_i32_302 : BitVec 32 := 4#32
  let v494 : Index := Scalar.indexCast c4_i32_302
  let c0_i32_144 : BitVec 32 := 0#32
  let c1_i32_146 : BitVec 32 := 1#32
  let arg22 : BitVec 32 := Scf.iv c0_i32_144 c1_i32_146 k1_t13
  let v495 : Index := Scalar.indexCast arg22
  let c0_i32_288 : BitVec 32 := 0#32
  let c1_i32_290 : BitVec 32 := 1#32
  let arg26 : BitVec 32 := Scf.iv c0_i32_288 c1_i32_290 k1_t14
  let c16_i32_301 : BitVec 32 := 16#32
  let v493 : BitVec 32 := Scalar.muli arg26 c16_i32_301
  let v496 : Index := Scalar.indexCast v493
  ![4, v495.toNat, v496.toNat]
def k1_off75 (k1_t13 : Fin k1_t13_loop.trips) (k1_t14 : Fin k1_t14_loop.trips) : Fin 3 → Nat :=
  let c5_i32_304 : BitVec 32 := 5#32
  let v504 : Index := Scalar.indexCast c5_i32_304
  let c0_i32_144 : BitVec 32 := 0#32
  let c1_i32_146 : BitVec 32 := 1#32
  let arg22 : BitVec 32 := Scf.iv c0_i32_144 c1_i32_146 k1_t13
  let v505 : Index := Scalar.indexCast arg22
  let c0_i32_288 : BitVec 32 := 0#32
  let c1_i32_290 : BitVec 32 := 1#32
  let arg26 : BitVec 32 := Scf.iv c0_i32_288 c1_i32_290 k1_t14
  let c16_i32_303 : BitVec 32 := 16#32
  let v503 : BitVec 32 := Scalar.muli arg26 c16_i32_303
  let v506 : Index := Scalar.indexCast v503
  ![5, v505.toNat, v506.toNat]
def k1_off76 (k1_t13 : Fin k1_t13_loop.trips) (k1_t14 : Fin k1_t14_loop.trips) : Fin 3 → Nat :=
  let c6_i32_306 : BitVec 32 := 6#32
  let v514 : Index := Scalar.indexCast c6_i32_306
  let c0_i32_144 : BitVec 32 := 0#32
  let c1_i32_146 : BitVec 32 := 1#32
  let arg22 : BitVec 32 := Scf.iv c0_i32_144 c1_i32_146 k1_t13
  let v515 : Index := Scalar.indexCast arg22
  let c0_i32_288 : BitVec 32 := 0#32
  let c1_i32_290 : BitVec 32 := 1#32
  let arg26 : BitVec 32 := Scf.iv c0_i32_288 c1_i32_290 k1_t14
  let c16_i32_305 : BitVec 32 := 16#32
  let v513 : BitVec 32 := Scalar.muli arg26 c16_i32_305
  let v516 : Index := Scalar.indexCast v513
  ![6, v515.toNat, v516.toNat]
def k1_off77 (k1_t13 : Fin k1_t13_loop.trips) (k1_t14 : Fin k1_t14_loop.trips) : Fin 3 → Nat :=
  let c7_i32_308 : BitVec 32 := 7#32
  let v524 : Index := Scalar.indexCast c7_i32_308
  let c0_i32_144 : BitVec 32 := 0#32
  let c1_i32_146 : BitVec 32 := 1#32
  let arg22 : BitVec 32 := Scf.iv c0_i32_144 c1_i32_146 k1_t13
  let v525 : Index := Scalar.indexCast arg22
  let c0_i32_288 : BitVec 32 := 0#32
  let c1_i32_290 : BitVec 32 := 1#32
  let arg26 : BitVec 32 := Scf.iv c0_i32_288 c1_i32_290 k1_t14
  let c16_i32_307 : BitVec 32 := 16#32
  let v523 : BitVec 32 := Scalar.muli arg26 c16_i32_307
  let v526 : Index := Scalar.indexCast v523
  ![7, v525.toNat, v526.toNat]
def k1_off78 (k1_t13 : Fin k1_t13_loop.trips) (k1_t14 : Fin k1_t14_loop.trips) : Fin 3 → Nat :=
  let c8_i32_310 : BitVec 32 := 8#32
  let v534 : Index := Scalar.indexCast c8_i32_310
  let c0_i32_144 : BitVec 32 := 0#32
  let c1_i32_146 : BitVec 32 := 1#32
  let arg22 : BitVec 32 := Scf.iv c0_i32_144 c1_i32_146 k1_t13
  let v535 : Index := Scalar.indexCast arg22
  let c0_i32_288 : BitVec 32 := 0#32
  let c1_i32_290 : BitVec 32 := 1#32
  let arg26 : BitVec 32 := Scf.iv c0_i32_288 c1_i32_290 k1_t14
  let c16_i32_309 : BitVec 32 := 16#32
  let v533 : BitVec 32 := Scalar.muli arg26 c16_i32_309
  let v536 : Index := Scalar.indexCast v533
  ![8, v535.toNat, v536.toNat]
def k1_off79 (k1_t13 : Fin k1_t13_loop.trips) (k1_t14 : Fin k1_t14_loop.trips) : Fin 3 → Nat :=
  let c9_i32_312 : BitVec 32 := 9#32
  let v544 : Index := Scalar.indexCast c9_i32_312
  let c0_i32_144 : BitVec 32 := 0#32
  let c1_i32_146 : BitVec 32 := 1#32
  let arg22 : BitVec 32 := Scf.iv c0_i32_144 c1_i32_146 k1_t13
  let v545 : Index := Scalar.indexCast arg22
  let c0_i32_288 : BitVec 32 := 0#32
  let c1_i32_290 : BitVec 32 := 1#32
  let arg26 : BitVec 32 := Scf.iv c0_i32_288 c1_i32_290 k1_t14
  let c16_i32_311 : BitVec 32 := 16#32
  let v543 : BitVec 32 := Scalar.muli arg26 c16_i32_311
  let v546 : Index := Scalar.indexCast v543
  ![9, v545.toNat, v546.toNat]
def k1_off80 (i : grid1.Coords) (c0_i32_148 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v31 : BitVec 32 := Scalar.muli v1 c192_i32
  let v199 : BitVec 32 := Scalar.addi v31 c0_i32_148
  let c0_i32_149 : BitVec 32 := 0#32
  let v201 : BitVec 1 := Scalar.cmpi .sgt v199 c0_i32_149
  let v202 : BitVec 32 := Scalar.extui v201
  let c0_i32_150 : BitVec 32 := 0#32
  let v203 : BitVec 1 := Scalar.cmpi .slt v199 c0_i32_150
  let v204 : BitVec 32 := Scalar.extui v203
  let v205 : BitVec 32 := Scalar.subi v202 v204
  let c512_i32 : BitVec 32 := 512#32
  let c0_i32_151 : BitVec 32 := 0#32
  let v206 : BitVec 1 := Scalar.cmpi .sgt c512_i32 c0_i32_151
  let v207 : BitVec 32 := Scalar.extui v206
  let c0_i32_152 : BitVec 32 := 0#32
  let v208 : BitVec 1 := Scalar.cmpi .slt c512_i32 c0_i32_152
  let v209 : BitVec 32 := Scalar.extui v208
  let v210 : BitVec 32 := Scalar.subi v207 v209
  let v211 : BitVec 1 := Scalar.cmpi .ne v205 v210
  let v212 : BitVec 32 := Scalar.remsi v199 c512_i32
  let c0_i32_153 : BitVec 32 := 0#32
  let v213 : BitVec 1 := Scalar.cmpi .ne v212 c0_i32_153
  let v214 : BitVec 1 := Scalar.andi v211 v213
  let v200 : BitVec 32 := Scalar.divsi v199 c512_i32
  let c1_i32_154 : BitVec 32 := 1#32
  let v215 : BitVec 32 := Scalar.subi v200 c1_i32_154
  let v216 : BitVec 32 := Scalar.select v214 v215 v200
  let c512_i32_155 : BitVec 32 := 512#32
  let c0_i32_156 : BitVec 32 := 0#32
  let v217 : BitVec 1 := Scalar.cmpi .eq c512_i32_155 c0_i32_156
  let c1_i32_157 : BitVec 32 := 1#32
  let v218 : BitVec 32 := Scalar.select v217 c1_i32_157 c512_i32_155
  let v219 : BitVec 32 := Scalar.remsi v199 v218
  let c0_i32_159 : BitVec 32 := 0#32
  let v221 : BitVec 1 := Scalar.cmpi .slt v219 c0_i32_159
  let c0_i32_160 : BitVec 32 := 0#32
  let v222 : BitVec 1 := Scalar.cmpi .slt v218 c0_i32_160
  let v223 : BitVec 1 := Scalar.xori v221 v222
  let c0_i32_158 : BitVec 32 := 0#32
  let v220 : BitVec 1 := Scalar.cmpi .ne v219 c0_i32_158
  let v224 : BitVec 1 := Scalar.andi v223 v220
  let v225 : BitVec 32 := Scalar.addi v219 v218
  let v226 : BitVec 32 := Scalar.select v224 v225 v219
  let c0_i32_161 : BitVec 32 := 0#32
  ![v216.toNat, v226.toNat, 0]
@[reducible] def k1_t15_loop : Scf.Loop 32 :=
  let c0_i32_169 : BitVec 32 := 0#32
  let c8_i32_170 : BitVec 32 := 8#32
  let v239 : BitVec 32 := Scalar.addi c0_i32_169 c8_i32_170
  let c1_i32_171 : BitVec 32 := 1#32
  ⟨c0_i32_169, v239, c1_i32_171⟩
@[reducible] def k1_t16_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off81 (k1_t15 : Fin k1_t15_loop.trips) (k1_t16 : Fin k1_t16_loop.trips) : Fin 2 → Nat :=
  let c0_i32_169 : BitVec 32 := 0#32
  let c1_i32_171 : BitVec 32 := 1#32
  let arg22 : BitVec 32 := Scf.iv c0_i32_169 c1_i32_171 k1_t15
  let v449 : Index := Scalar.indexCast arg22
  let c0_i32_288 : BitVec 32 := 0#32
  let c1_i32_290 : BitVec 32 := 1#32
  let arg26 : BitVec 32 := Scf.iv c0_i32_288 c1_i32_290 k1_t16
  let c16_i32_292 : BitVec 32 := 16#32
  let v448 : BitVec 32 := Scalar.muli arg26 c16_i32_292
  let v450 : Index := Scalar.indexCast v448
  ![v449.toNat, v450.toNat]
def k1_off82 (k1_t15 : Fin k1_t15_loop.trips) (k1_t16 : Fin k1_t16_loop.trips) : Fin 3 → Nat :=
  let c0_i32_294 : BitVec 32 := 0#32
  let v454 : Index := Scalar.indexCast c0_i32_294
  let c0_i32_169 : BitVec 32 := 0#32
  let c1_i32_171 : BitVec 32 := 1#32
  let arg22 : BitVec 32 := Scf.iv c0_i32_169 c1_i32_171 k1_t15
  let v455 : Index := Scalar.indexCast arg22
  let c0_i32_288 : BitVec 32 := 0#32
  let c1_i32_290 : BitVec 32 := 1#32
  let arg26 : BitVec 32 := Scf.iv c0_i32_288 c1_i32_290 k1_t16
  let c16_i32_293 : BitVec 32 := 16#32
  let v453 : BitVec 32 := Scalar.muli arg26 c16_i32_293
  let v456 : Index := Scalar.indexCast v453
  ![0, v455.toNat, v456.toNat]
def k1_off83 (k1_t15 : Fin k1_t15_loop.trips) (k1_t16 : Fin k1_t16_loop.trips) : Fin 3 → Nat :=
  let c1_i32_296 : BitVec 32 := 1#32
  let v464 : Index := Scalar.indexCast c1_i32_296
  let c0_i32_169 : BitVec 32 := 0#32
  let c1_i32_171 : BitVec 32 := 1#32
  let arg22 : BitVec 32 := Scf.iv c0_i32_169 c1_i32_171 k1_t15
  let v465 : Index := Scalar.indexCast arg22
  let c0_i32_288 : BitVec 32 := 0#32
  let c1_i32_290 : BitVec 32 := 1#32
  let arg26 : BitVec 32 := Scf.iv c0_i32_288 c1_i32_290 k1_t16
  let c16_i32_295 : BitVec 32 := 16#32
  let v463 : BitVec 32 := Scalar.muli arg26 c16_i32_295
  let v466 : Index := Scalar.indexCast v463
  ![1, v465.toNat, v466.toNat]
def k1_off84 (k1_t15 : Fin k1_t15_loop.trips) (k1_t16 : Fin k1_t16_loop.trips) : Fin 3 → Nat :=
  let c2_i32_298 : BitVec 32 := 2#32
  let v474 : Index := Scalar.indexCast c2_i32_298
  let c0_i32_169 : BitVec 32 := 0#32
  let c1_i32_171 : BitVec 32 := 1#32
  let arg22 : BitVec 32 := Scf.iv c0_i32_169 c1_i32_171 k1_t15
  let v475 : Index := Scalar.indexCast arg22
  let c0_i32_288 : BitVec 32 := 0#32
  let c1_i32_290 : BitVec 32 := 1#32
  let arg26 : BitVec 32 := Scf.iv c0_i32_288 c1_i32_290 k1_t16
  let c16_i32_297 : BitVec 32 := 16#32
  let v473 : BitVec 32 := Scalar.muli arg26 c16_i32_297
  let v476 : Index := Scalar.indexCast v473
  ![2, v475.toNat, v476.toNat]
def k1_off85 (k1_t15 : Fin k1_t15_loop.trips) (k1_t16 : Fin k1_t16_loop.trips) : Fin 3 → Nat :=
  let c3_i32_300 : BitVec 32 := 3#32
  let v484 : Index := Scalar.indexCast c3_i32_300
  let c0_i32_169 : BitVec 32 := 0#32
  let c1_i32_171 : BitVec 32 := 1#32
  let arg22 : BitVec 32 := Scf.iv c0_i32_169 c1_i32_171 k1_t15
  let v485 : Index := Scalar.indexCast arg22
  let c0_i32_288 : BitVec 32 := 0#32
  let c1_i32_290 : BitVec 32 := 1#32
  let arg26 : BitVec 32 := Scf.iv c0_i32_288 c1_i32_290 k1_t16
  let c16_i32_299 : BitVec 32 := 16#32
  let v483 : BitVec 32 := Scalar.muli arg26 c16_i32_299
  let v486 : Index := Scalar.indexCast v483
  ![3, v485.toNat, v486.toNat]
def k1_off86 (k1_t15 : Fin k1_t15_loop.trips) (k1_t16 : Fin k1_t16_loop.trips) : Fin 3 → Nat :=
  let c4_i32_302 : BitVec 32 := 4#32
  let v494 : Index := Scalar.indexCast c4_i32_302
  let c0_i32_169 : BitVec 32 := 0#32
  let c1_i32_171 : BitVec 32 := 1#32
  let arg22 : BitVec 32 := Scf.iv c0_i32_169 c1_i32_171 k1_t15
  let v495 : Index := Scalar.indexCast arg22
  let c0_i32_288 : BitVec 32 := 0#32
  let c1_i32_290 : BitVec 32 := 1#32
  let arg26 : BitVec 32 := Scf.iv c0_i32_288 c1_i32_290 k1_t16
  let c16_i32_301 : BitVec 32 := 16#32
  let v493 : BitVec 32 := Scalar.muli arg26 c16_i32_301
  let v496 : Index := Scalar.indexCast v493
  ![4, v495.toNat, v496.toNat]
def k1_off87 (k1_t15 : Fin k1_t15_loop.trips) (k1_t16 : Fin k1_t16_loop.trips) : Fin 3 → Nat :=
  let c5_i32_304 : BitVec 32 := 5#32
  let v504 : Index := Scalar.indexCast c5_i32_304
  let c0_i32_169 : BitVec 32 := 0#32
  let c1_i32_171 : BitVec 32 := 1#32
  let arg22 : BitVec 32 := Scf.iv c0_i32_169 c1_i32_171 k1_t15
  let v505 : Index := Scalar.indexCast arg22
  let c0_i32_288 : BitVec 32 := 0#32
  let c1_i32_290 : BitVec 32 := 1#32
  let arg26 : BitVec 32 := Scf.iv c0_i32_288 c1_i32_290 k1_t16
  let c16_i32_303 : BitVec 32 := 16#32
  let v503 : BitVec 32 := Scalar.muli arg26 c16_i32_303
  let v506 : Index := Scalar.indexCast v503
  ![5, v505.toNat, v506.toNat]
def k1_off88 (k1_t15 : Fin k1_t15_loop.trips) (k1_t16 : Fin k1_t16_loop.trips) : Fin 3 → Nat :=
  let c6_i32_306 : BitVec 32 := 6#32
  let v514 : Index := Scalar.indexCast c6_i32_306
  let c0_i32_169 : BitVec 32 := 0#32
  let c1_i32_171 : BitVec 32 := 1#32
  let arg22 : BitVec 32 := Scf.iv c0_i32_169 c1_i32_171 k1_t15
  let v515 : Index := Scalar.indexCast arg22
  let c0_i32_288 : BitVec 32 := 0#32
  let c1_i32_290 : BitVec 32 := 1#32
  let arg26 : BitVec 32 := Scf.iv c0_i32_288 c1_i32_290 k1_t16
  let c16_i32_305 : BitVec 32 := 16#32
  let v513 : BitVec 32 := Scalar.muli arg26 c16_i32_305
  let v516 : Index := Scalar.indexCast v513
  ![6, v515.toNat, v516.toNat]
def k1_off89 (k1_t15 : Fin k1_t15_loop.trips) (k1_t16 : Fin k1_t16_loop.trips) : Fin 3 → Nat :=
  let c7_i32_308 : BitVec 32 := 7#32
  let v524 : Index := Scalar.indexCast c7_i32_308
  let c0_i32_169 : BitVec 32 := 0#32
  let c1_i32_171 : BitVec 32 := 1#32
  let arg22 : BitVec 32 := Scf.iv c0_i32_169 c1_i32_171 k1_t15
  let v525 : Index := Scalar.indexCast arg22
  let c0_i32_288 : BitVec 32 := 0#32
  let c1_i32_290 : BitVec 32 := 1#32
  let arg26 : BitVec 32 := Scf.iv c0_i32_288 c1_i32_290 k1_t16
  let c16_i32_307 : BitVec 32 := 16#32
  let v523 : BitVec 32 := Scalar.muli arg26 c16_i32_307
  let v526 : Index := Scalar.indexCast v523
  ![7, v525.toNat, v526.toNat]
def k1_off90 (k1_t15 : Fin k1_t15_loop.trips) (k1_t16 : Fin k1_t16_loop.trips) : Fin 3 → Nat :=
  let c8_i32_310 : BitVec 32 := 8#32
  let v534 : Index := Scalar.indexCast c8_i32_310
  let c0_i32_169 : BitVec 32 := 0#32
  let c1_i32_171 : BitVec 32 := 1#32
  let arg22 : BitVec 32 := Scf.iv c0_i32_169 c1_i32_171 k1_t15
  let v535 : Index := Scalar.indexCast arg22
  let c0_i32_288 : BitVec 32 := 0#32
  let c1_i32_290 : BitVec 32 := 1#32
  let arg26 : BitVec 32 := Scf.iv c0_i32_288 c1_i32_290 k1_t16
  let c16_i32_309 : BitVec 32 := 16#32
  let v533 : BitVec 32 := Scalar.muli arg26 c16_i32_309
  let v536 : Index := Scalar.indexCast v533
  ![8, v535.toNat, v536.toNat]
def k1_off91 (k1_t15 : Fin k1_t15_loop.trips) (k1_t16 : Fin k1_t16_loop.trips) : Fin 3 → Nat :=
  let c9_i32_312 : BitVec 32 := 9#32
  let v544 : Index := Scalar.indexCast c9_i32_312
  let c0_i32_169 : BitVec 32 := 0#32
  let c1_i32_171 : BitVec 32 := 1#32
  let arg22 : BitVec 32 := Scf.iv c0_i32_169 c1_i32_171 k1_t15
  let v545 : Index := Scalar.indexCast arg22
  let c0_i32_288 : BitVec 32 := 0#32
  let c1_i32_290 : BitVec 32 := 1#32
  let arg26 : BitVec 32 := Scf.iv c0_i32_288 c1_i32_290 k1_t16
  let c16_i32_311 : BitVec 32 := 16#32
  let v543 : BitVec 32 := Scalar.muli arg26 c16_i32_311
  let v546 : Index := Scalar.indexCast v543
  ![9, v545.toNat, v546.toNat]
@[reducible] def k1_t17_loop : Scf.Loop 32 :=
  let c0_i32_191 : BitVec 32 := 0#32
  let c32_i32_192 : BitVec 32 := 32#32
  let v277 : BitVec 32 := Scalar.addi c0_i32_191 c32_i32_192
  let c1_i32_193 : BitVec 32 := 1#32
  ⟨c0_i32_191, v277, c1_i32_193⟩
@[reducible] def k1_t18_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off92 (k1_t17 : Fin k1_t17_loop.trips) (k1_t18 : Fin k1_t18_loop.trips) : Fin 2 → Nat :=
  let c0_i32_191 : BitVec 32 := 0#32
  let c1_i32_193 : BitVec 32 := 1#32
  let arg22 : BitVec 32 := Scf.iv c0_i32_191 c1_i32_193 k1_t17
  let v449 : Index := Scalar.indexCast arg22
  let c0_i32_288 : BitVec 32 := 0#32
  let c1_i32_290 : BitVec 32 := 1#32
  let arg24 : BitVec 32 := Scf.iv c0_i32_288 c1_i32_290 k1_t18
  let c16_i32_292 : BitVec 32 := 16#32
  let v448 : BitVec 32 := Scalar.muli arg24 c16_i32_292
  let v450 : Index := Scalar.indexCast v448
  ![v449.toNat, v450.toNat]
@[reducible] def k1_t19_loop : Scf.Loop 32 :=
  let c0_i32_213 : BitVec 32 := 0#32
  let c32_i32_214 : BitVec 32 := 32#32
  let v315 : BitVec 32 := Scalar.addi c0_i32_213 c32_i32_214
  let c1_i32_215 : BitVec 32 := 1#32
  ⟨c0_i32_213, v315, c1_i32_215⟩
@[reducible] def k1_t20_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off93 (k1_t19 : Fin k1_t19_loop.trips) (k1_t20 : Fin k1_t20_loop.trips) : Fin 2 → Nat :=
  let c0_i32_213 : BitVec 32 := 0#32
  let c1_i32_215 : BitVec 32 := 1#32
  let arg22 : BitVec 32 := Scf.iv c0_i32_213 c1_i32_215 k1_t19
  let v449 : Index := Scalar.indexCast arg22
  let c0_i32_288 : BitVec 32 := 0#32
  let c1_i32_290 : BitVec 32 := 1#32
  let arg24 : BitVec 32 := Scf.iv c0_i32_288 c1_i32_290 k1_t20
  let c16_i32_292 : BitVec 32 := 16#32
  let v448 : BitVec 32 := Scalar.muli arg24 c16_i32_292
  let v450 : Index := Scalar.indexCast v448
  ![v449.toNat, v450.toNat]
@[reducible] def k1_t21_loop : Scf.Loop 32 :=
  let c0_i32_234 : BitVec 32 := 0#32
  let c32_i32_235 : BitVec 32 := 32#32
  let v353 : BitVec 32 := Scalar.addi c0_i32_234 c32_i32_235
  let c1_i32_236 : BitVec 32 := 1#32
  ⟨c0_i32_234, v353, c1_i32_236⟩
@[reducible] def k1_t22_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off94 (k1_t21 : Fin k1_t21_loop.trips) (k1_t22 : Fin k1_t22_loop.trips) : Fin 2 → Nat :=
  let c0_i32_234 : BitVec 32 := 0#32
  let c1_i32_236 : BitVec 32 := 1#32
  let arg22 : BitVec 32 := Scf.iv c0_i32_234 c1_i32_236 k1_t21
  let v449 : Index := Scalar.indexCast arg22
  let c0_i32_288 : BitVec 32 := 0#32
  let c1_i32_290 : BitVec 32 := 1#32
  let arg24 : BitVec 32 := Scf.iv c0_i32_288 c1_i32_290 k1_t22
  let c16_i32_292 : BitVec 32 := 16#32
  let v448 : BitVec 32 := Scalar.muli arg24 c16_i32_292
  let v450 : Index := Scalar.indexCast v448
  ![v449.toNat, v450.toNat]
@[reducible] def k1_t23_loop : Scf.Loop 32 :=
  let c0_i32_255 : BitVec 32 := 0#32
  let c32_i32_256 : BitVec 32 := 32#32
  let v391 : BitVec 32 := Scalar.addi c0_i32_255 c32_i32_256
  let c1_i32_257 : BitVec 32 := 1#32
  ⟨c0_i32_255, v391, c1_i32_257⟩
@[reducible] def k1_t24_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off95 (k1_t23 : Fin k1_t23_loop.trips) (k1_t24 : Fin k1_t24_loop.trips) : Fin 2 → Nat :=
  let c0_i32_255 : BitVec 32 := 0#32
  let c1_i32_257 : BitVec 32 := 1#32
  let arg22 : BitVec 32 := Scf.iv c0_i32_255 c1_i32_257 k1_t23
  let v449 : Index := Scalar.indexCast arg22
  let c0_i32_288 : BitVec 32 := 0#32
  let c1_i32_290 : BitVec 32 := 1#32
  let arg24 : BitVec 32 := Scf.iv c0_i32_288 c1_i32_290 k1_t24
  let c16_i32_292 : BitVec 32 := 16#32
  let v448 : BitVec 32 := Scalar.muli arg24 c16_i32_292
  let v450 : Index := Scalar.indexCast v448
  ![v449.toNat, v450.toNat]
@[reducible] def k1_t25_loop : Scf.Loop 32 :=
  let c0_i32_276 : BitVec 32 := 0#32
  let c32_i32_277 : BitVec 32 := 32#32
  let v429 : BitVec 32 := Scalar.addi c0_i32_276 c32_i32_277
  let c1_i32_278 : BitVec 32 := 1#32
  ⟨c0_i32_276, v429, c1_i32_278⟩
@[reducible] def k1_t26_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off96 (k1_t25 : Fin k1_t25_loop.trips) (k1_t26 : Fin k1_t26_loop.trips) : Fin 2 → Nat :=
  let c0_i32_276 : BitVec 32 := 0#32
  let c1_i32_278 : BitVec 32 := 1#32
  let arg22 : BitVec 32 := Scf.iv c0_i32_276 c1_i32_278 k1_t25
  let v449 : Index := Scalar.indexCast arg22
  let c0_i32_288 : BitVec 32 := 0#32
  let c1_i32_290 : BitVec 32 := 1#32
  let arg24 : BitVec 32 := Scf.iv c0_i32_288 c1_i32_290 k1_t26
  let c16_i32_292 : BitVec 32 := 16#32
  let v448 : BitVec 32 := Scalar.muli arg24 c16_i32_292
  let v450 : Index := Scalar.indexCast v448
  ![v449.toNat, v450.toNat]
@[reducible] def k1_t27_loop : Scf.Loop 32 :=
  let c0_i32_282 : BitVec 32 := 0#32
  let c32_i32_283 : BitVec 32 := 32#32
  let v435 : BitVec 32 := Scalar.addi c0_i32_282 c32_i32_283
  let c1_i32_284 : BitVec 32 := 1#32
  ⟨c0_i32_282, v435, c1_i32_284⟩
@[reducible] def k1_t28_loop : Scf.Loop 32 :=
  let c0_i32_288 : BitVec 32 := 0#32
  let c32_i32_289 : BitVec 32 := 32#32
  let v446 : BitVec 32 := Scalar.addi c0_i32_288 c32_i32_289
  let c1_i32_290 : BitVec 32 := 1#32
  ⟨c0_i32_288, v446, c1_i32_290⟩
def k1_off97 (k1_t27 : Fin k1_t27_loop.trips) (k1_t28 : Fin k1_t28_loop.trips) : Fin 2 → Nat :=
  let c0_i32_282 : BitVec 32 := 0#32
  let c1_i32_284 : BitVec 32 := 1#32
  let arg22 : BitVec 32 := Scf.iv c0_i32_282 c1_i32_284 k1_t27
  let v449 : Index := Scalar.indexCast arg22
  let c0_i32_288 : BitVec 32 := 0#32
  let c1_i32_290 : BitVec 32 := 1#32
  let arg24 : BitVec 32 := Scf.iv c0_i32_288 c1_i32_290 k1_t28
  let c16_i32_292 : BitVec 32 := 16#32
  let v448 : BitVec 32 := Scalar.muli arg24 c16_i32_292
  let v450 : Index := Scalar.indexCast v448
  ![v449.toNat, v450.toNat]
def k1_off98 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_288_r0 : BitVec 32 := 0#32
  ![v1.toNat, 0]
abbrev grid2 : Pipeline.Grid := .none

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x16 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x10x512x512 : Shape := ⟨4, ![16, 10, 512, 512]⟩
abbrev S16x512x512 : Shape := ⟨3, ![16, 512, 512]⟩
abbrev S_ : Shape := ⟨0, ![]⟩
abbrev S4194304 : Shape := ⟨1, ![4194304]⟩
abbrev S11 : Shape := ⟨1, ![11]⟩
abbrev S4194304x1 : Shape := ⟨2, ![4194304, 1]⟩
abbrev S16x512x512x10 : Shape := ⟨4, ![16, 512, 512, 10]⟩
abbrev S16x512x512x1 : Shape := ⟨4, ![16, 512, 512, 1]⟩
abbrev S16x512x512x1x1 : Shape := ⟨5, ![16, 512, 512, 1, 1]⟩
abbrev S1 : Shape := ⟨1, ![1]⟩
abbrev S1x1x1x1x1 : Shape := ⟨5, ![1, 1, 1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S16x10x512x512, .f32⟩
  | .hbm, ⟨1, _⟩ => ⟨S16x512x512, .i32⟩
  | .hbm, ⟨2, _⟩ => ⟨S_, .i32⟩
  | .hbm, ⟨3, _⟩ => ⟨S16x512x512, .i32⟩
  | .hbm, ⟨4, _⟩ => ⟨S16x512x512, .i1⟩
  | .hbm, ⟨5, _⟩ => ⟨S_, .i32⟩
  | .hbm, ⟨6, _⟩ => ⟨S_, .i32⟩
  | .hbm, ⟨7, _⟩ => ⟨S16x512x512, .i32⟩
  | .hbm, ⟨8, _⟩ => ⟨S16x512x512, .i32⟩
  | .hbm, ⟨9, _⟩ => ⟨S_, .i32⟩
  | .hbm, ⟨10, _⟩ => ⟨S16x512x512, .i32⟩
  | .hbm, ⟨11, _⟩ => ⟨S16x512x512, .i32⟩
  | .hbm, ⟨12, _⟩ => ⟨S4194304, .i32⟩
  | .hbm, ⟨13, _⟩ => ⟨S_, .i32⟩
  | .hbm, ⟨14, _⟩ => ⟨S11, .i32⟩
  | .hbm, ⟨15, _⟩ => ⟨S_, .i32⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S_, .i32⟩
  | .hbm, ⟨20, _⟩ => ⟨S4194304, .i32⟩
  | .hbm, ⟨21, _⟩ => ⟨S4194304, .i1⟩
  | .hbm, ⟨22, _⟩ => ⟨S_, .i32⟩
  | .hbm, ⟨23, _⟩ => ⟨S4194304, .i32⟩
  | .hbm, ⟨24, _⟩ => ⟨S4194304, .i32⟩
  | .hbm, ⟨25, _⟩ => ⟨S4194304, .i32⟩
  | .hbm, ⟨26, _⟩ => ⟨S4194304x1, .i32⟩
  | .hbm, ⟨27, _⟩ => ⟨S_, .i32⟩
  | .hbm, ⟨28, _⟩ => ⟨S4194304, .i32⟩
  | .hbm, ⟨29, _⟩ => ⟨S11, .i32⟩
  | .hbm, ⟨30, _⟩ => ⟨S_, .i32⟩
  | .hbm, ⟨31, _⟩ => ⟨S11, .i32⟩
  | .hbm, ⟨32, _⟩ => ⟨S11, .i1⟩
  | .hbm, ⟨33, _⟩ => ⟨S11, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S16x512x512, .i32⟩
  | .hbm, ⟨40, _⟩ => ⟨S16x512x512, .i1⟩
  | .hbm, ⟨41, _⟩ => ⟨S16x512x512x10, .f32⟩
  | .hbm, ⟨42, _⟩ => ⟨S_, .f32⟩
  | .hbm, ⟨43, _⟩ => ⟨S16x512x512, .f32⟩
  | .hbm, ⟨44, _⟩ => ⟨S_, .f32⟩
  | .hbm, ⟨45, _⟩ => ⟨S16x512x512, .f32⟩
  | .hbm, ⟨46, _⟩ => ⟨S16x512x512, .f32⟩
  | .hbm, ⟨47, _⟩ => ⟨S16x512x512x1, .f32⟩
  | .hbm, ⟨48, _⟩ => ⟨S16x512x512x10, .f32⟩
  | .hbm, ⟨49, _⟩ => ⟨S16x512x512x10, .f32⟩
  | .hbm, ⟨50, _⟩ => ⟨S16x512x512x10, .f32⟩
  | .hbm, ⟨51, _⟩ => ⟨S_, .f32⟩
  | .hbm, ⟨52, _⟩ => ⟨S16x512x512, .f32⟩
  | .hbm, ⟨53, _⟩ => ⟨S16x512x512x1, .f32⟩
  | .hbm, ⟨54, _⟩ => ⟨S16x512x512x1, .f32⟩
  | .hbm, ⟨55, _⟩ => ⟨S16x512x512x10, .f32⟩
  | .hbm, ⟨56, _⟩ => ⟨S16x512x512x10, .f32⟩
  | .hbm, ⟨57, _⟩ => ⟨S_, .i32⟩
  | .hbm, ⟨58, _⟩ => ⟨S_, .i32⟩
  | .hbm, ⟨59, _⟩ => ⟨S16x512x512, .i32⟩
  | .hbm, ⟨60, _⟩ => ⟨S16x512x512, .i32⟩
  | .hbm, ⟨61, _⟩ => ⟨S16x512x512x1, .i32⟩
  | .hbm, ⟨62, _⟩ => ⟨S_, .i32⟩
  | .hbm, ⟨63, _⟩ => ⟨S16x512x512x1, .i32⟩
  | .hbm, ⟨64, _⟩ => ⟨S16x512x512x1, .i1⟩
  | .hbm, ⟨65, _⟩ => ⟨S_, .i32⟩
  | .hbm, ⟨66, _⟩ => ⟨S16x512x512x1, .i32⟩
  | .hbm, ⟨67, _⟩ => ⟨S16x512x512x1, .i32⟩
  | .hbm, ⟨68, _⟩ => ⟨S16x512x512x1, .i32⟩
  | .hbm, ⟨69, _⟩ => ⟨S16x512x512x1x1, .i32⟩
  | .hbm, ⟨70, _⟩ => ⟨S1, .i32⟩
  | .hbm, ⟨71, _⟩ => ⟨S_, .i32⟩
  | .hbm, ⟨72, _⟩ => ⟨S16x512x512x1x1, .i32⟩
  | .hbm, ⟨73, _⟩ => ⟨S16x512x512x1x1, .i1⟩
  | .hbm, ⟨74, _⟩ => ⟨S1x1x1x1x1, .i32⟩
  | .hbm, ⟨75, _⟩ => ⟨S16x512x512x1x1, .i32⟩
  | .hbm, ⟨76, _⟩ => ⟨S16x512x512x1x1, .i1⟩
  | .hbm, ⟨77, _⟩ => ⟨S16x512x512x1x1, .i1⟩
  | .hbm, ⟨78, _⟩ => ⟨S_, .i1⟩
  | .hbm, ⟨79, _⟩ => ⟨S16x512x512x1, .i1⟩
  | .hbm, ⟨80, _⟩ => ⟨S16x512x512x1, .f32⟩
  | .hbm, ⟨81, _⟩ => ⟨S_, .f32⟩
  | .hbm, ⟨82, _⟩ => ⟨S16x512x512x1, .f32⟩
  | .hbm, ⟨83, _⟩ => ⟨S16x512x512x1, .f32⟩
  | .hbm, ⟨84, _⟩ => ⟨S16x512x512, .f32⟩
  | .hbm, ⟨85, _⟩ => ⟨S16x512x512, .f32⟩
  | .hbm, ⟨86, _⟩ => ⟨S16x512x512, .f32⟩
  | .hbm, ⟨87, _⟩ => ⟨S16x512x512, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S16x10x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_c_10 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v24 : Ref sig .tc := ⟨.hbm, 56, rfl⟩
abbrev main_c_11 : Ref sig .tc := ⟨.hbm, 57, rfl⟩
abbrev main_call3_v0 : Ref sig .tc := ⟨.hbm, 58, rfl⟩
abbrev main_call3_v1 : Ref sig .tc := ⟨.hbm, 59, rfl⟩
abbrev main_v25 : Ref sig .tc := ⟨.hbm, 60, rfl⟩
abbrev main_v26 : Ref sig .tc := ⟨.hbm, 61, rfl⟩
abbrev main_call4_c : Ref sig .tc := ⟨.hbm, 62, rfl⟩
abbrev main_call4_v0 : Ref sig .tc := ⟨.hbm, 63, rfl⟩
abbrev main_call4_v1 : Ref sig .tc := ⟨.hbm, 64, rfl⟩
abbrev main_call4_c_0 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_c_1 : Ref sig .tc := ⟨.hbm, 70, rfl⟩
abbrev main_call4_c_2 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_3 : Ref sig .tc := ⟨.hbm, 78, rfl⟩
abbrev main_call4_v12 : Ref sig .tc := ⟨.hbm, 79, rfl⟩
abbrev main_call4_v13 : Ref sig .tc := ⟨.hbm, 80, rfl⟩
abbrev main_call4_cst : Ref sig .tc := ⟨.hbm, 81, rfl⟩
abbrev main_call4_v14 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst : Ref sig .tc := ⟨.hbm, 88, rfl⟩
abbrev main_v32 : Ref sig .tc := ⟨.hbm, 89, rfl⟩
abbrev main_cst_12 : Ref sig .tc := ⟨.hbm, 90, rfl⟩
abbrev main_v33 : Ref sig .tc := ⟨.hbm, 91, rfl⟩
abbrev main_v34 : Ref sig .tc := ⟨.hbm, 92, rfl⟩
abbrev main_cst_13 : Ref sig .tc := ⟨.hbm, 93, rfl⟩
abbrev main_v35 : Ref sig .tc := ⟨.hbm, 94, rfl⟩
abbrev main_v36 : Ref sig .tc := ⟨.hbm, 95, rfl⟩

abbrev nD : Nat := 1
abbrev τ : Topo := Topo.v7x

variable {F : FTy → Type} [FloatOps F]
-- ==== Proof.Base.lean ====
/-
  What every part of the proof about the kernel shares: the program as the SparseCore launch theorem sees it, the
  resource algebra (the handshakes' rounds, the rounds of the two TensorCore pipelines, the counters of the copies), the
  arrays of @main as locations of a device, and the memrefs that a tile's body is called with.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Pipeline.FrameBody
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Loss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the bodies and of the two TensorCore pipelines. -/
abbrev ΛP : Labels := Pipeline.Sig Λ₀ (Fin 2) fun p => (pcfgs (F := F) p).Adm
/-- The one SparseCore call. -/
abbrev K : SparseCore.Cfg τ sig (ΛP (F := F)) 1 := sc (F := F)
/-- The call runs on sixteen tiles of a SparseCore. -/
theorem nSub_zero : (K (F := F)).nSub 0 = 16 := rfl
/-- The call runs on two SparseCores. -/
theorem nCore_zero : (K (F := F)).nCore 0 = 2 := rfl
/-- The body table with the pipelines' rows. -/
abbrev D [FloatOps F] : Defs nD τ sig (Elt F) (ΛP (F := F)) := Pipeline.defs pcfgs defs₀
/-- No body calls another: nothing varies below. -/
abbrev 𝒱₀ : Variants := Variants.none
abbrev 𝒱 : Variants := 𝒱₀.lift
abbrev v₀ : 𝒱.V := Sum.inl none

/-- The facts about the launch semaphores and about the SparseCores' buffers that the launch theorem takes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the two pipelines' rounds, -/
abbrev UP : Type := URounds (GSem nD τ sig) Unit
/-- and the counters of the copies. -/
abbrev UU : Type := UH × (UP × Counters)

/-- The resources over the float values `F`. -/
abbrev Mo (F : FTy → Type) : Type := MT nD τ sig (HIx 1) (Elt F) ℕ UU ℕ

/-- The handshakes' rounds in the whole, -/
abbrev EH : Emb UH (Mo F) := embL
/-- and the pipelines'. -/
def EP : Emb UP (Mo F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (Mo F)).LandsIn (upEmb : UEmb _ (Mo F)) := by unfold EP; infer_instance

/-! ## The arrays of @main -/

/-- The logits and the labels (the arguments), -/
abbrev xLoc (d : Dev nD) : Loc nD τ sig := (SparseCore.T d).loc main_arg0
abbrev tLoc (d : Dev nD) : Loc nD τ sig := (SparseCore.T d).loc main_arg1
/-- the first call's two scalars, -/
abbrev aLoc (d : Dev nD) : Loc nD τ sig := (SparseCore.T d).loc main_v0_0
abbrev bLoc (d : Dev nD) : Loc nD τ sig := (SparseCore.T d).loc main_v0_1
/-- the SparseCore call's three arrays of rows, -/
abbrev nLoc (d : Dev nD) : Loc nD τ sig := (SparseCore.T d).loc main_v1_0
abbrev cLoc (d : Dev nD) : Loc nD τ sig := (SparseCore.T d).loc main_v1_1
abbrev pLoc (d : Dev nD) : Loc nD τ sig := (SparseCore.T d).loc main_v1_2
/-- the last call's scalar and the result. -/
abbrev lLoc (d : Dev nD) : Loc nD τ sig := (SparseCore.T d).loc main_v2
abbrev rLoc (d : Dev nD) : Loc nD τ sig := (SparseCore.T d).loc main_v3

/-! ## A tile -/

/-- The SparseCore and the vector subcore of a grid point, and its number among the 32 tiles. -/
abbrev cV (L : grid1.Coords) : Fin τ.nSC := (L 0).castLE hcore1
abbrev jV (L : grid1.Coords) : Fin τ.nSub := (L 1).castLE hsub1
/-- The tile's thread. -/
abbrev VT (d : Dev nD) (L : grid1.Coords) : Thread nD τ := V d (cV L) (jV L)

/-! The memrefs that the body is called with: the five arrays, the two buffers of logits, the two of labels, the two of
labels for the presence scan, the three vectors that are written out. -/

abbrev xW : Memref sig .scVector .hbm S16x10x512x512 .f32 := Memref.whole main_arg0_scv
abbrev tW : Memref sig .scVector .hbm S16x512x512 .i32 := Memref.whole main_arg1_scv
abbrev nW : Memref sig .scVector .hbm S32x16 .f32 := Memref.whole main_v1_0_scv
abbrev cW : Memref sig .scVector .hbm S32x16 .f32 := Memref.whole main_v1_1_scv
abbrev pW : Memref sig .scVector .hbm S32x16 .i32 := Memref.whole main_v1_2_scv
abbrev bx0 : Memref sig .scVector .vmem S10x8x512 .f32 := Memref.whole cc1_scratch0
abbrev bx1 : Memref sig .scVector .vmem S10x8x512 .f32 := Memref.whole cc1_scratch1
abbrev bt0 : Memref sig .scVector .vmem S8x512 .i32 := Memref.whole cc1_scratch2
abbrev bt1 : Memref sig .scVector .vmem S8x512 .i32 := Memref.whole cc1_scratch3
abbrev bp0 : Memref sig .scVector .vmem S32x512 .i32 := Memref.whole cc1_scratch4
abbrev bp1 : Memref sig .scVector .vmem S32x512 .i32 := Memref.whole cc1_scratch5
abbrev vn : Memref sig .scVector .vmem S16 .f32 := Memref.whole cc1_scratch6
abbrev vc : Memref sig .scVector .vmem S16 .f32 := Memref.whole cc1_scratch7
abbrev vp : Memref sig .scVector .vmem S16 .i32 := Memref.whole cc1_scratch8

end Cert.Proof.Loss

end
-- ==== Proof.Trip.lean ====
/-
  One tile's arithmetic. A trip over sixteen columns of one row takes sixteen labels and, for each of the ten classes,
  sixteen logits, and updates three vectors of sixteen lanes: the sum of the losses, the count of the kept labels, the
  bits of the labels seen. `rows` is eight rows of thirty-two such trips; `seen` is thirty-two rows of the trips that
  only look for labels. The lemmas say that the loops of the tile's body compute them, whatever buffers they read.
-/
module

public import proofs.«01_k».proof.Proof.Base

@[expose] public section

noncomputable section

namespace Cert.Proof.Loss

open Cert.KernelIdeal Cert.KernelIdeal.Gen

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first `k` of `n` steps, in order. -/
def upto {α : Type} {n : ℕ} (f : Fin n → α → α) : ℕ → α → α
  | 0, a => a
  | k + 1, a => if h : k < n then f ⟨k, h⟩ (upto f k a) else upto f k a

omit [FloatOps F] in
/-- One more step. -/
theorem upto_succ {α : Type} {n : ℕ} (f : Fin n → α → α) (k : Fin n) (a : α) : upto f (k.val + 1) a = f k (upto f k.val a) := by
  simp [upto]

/-- The three vectors that a tile keeps. -/
abbrev Acc (F : FTy → Type) : Type := FVec F S16 .f32 × FVec F S16 .f32 × IVec S16 32

/-! ## The values -/

/-- Sixteen labels of row `r` at column block `c`. -/
abbrev tAt (T : Vec F S8x512 .i32) (r : Fin k1_t1_loop.trips) (c : Fin k1_t2_loop.trips) : Vec F S1x16 .i32 :=
  View.ld T (Rect.unit (s := S8x512) (k1_off3 r c) S1x16.size (k1_off3_inb r c))

/-- Sixteen logits of the class whose offsets are `off`. -/
abbrev xAt (X : Vec F S10x8x512 .f32) (off : Fin 3 → ℕ) (h : ∀ a, off a + S1x1x16.size a ≤ S10x8x512.size a) : Vec F S1x1x16 .f32 :=
  View.ld X (Rect.unit (s := S10x8x512) off S1x1x16.size h)

/-- The trip at row `r` and column block `c`. -/
def col (X : Vec F S10x8x512 .f32) (T : Vec F S8x512 .i32) (r : Fin k1_t1_loop.trips) (c : Fin k1_t2_loop.trips) (a : Acc F) : Acc F :=
  let t := k1_pay1 (F := F) (tAt T r c)
  let x0 := xAt X (k1_off4 r c) (k1_off4_inb r c)
  let x1 := xAt X (k1_off5 r c) (k1_off5_inb r c)
  let x2 := xAt X (k1_off6 r c) (k1_off6_inb r c)
  let x3 := xAt X (k1_off7 r c) (k1_off7_inb r c)
  let x4 := xAt X (k1_off8 r c) (k1_off8_inb r c)
  let x5 := xAt X (k1_off9 r c) (k1_off9_inb r c)
  let x6 := xAt X (k1_off10 r c) (k1_off10_inb r c)
  let x7 := xAt X (k1_off11 r c) (k1_off11_inb r c)
  let x8 := xAt X (k1_off12 r c) (k1_off12_inb r c)
  let x9 := xAt X (k1_off13 r c) (k1_off13_inb r c)
  let s := k1_pay13 (k1_pay6 (k1_pay117 (F := F)) x0 x1 x2 x3) x4 x5 x6 x7 x8
  let l := k1_pay14 k1_pay124 k1_pay125 k1_pay126 k1_pay127 k1_pay128 t
    (k1_pay7 (k1_pay117 (F := F)) k1_pay120 k1_pay121 k1_pay122 k1_pay123 (tAt T r c) x0 x1 x2 x3) x4 x5 x6 x7 x8
  (k1_pay131 k1_pay117 k1_pay118 k1_pay119 k1_pay129 a.1 t s l x9, k1_pay132 k1_pay117 k1_pay118 k1_pay119 a.2.1 t, k1_pay133 k1_pay116 a.2.2 t)

/-- Eight rows. -/
def rows (X : Vec F S10x8x512 .f32) (T : Vec F S8x512 .i32) : ℕ → Acc F → Acc F :=
  upto fun r => upto (fun c => col X T r c) k1_t2_loop.trips

/-- No rows leave the accumulators. -/
theorem rows_zero (X : Vec F S10x8x512 .f32) (T : Vec F S8x512 .i32) (a : Acc F) : a = rows X T 0 a := rfl

/-- The trip of the presence scan at row `r` and column block `c`. -/
def pcol (T : Vec F S32x512 .i32) (r : Fin k1_t17_loop.trips) (c : Fin k1_t18_loop.trips) (a : IVec S16 32) : IVec S16 32 :=
  k1_pay162 (F := F) k1_pay116 a (View.ld T (Rect.unit (s := S32x512) (k1_off92 r c) S1x16.size (k1_off92_inb r c)))

/-- Thirty-two rows of the presence scan. -/
def prows (T : Vec F S32x512 .i32) : ℕ → IVec S16 32 → IVec S16 32 :=
  upto fun r => upto (fun c => pcol T r c) k1_t18_loop.trips

/-- No rows leave the bits. -/
theorem prows_zero (T : Vec F S32x512 .i32) (a : IVec S16 32) : a = prows (F := F) T 0 a := rfl

/-! ## The loops -/

section Run

variable (d : Dev nD) (L : grid1.Coords)

/-- The body of a chunk's loop over rows, reading the logits in `p` and the labels in `t`. -/
abbrev rowBody (p : Memref sig .scVector .vmem S10x8x512 .f32) (hp : p.IsWhole) (t : Memref sig .scVector .vmem S8x512 .i32) (ht : t.IsWhole) :
    Fin k1_t1_loop.trips → Acc F → Prog (TpuEff nD τ sig (Elt F) Λ₀ (.scVector (cV L) (jV L))) (Acc F) :=
  k1_t1_body (F := F) L xW (Memref.isWhole_whole _) tW (Memref.isWhole_whole _) nW (Memref.isWhole_whole _) cW (Memref.isWhole_whole _)
    pW (Memref.isWhole_whole _) p hp p hp t ht t ht bp0 (Memref.isWhole_whole _) bp1 (Memref.isWhole_whole _) vn (Memref.isWhole_whole _)
    vc (Memref.isWhole_whole _) vp (Memref.isWhole_whole _) cc1_scratch9 cc1_scratch10 cc1_scratch11 cc1_scratch12 cc1_scratch13
    cc1_scratch14 cc1_scoped0 cc1_scoped1 cc1_scoped2 0#32 k1_pay113 k1_pay114 k1_pay115 k1_pay116 k1_pay117 k1_pay118 k1_pay119
    k1_pay120 k1_pay121 k1_pay122 k1_pay123 k1_pay124 k1_pay125 k1_pay126 k1_pay127 k1_pay128 k1_pay129

/-- The body of a presence loop over rows, reading the labels in `t`. -/
abbrev prowBody (t : Memref sig .scVector .vmem S32x512 .i32) (ht : t.IsWhole) :
    Fin k1_t17_loop.trips → IVec S16 32 → Prog (TpuEff nD τ sig (Elt F) Λ₀ (.scVector (cV L) (jV L))) (IVec S16 32) :=
  k1_t17_body (F := F) L xW (Memref.isWhole_whole _) tW (Memref.isWhole_whole _) nW (Memref.isWhole_whole _) cW (Memref.isWhole_whole _)
    pW (Memref.isWhole_whole _) bx0 (Memref.isWhole_whole _) bx1 (Memref.isWhole_whole _) bt0 (Memref.isWhole_whole _)
    bt1 (Memref.isWhole_whole _) t ht t ht vn (Memref.isWhole_whole _)
    vc (Memref.isWhole_whole _) vp (Memref.isWhole_whole _) cc1_scratch9 cc1_scratch10 cc1_scratch11 cc1_scratch12 cc1_scratch13
    cc1_scratch14 cc1_scoped0 cc1_scoped1 cc1_scoped2 0#32 k1_pay116 k1_pay115 0#32 0#32 0#32 0#32 0#32

/-- What a chunk's loop holds: the two buffers, and in the accumulators the rows so far. -/
abbrev rowInv (p : Memref sig .scVector .vmem S10x8x512 .f32) (t : Memref sig .scVector .vmem S8x512 .i32)
    (fp : Buf (Elt F) (p.view.loc (VT d L))) (ft : Buf (Elt F) (t.view.loc (VT d L))) (a₀ : Acc F) (k : ℕ) (a : Acc F) : sProp (Mo F) :=
  iprop(⌜a = rows (p.view.read (Elt F) fp) (t.view.read (Elt F) ft) k a₀⌝
    ∗ (p.view.loc (VT d L) ↦[p.view.set]{fullShare} fp) ∗ (t.view.loc (VT d L) ↦[t.view.set]{fullShare} ft))

/-- A row of a chunk: its trips take the accumulators through the row. -/
theorem row_step (p : Memref sig .scVector .vmem S10x8x512 .f32) (hp : p.IsWhole) (t : Memref sig .scVector .vmem S8x512 .i32) (ht : t.IsWhole)
    (fp : Buf (Elt F) (p.view.loc (VT d L))) (ft : Buf (Elt F) (t.view.loc (VT d L))) (a₀ : Acc F) (r : Fin k1_t1_loop.trips) (a : Acc F) :
    rowInv d L p t fp ft a₀ r.val a
      ⊢ wp frame (wpE defs₀ 𝒱₀ (VT d L) none) Set.univ (rowBody L p hp t ht r a) (rowInv d L p t fp ft a₀ (r.val + 1)) := by
  iintro ⟨%ha, Hp, Ht⟩
  subst ha
  unfold rowBody
  sl_unfold [k1_t1_body]
  sl_exec
  sl_for (fun k (b : Acc F) => iprop(⌜b = upto (fun c => col (p.view.read (Elt F) fp) (t.view.read (Elt F) ft) r c) k (rows (p.view.read (Elt F) fp) (t.view.read (Elt F) ft) r.val a₀)⌝
    ∗ (p.view.loc (VT d L) ↦[p.view.set]{fullShare} fp) ∗ (t.view.loc (VT d L) ↦[t.view.set]{fullShare} ft))) $$ [Hp Ht]
  case region =>
    intro c b
    iintro ⟨%hb, Hp, Ht⟩
    subst hb
    sl_unfold_run_names
    sl_unfold [k1_t2_body]
    sl_exec
    sl_step
    isplitr [Hp Ht]
    · ipureintro
      rw [upto_succ]
      sl_unfold_run_names
      rfl
    isplitl [Hp] <;> iassumption
  · isplitr [Hp Ht]
    · ipureintro; rfl
    isplitl [Hp] <;> iassumption
  iintro %b ⟨%hb, Hp, Ht⟩
  subst hb
  sl_exec
  sl_step
  isplitr [Hp Ht]
  · ipureintro
    exact (upto_succ (fun r => upto (fun c => col (p.view.read (Elt F) fp) (t.view.read (Elt F) ft) r c) k1_t2_loop.trips) r a₀).symm
  isplitl [Hp] <;> iassumption

/-- What a presence loop holds. -/
abbrev prowInv (t : Memref sig .scVector .vmem S32x512 .i32) (ft : Buf (Elt F) (t.view.loc (VT d L))) (a₀ : IVec S16 32) (k : ℕ) (a : IVec S16 32) : sProp (Mo F) :=
  iprop(⌜a = prows (t.view.read (Elt F) ft) k a₀⌝ ∗ (t.view.loc (VT d L) ↦[t.view.set]{fullShare} ft))

/-- A row of the scan: its trips take the bits through the row. -/
theorem prow_step (t : Memref sig .scVector .vmem S32x512 .i32) (ht : t.IsWhole) (ft : Buf (Elt F) (t.view.loc (VT d L))) (a₀ : IVec S16 32)
    (r : Fin k1_t17_loop.trips) (a : IVec S16 32) :
    prowInv d L t ft a₀ r.val a
      ⊢ wp frame (wpE (defs₀ (F := F)) 𝒱₀ (VT d L) none) Set.univ (prowBody L t ht r a) (prowInv d L t ft a₀ (r.val + 1)) := by
  iintro ⟨%ha, Ht⟩
  subst ha
  unfold prowBody
  sl_unfold [k1_t17_body]
  sl_exec
  sl_for (fun k (b : IVec S16 32) => iprop(⌜b = upto (fun c => pcol (t.view.read (Elt F) ft) r c) k (prows (t.view.read (Elt F) ft) r.val a₀)⌝
    ∗ (t.view.loc (VT d L) ↦[t.view.set]{fullShare} ft))) $$ [Ht]
  case region =>
    intro c b
    iintro ⟨%hb, Ht⟩
    subst hb
    sl_unfold_run_names
    sl_unfold [k1_t18_body]
    sl_exec
    sl_step
    isplitr [Ht]
    · ipureintro
      rw [upto_succ]
      rfl
    iassumption
  · isplitr [Ht]
    · ipureintro; rfl
    iassumption
  iintro %b ⟨%hb, Ht⟩
  subst hb
  sl_exec
  sl_step
  isplitr [Ht]
  · ipureintro
    exact (upto_succ (fun r => upto (fun c => pcol (t.view.read (Elt F) ft) r c) k1_t18_loop.trips) r a₀).symm
  iassumption

end Run

end Cert.Proof.Loss

end
-- ==== Proof.Blocks.lean ====
/-
  The blocks that one tile reads and what its loops make of them: eight chunks of logits and labels, then six blocks of
  labels for the presence scan. `chunksVal` and `scanVal` are the tile's vectors so far; the steps say that a trip of a
  loop over rows keeps that.
-/
module

public import proofs.«01_k».proof.Proof.Trip

@[expose] public section

noncomputable section

namespace Cert.Proof.Loss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

section Tile

variable (m : (ℓ : Loc nD τ sig) → Buf (Elt F) ℓ) (d : Dev nD) (L : grid1.Coords)

/-! ## The blocks that the tile reads -/

/-- Chunk `k` of the tile's logits, its labels, and block `k` of the labels of its presence scan, as memrefs. -/
abbrev xSl (k : Fin 8) : Memref sig .scVector .hbm S10x8x512 .f32 :=
  (xW.slice (Rect.unit (s := S16x10x512x512) (k1_off1 L (BitVec.ofNat 32 (8 * k.val))) S1x10x8x512.size (k1_off1_inb L k)) (fun _ => rfl)).squeeze
    S10x8x512 squeezes_S1x10x8x512_S10x8x512
abbrev tSl (k : Fin 8) : Memref sig .scVector .hbm S8x512 .i32 :=
  (tW.slice (Rect.unit (s := S16x512x512) (k1_off2 L (BitVec.ofNat 32 (8 * k.val))) S1x8x512.size (k1_off2_inb L k)) (fun _ => rfl)).squeeze
    S8x512 squeezes_S1x8x512_S8x512
abbrev pSl (k : Fin 6) : Memref sig .scVector .hbm S32x512 .i32 :=
  (tW.slice (Rect.unit (s := S16x512x512) (k1_off80 L (BitVec.ofNat 32 (32 * k.val))) S1x32x512.size (k1_off80_inb L k)) (fun _ => rfl)).squeeze
    S32x512 squeezes_S1x32x512_S32x512

/-- What they hold. -/
def chunkX (k : Fin 8) : Vec F S10x8x512 .f32 := (xSl L k).view.read (Elt F) (m (xLoc d))
def chunkT (k : Fin 8) : Vec F S8x512 .i32 := (tSl L k).view.read (Elt F) (m (tLoc d))
def scanT (k : Fin 6) : Vec F S32x512 .i32 := (pSl L k).view.read (Elt F) (m (tLoc d))

/-- The tile's three vectors after `k` chunks. -/
def chunksVal (k : ℕ) : Acc F :=
  upto (fun k : Fin 8 => rows (chunkX m d L k) (chunkT m d L k) k1_t1_loop.trips) k (k1_pay113, k1_pay114, k1_pay115)

/-- The labels' bits after `k` blocks of the scan. -/
def scanVal (k : ℕ) : IVec S16 32 :=
  upto (fun k : Fin 6 => prows (F := F) (scanT m d L k) k1_t17_loop.trips) k (chunksVal m d L 8).2.2

/-- The nine DMA cells that the body names, at zero. -/
abbrev cells0 : sProp (Mo F) :=
  iprop(semVal ((VT d L), .dma cc1_scratch9.sem) 0 ∗ semVal ((VT d L), .dma cc1_scratch10.sem) 0 ∗ semVal ((VT d L), .dma cc1_scratch11.sem) 0
    ∗ semVal ((VT d L), .dma cc1_scratch12.sem) 0 ∗ semVal ((VT d L), .dma cc1_scratch13.sem) 0 ∗ semVal ((VT d L), .dma cc1_scratch14.sem) 0
    ∗ semVal ((VT d L), .dma cc1_scoped0.sem) 0 ∗ semVal ((VT d L), .dma cc1_scoped1.sem) 0 ∗ semVal ((VT d L), .dma cc1_scoped2.sem) 0)

/-- The tile's row of the arrays of results. -/
abbrev nRow : Memref sig .scVector .hbm S16 .f32 := (nW.slice (Rect.unit (s := S32x16) (k1_off98 L) S1x16.size (k1_off98_inb L)) (fun _ => rfl)).squeeze S16 squeezes_S1x16_S16
abbrev cRow : Memref sig .scVector .hbm S16 .f32 := (cW.slice (Rect.unit (s := S32x16) (k1_off98 L) S1x16.size (k1_off98_inb L)) (fun _ => rfl)).squeeze S16 squeezes_S1x16_S16
abbrev pRow : Memref sig .scVector .hbm S16 .i32 := (pW.slice (Rect.unit (s := S32x16) (k1_off98 L) S1x16.size (k1_off98_inb L)) (fun _ => rfl)).squeeze S16 squeezes_S1x16_S16

/-- One more chunk adds its rows to the accumulators. -/
theorem chunksVal_succ (k : Fin 8) : chunksVal m d L (k.val + 1) = rows (chunkX m d L k) (chunkT m d L k) k1_t1_loop.trips (chunksVal m d L k.val) :=
  upto_succ _ k _

/-- One more block of the scan adds its rows to the bits. -/
theorem scanVal_succ (k : Fin 6) : scanVal m d L (k.val + 1) = prows (F := F) (scanT m d L k) k1_t17_loop.trips (scanVal m d L k.val) :=
  upto_succ _ k _

/-- Before the first chunk the accumulators hold their starting values. -/
theorem chunksVal_zero : ((k1_pay113, k1_pay114, k1_pay115) : Acc F) = chunksVal m d L (0 : Fin 8).val := rfl
/-- The scan starts from the bits that the chunks have left. -/
theorem scanVal_zero : (chunksVal m d L 8).2.2 = scanVal m d L (0 : Fin 6).val := rfl

/-- What a chunk's loop holds: in the two buffers the chunk, in the accumulators the rows so far. -/
abbrev chunkInv (p : Memref sig .scVector .vmem S10x8x512 .f32) (t : Memref sig .scVector .vmem S8x512 .i32) (k : Fin 8) (n : ℕ) (a : Acc F) : sProp (Mo F) :=
  iprop(⌜a = rows (chunkX m d L k) (chunkT m d L k) n (chunksVal m d L k.val)⌝
    ∗ (∃ fp, ⌜p.view.read (Elt F) fp = chunkX m d L k⌝ ∗ (p.view.loc (VT d L) ↦[p.view.set]{fullShare} fp))
    ∗ (∃ ft, ⌜t.view.read (Elt F) ft = chunkT m d L k⌝ ∗ (t.view.loc (VT d L) ↦[t.view.set]{fullShare} ft)))

/-- A chunk's loop starts when its two copies have landed, -/
theorem chunk_enter (p : Memref sig .scVector .vmem S10x8x512 .f32) (t : Memref sig .scVector .vmem S8x512 .i32) (k : Fin 8) {a : Acc F}
    {f : Buf (Elt F) (p.view.loc (VT d L))} {g : Buf (Elt F) (t.view.loc (VT d L))} {X : Vec F S10x8x512 .f32} {T : Vec F S8x512 .i32}
    (ha : a = chunksVal m d L k.val) (hX : chunkX m d L k = X) (hT : chunkT m d L k = T) :
    ⊢ iprop((p.view.loc (VT d L) ↦[p.view.set]{fullShare} p.view.writes (Elt F) f [⟨Rect.whole S10x8x512, X⟩])
      -∗ (t.view.loc (VT d L) ↦[t.view.set]{fullShare} t.view.writes (Elt F) g [⟨Rect.whole S8x512, T⟩]) -∗ chunkInv m d L p t k 0 a) := by
  subst ha; subst hX; subst hT
  iintro Hp Ht
  isplitr [Hp Ht]
  · ipureintro; exact rows_zero _ _ _
  isplitl [Hp]
  · iexists (p.view.writes (Elt F) f [⟨Rect.whole S10x8x512, chunkX m d L k⟩]); isplitr
    · ipureintro; exact View.read_writes_whole _ _ _
    iassumption
  · iexists (t.view.writes (Elt F) g [⟨Rect.whole S8x512, chunkT m d L k⟩]); isplitr
    · ipureintro; exact View.read_writes_whole _ _ _
    iassumption

/-- and leaves the vectors after the chunk. -/
theorem chunk_exit (p : Memref sig .scVector .vmem S10x8x512 .f32) (t : Memref sig .scVector .vmem S8x512 .i32) (k : Fin 8) (a : Acc F) :
    chunkInv m d L p t k k1_t1_loop.trips a
      ⊢ iprop(⌜a = chunksVal m d L (k.val + 1)⌝ ∗ (∃ fp, (p.view.loc (VT d L) ↦[p.view.set]{fullShare} fp)) ∗ (∃ ft, (t.view.loc (VT d L) ↦[t.view.set]{fullShare} ft))) := by
  iintro ⟨%ha, ⟨%fp, %hfp, Hp⟩, ⟨%ft, %hft, Ht⟩⟩
  isplitr [Hp Ht]
  · ipureintro; exact ha.trans (chunksVal_succ m d L k).symm
  isplitl [Hp]
  · iexists _; iassumption
  · iexists _; iassumption

/-- One row of a chunk keeps the chunk's invariant. -/
theorem chunk_step (p : Memref sig .scVector .vmem S10x8x512 .f32) (hp : p.IsWhole) (t : Memref sig .scVector .vmem S8x512 .i32) (ht : t.IsWhole)
    (k : Fin 8) (r : Fin k1_t1_loop.trips) (a : Acc F) :
    chunkInv m d L p t k r.val a
      ⊢ wp frame (wpE defs₀ 𝒱₀ (VT d L) none) Set.univ (rowBody L p hp t ht r a) (chunkInv m d L p t k (r.val + 1)) := by
  iintro ⟨%ha, ⟨%fp, %hfp, Hp⟩, ⟨%ft, %hft, Ht⟩⟩
  have h := row_step d L p hp t ht fp ft (chunksVal m d L k.val) r a
  unfold rowInv at h
  rw [hfp, hft] at h
  iapply (wp_wand Idealize.ShloMosaic.frame (wpE (defs₀ (F := F)) 𝒱₀ (VT d L) none) Set.univ) $$ [Hp Ht]
  · iapply h
    isplitr [Hp Ht]
    · ipureintro; exact ha
    isplitl [Hp] <;> iassumption
  iintro %b ⟨%hb, Hp, Ht⟩
  isplitr [Hp Ht]
  · ipureintro; exact hb
  isplitl [Hp]
  · iexists fp; isplitr; · ipureintro; exact hfp
    iassumption
  iexists ft; isplitr; · ipureintro; exact hft
  iassumption

/-- What a block's loop of the presence scan holds. -/
abbrev scanInv (t : Memref sig .scVector .vmem S32x512 .i32) (k : Fin 6) (n : ℕ) (a : IVec S16 32) : sProp (Mo F) :=
  iprop(⌜a = prows (F := F) (scanT m d L k) n (scanVal m d L k.val)⌝
    ∗ (∃ ft, ⌜t.view.read (Elt F) ft = scanT m d L k⌝ ∗ (t.view.loc (VT d L) ↦[t.view.set]{fullShare} ft)))

/-- At the start of a block of the scan its invariant holds. -/
theorem scan_enter (t : Memref sig .scVector .vmem S32x512 .i32) (k : Fin 6) {a : IVec S16 32}
    {g : Buf (Elt F) (t.view.loc (VT d L))} {T : Vec F S32x512 .i32}
    (ha : a = scanVal m d L k.val) (hT : scanT m d L k = T) :
    ⊢ iprop((t.view.loc (VT d L) ↦[t.view.set]{fullShare} t.view.writes (Elt F) g [⟨Rect.whole S32x512, T⟩]) -∗ scanInv m d L t k 0 a) := by
  subst ha; subst hT
  iintro Ht
  isplitr [Ht]
  · ipureintro; exact prows_zero _ _
  iexists (t.view.writes (Elt F) g [⟨Rect.whole S32x512, scanT m d L k⟩]); isplitr
  · ipureintro; exact View.read_writes_whole _ _ _
  iassumption

/-- At the end of a block of the scan the bits are those of one more block, and the buffer is given back. -/
theorem scan_exit (t : Memref sig .scVector .vmem S32x512 .i32) (k : Fin 6) (a : IVec S16 32) :
    scanInv m d L t k k1_t17_loop.trips a
      ⊢ iprop(⌜a = scanVal m d L (k.val + 1)⌝ ∗ (∃ ft, (t.view.loc (VT d L) ↦[t.view.set]{fullShare} ft))) := by
  iintro ⟨%ha, ⟨%ft, %hft, Ht⟩⟩
  isplitr [Ht]
  · ipureintro; exact ha.trans (scanVal_succ m d L k).symm
  iexists _; iassumption

/-- One row of a block of the scan keeps its invariant. -/
theorem scan_step (t : Memref sig .scVector .vmem S32x512 .i32) (ht : t.IsWhole) (k : Fin 6) (r : Fin k1_t17_loop.trips) (a : IVec S16 32) :
    scanInv m d L t k r.val a
      ⊢ wp frame (wpE (defs₀ (F := F)) 𝒱₀ (VT d L) none) Set.univ (prowBody L t ht r a) (scanInv m d L t k (r.val + 1)) := by
  iintro ⟨%ha, ⟨%ft, %hft, Ht⟩⟩
  have h := prow_step d L t ht ft (scanVal m d L k.val) r a
  unfold prowInv at h
  rw [hft] at h
  iapply (wp_wand Idealize.ShloMosaic.frame (wpE (defs₀ (F := F)) 𝒱₀ (VT d L) none) Set.univ) $$ [Ht]
  · iapply h
    isplitr [Ht]
    · ipureintro; exact ha
    iassumption
  iintro %b ⟨%hb, Ht⟩
  isplitr [Ht]
  · ipureintro; exact hb
  iexists ft; isplitr; · ipureintro; exact hft
  iassumption

end Tile

end Cert.Proof.Loss

end
-- ==== Proof.Tile.lean ====
/-
  One tile's run. The tile copies its eight chunks of logits and labels into two pairs of buffers, each copy beside the
  arithmetic on the chunk before, then six blocks of labels for the presence scan the same way, and writes its three
  vectors to its row of the three arrays of results.
-/
module

public import Idealize.ShloMosaic.Lib.VecWindow
public import Idealize.ShloMosaic.Lib.Pointwise.Reshape
public import proofs.«01_k».proof.Proof.Blocks

@[expose] public section

noncomputable section

namespace Cert.Proof.Loss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

section Tile

attribute [local irreducible] rows prows chunksVal scanVal

variable (m : (ℓ : Loc nD τ sig) → Buf (Elt F) ℓ) (d : Dev nD) (L : grid1.Coords)

/-- What the run leaves: the arrays read as they were, the three rows at the tile's vectors, the buffers at some contents,
the cells at zero. -/
abbrev tileDone (qx qt : PosShare TreeShare) (O : CellTallies nD τ sig (HIx 1)) (W : Waits sig (HIx 1)) : sProp (Mo F) :=
  iprop((xW.view.loc (VT d L) ↦{Transfers.shareTokN qx 0} m (xLoc d))
    ∗ (xW.view.loc (VT d L) ↦{Transfers.shareTokN qx 1} m (xLoc d))
    ∗ (tW.view.loc (VT d L) ↦{Transfers.shareTokN qt 0} m (tLoc d))
    ∗ (tW.view.loc (VT d L) ↦{Transfers.shareTokN qt 1} m (tLoc d))
    ∗ (tW.view.loc (VT d L) ↦{Transfers.shareTokN qt 2} m (tLoc d))
    ∗ (tW.view.loc (VT d L) ↦{Transfers.shareTokN qt 3} m (tLoc d))
    ∗ (∃ g, ⌜(nRow L).view.read (Elt F) g = (chunksVal m d L 8).1⌝ ∗ ((nRow L).view.loc (VT d L) ↦[(nRow L).view.set]{fullShare} g))
    ∗ (∃ g, ⌜(cRow L).view.read (Elt F) g = (chunksVal m d L 8).2.1⌝ ∗ ((cRow L).view.loc (VT d L) ↦[(cRow L).view.set]{fullShare} g))
    ∗ (∃ g, ⌜(pRow L).view.read (Elt F) g = scanVal m d L 6⌝ ∗ ((pRow L).view.loc (VT d L) ↦[(pRow L).view.set]{fullShare} g))
    ∗ (∃ f, bx0.view.loc (VT d L) ↦[bx0.view.set]{fullShare} f)
    ∗ (∃ f, bx1.view.loc (VT d L) ↦[bx1.view.set]{fullShare} f)
    ∗ (∃ f, bt0.view.loc (VT d L) ↦[bt0.view.set]{fullShare} f)
    ∗ (∃ f, bt1.view.loc (VT d L) ↦[bt1.view.set]{fullShare} f)
    ∗ (∃ f, bp0.view.loc (VT d L) ↦[bp0.view.set]{fullShare} f)
    ∗ (∃ f, bp1.view.loc (VT d L) ↦[bp1.view.set]{fullShare} f)
    ∗ (∃ f, vn.view.loc (VT d L) ↦[vn.view.set]{fullShare} f)
    ∗ (∃ f, vc.view.loc (VT d L) ↦[vc.view.set]{fullShare} f)
    ∗ (∃ f, vp.view.loc (VT d L) ↦[vp.view.set]{fullShare} f)
    ∗ cells0 d L
    ∗ ∃ W', ⌜∀ p ∈ W', p ∈ W ∨ p.2 = none ∨ p.2 = some (0 : Fin 1)⌝ ∗ owes (VT d L) O W')

/-- A vector stored in a buffer and copied out is what arrives in the row. -/
theorem read_row {e : EltTy} (r : Memref sig .scVector .hbm S16 e) (v : Memref sig .scVector .vmem S16 e)
    (g : r.view.ty.Contents (Elt F)) (f : v.view.ty.Contents (Elt F)) (inb : ∀ a, (![0] : Fin 1 → ℕ) a + S16.size a ≤ S16.size a) (x : Vec F S16 e) :
    r.view.read (Elt F) (r.view.writes (Elt F) g [⟨Rect.whole S16, v.view.read (Elt F)
      (v.view.writes (Elt F) f [⟨Rect.unit (s := S16) ![0] S16.size inb, shapeCast S16 x shapeCasts_S16_S16⟩])⟩]) = x := by
  rw [View.read_writes_whole, View.read_writes_full, shapeCast_id]

set_option maxHeartbeats 8000000 in
/-- The tile's run, from its arrays, buffers and cells. -/
theorem tile_run (qx qt : PosShare TreeShare) (O : CellTallies nD τ sig (HIx 1)) (W : Waits sig (HIx 1))
    (gn : Buf (Elt F) (nLoc d)) (gc : Buf (Elt F) (cLoc d)) (gp : Buf (Elt F) (pLoc d))
    (f0 : Buf (Elt F) (bx0.view.loc (VT d L))) (f1 : Buf (Elt F) (bx1.view.loc (VT d L)))
    (f2 : Buf (Elt F) (bt0.view.loc (VT d L))) (f3 : Buf (Elt F) (bt1.view.loc (VT d L)))
    (f4 : Buf (Elt F) (bp0.view.loc (VT d L))) (f5 : Buf (Elt F) (bp1.view.loc (VT d L)))
    (f6 : Buf (Elt F) (vn.view.loc (VT d L))) (f7 : Buf (Elt F) (vc.view.loc (VT d L))) (f8 : Buf (Elt F) (vp.view.loc (VT d L))) :
    (iprop(Transfers.MayWaits (VT d L) (default : HIx 1) O
        ∗ (xW.view.loc (VT d L) ↦{Transfers.shareTokN qx 0} m (xLoc d))
        ∗ (xW.view.loc (VT d L) ↦{Transfers.shareTokN qx 1} m (xLoc d))
        ∗ (tW.view.loc (VT d L) ↦{Transfers.shareTokN qt 0} m (tLoc d))
        ∗ (tW.view.loc (VT d L) ↦{Transfers.shareTokN qt 1} m (tLoc d))
        ∗ (tW.view.loc (VT d L) ↦{Transfers.shareTokN qt 2} m (tLoc d))
        ∗ (tW.view.loc (VT d L) ↦{Transfers.shareTokN qt 3} m (tLoc d))
        ∗ ((nRow L).view.loc (VT d L) ↦[(nRow L).view.set]{fullShare} gn)
        ∗ ((cRow L).view.loc (VT d L) ↦[(cRow L).view.set]{fullShare} gc)
        ∗ ((pRow L).view.loc (VT d L) ↦[(pRow L).view.set]{fullShare} gp)
        ∗ (bx0.view.loc (VT d L) ↦[bx0.view.set]{fullShare} f0)
        ∗ (bx1.view.loc (VT d L) ↦[bx1.view.set]{fullShare} f1)
        ∗ (bt0.view.loc (VT d L) ↦[bt0.view.set]{fullShare} f2)
        ∗ (bt1.view.loc (VT d L) ↦[bt1.view.set]{fullShare} f3)
        ∗ (bp0.view.loc (VT d L) ↦[bp0.view.set]{fullShare} f4)
        ∗ (bp1.view.loc (VT d L) ↦[bp1.view.set]{fullShare} f5)
        ∗ (vn.view.loc (VT d L) ↦[vn.view.set]{fullShare} f6)
        ∗ (vc.view.loc (VT d L) ↦[vc.view.set]{fullShare} f7)
        ∗ (vp.view.loc (VT d L) ↦[vp.view.set]{fullShare} f8)
        ∗ cells0 d L
        ∗ owes (VT d L) O W) : sProp (Mo F))
      ⊢ wp frame (wpE (defs₀ (F := F)) 𝒱₀ (VT d L) none) Set.univ
          (cc1__sc_main (F := F) L xW (Memref.isWhole_whole _) tW (Memref.isWhole_whole _) nW (Memref.isWhole_whole _) cW (Memref.isWhole_whole _)
            pW (Memref.isWhole_whole _) bx0 (Memref.isWhole_whole _) bx1 (Memref.isWhole_whole _) bt0 (Memref.isWhole_whole _) bt1 (Memref.isWhole_whole _)
            bp0 (Memref.isWhole_whole _) bp1 (Memref.isWhole_whole _) vn (Memref.isWhole_whole _)
            vc (Memref.isWhole_whole _) vp (Memref.isWhole_whole _) cc1_scratch9 cc1_scratch10 cc1_scratch11 cc1_scratch12 cc1_scratch13
            cc1_scratch14 cc1_scoped0 cc1_scoped1 cc1_scoped2)
          fun _ => tileDone m d L qx qt O W := by
  iintro ⟨#Hmw, Hx0, Hx1, Ht0, Ht1, Ht2, Ht3, Hn, Hc, Hp, Hbx0, Hbx1, Hbt0, Hbt1, Hbp0, Hbp1, Hvn, Hvc, Hvp, ⟨Hs0, Hs1, Hs2, Hs3, Hs4, Hs5, Hs6, Hs7, Hs8⟩, HO⟩
  sl_unfold [cc1__sc_main]
  sl_exec
  sl_for (chunkInv m d L bx0 bt0 0) $$ [Hbx0 Hbt0]
  case region => exact chunk_step m d L bx0 (Memref.isWhole_whole _) bt0 (Memref.isWhole_whole _) 0
  · iapply (chunk_enter m d L bx0 bt0 0 (chunksVal_zero m d L) ?_ ?_) $$ Hbx0 Hbt0 <;> rfl
  iintro %a H
  ihave ⟨%ha, ⟨%fx, Hbx0⟩, ⟨%ft, Hbt0⟩⟩ := (chunk_exit m d L bx0 bt0 0 a) $$ H
  subst ha
  sl_exec
  sl_for (chunkInv m d L bx1 bt1 1) $$ [Hbx1 Hbt1]
  case region => exact chunk_step m d L bx1 (Memref.isWhole_whole _) bt1 (Memref.isWhole_whole _) 1
  · iapply (chunk_enter m d L bx1 bt1 1 (rfl) ?_ ?_) $$ Hbx1 Hbt1 <;> rfl
  iintro %a H
  ihave ⟨%ha, ⟨%fx, Hbx1⟩, ⟨%ft, Hbt1⟩⟩ := (chunk_exit m d L bx1 bt1 1 a) $$ H
  subst ha
  sl_exec
  sl_for (chunkInv m d L bx0 bt0 2) $$ [Hbx0 Hbt0]
  case region => exact chunk_step m d L bx0 (Memref.isWhole_whole _) bt0 (Memref.isWhole_whole _) 2
  · iapply (chunk_enter m d L bx0 bt0 2 (rfl) ?_ ?_) $$ Hbx0 Hbt0 <;> rfl
  iintro %a H
  ihave ⟨%ha, ⟨%fx, Hbx0⟩, ⟨%ft, Hbt0⟩⟩ := (chunk_exit m d L bx0 bt0 2 a) $$ H
  subst ha
  sl_exec
  sl_for (chunkInv m d L bx1 bt1 3) $$ [Hbx1 Hbt1]
  case region => exact chunk_step m d L bx1 (Memref.isWhole_whole _) bt1 (Memref.isWhole_whole _) 3
  · iapply (chunk_enter m d L bx1 bt1 3 (rfl) ?_ ?_) $$ Hbx1 Hbt1 <;> rfl
  iintro %a H
  ihave ⟨%ha, ⟨%fx, Hbx1⟩, ⟨%ft, Hbt1⟩⟩ := (chunk_exit m d L bx1 bt1 3 a) $$ H
  subst ha
  sl_exec
  sl_for (chunkInv m d L bx0 bt0 4) $$ [Hbx0 Hbt0]
  case region => exact chunk_step m d L bx0 (Memref.isWhole_whole _) bt0 (Memref.isWhole_whole _) 4
  · iapply (chunk_enter m d L bx0 bt0 4 (rfl) ?_ ?_) $$ Hbx0 Hbt0 <;> rfl
  iintro %a H
  ihave ⟨%ha, ⟨%fx, Hbx0⟩, ⟨%ft, Hbt0⟩⟩ := (chunk_exit m d L bx0 bt0 4 a) $$ H
  subst ha
  sl_exec
  sl_for (chunkInv m d L bx1 bt1 5) $$ [Hbx1 Hbt1]
  case region => exact chunk_step m d L bx1 (Memref.isWhole_whole _) bt1 (Memref.isWhole_whole _) 5
  · iapply (chunk_enter m d L bx1 bt1 5 (rfl) ?_ ?_) $$ Hbx1 Hbt1 <;> rfl
  iintro %a H
  ihave ⟨%ha, ⟨%fx, Hbx1⟩, ⟨%ft, Hbt1⟩⟩ := (chunk_exit m d L bx1 bt1 5 a) $$ H
  subst ha
  sl_exec
  sl_for (chunkInv m d L bx0 bt0 6) $$ [Hbx0 Hbt0]
  case region => exact chunk_step m d L bx0 (Memref.isWhole_whole _) bt0 (Memref.isWhole_whole _) 6
  · iapply (chunk_enter m d L bx0 bt0 6 (rfl) ?_ ?_) $$ Hbx0 Hbt0 <;> rfl
  iintro %a H
  ihave ⟨%ha, ⟨%fx, Hbx0⟩, ⟨%ft, Hbt0⟩⟩ := (chunk_exit m d L bx0 bt0 6 a) $$ H
  subst ha
  sl_exec
  sl_for (chunkInv m d L bx1 bt1 7) $$ [Hbx1 Hbt1]
  case region => exact chunk_step m d L bx1 (Memref.isWhole_whole _) bt1 (Memref.isWhole_whole _) 7
  · iapply (chunk_enter m d L bx1 bt1 7 (rfl) ?_ ?_) $$ Hbx1 Hbt1 <;> rfl
  iintro %a H
  ihave ⟨%ha, ⟨%fx, Hbx1⟩, ⟨%ft, Hbt1⟩⟩ := (chunk_exit m d L bx1 bt1 7 a) $$ H
  subst ha
  sl_exec
  sl_for (scanInv m d L bp0 0) $$ [Hbp0]
  case region => exact scan_step m d L bp0 (Memref.isWhole_whole _) 0
  · iapply (scan_enter m d L bp0 0 (scanVal_zero m d L) ?_) $$ Hbp0; rfl
  iintro %a H
  ihave ⟨%ha, ⟨%ft, Hbp0⟩⟩ := (scan_exit m d L bp0 0 a) $$ H
  subst ha
  sl_exec
  sl_for (scanInv m d L bp1 1) $$ [Hbp1]
  case region => exact scan_step m d L bp1 (Memref.isWhole_whole _) 1
  · iapply (scan_enter m d L bp1 1 (rfl) ?_) $$ Hbp1; rfl
  iintro %a H
  ihave ⟨%ha, ⟨%ft, Hbp1⟩⟩ := (scan_exit m d L bp1 1 a) $$ H
  subst ha
  sl_exec
  sl_for (scanInv m d L bp0 2) $$ [Hbp0]
  case region => exact scan_step m d L bp0 (Memref.isWhole_whole _) 2
  · iapply (scan_enter m d L bp0 2 (rfl) ?_) $$ Hbp0; rfl
  iintro %a H
  ihave ⟨%ha, ⟨%ft, Hbp0⟩⟩ := (scan_exit m d L bp0 2 a) $$ H
  subst ha
  sl_exec
  sl_for (scanInv m d L bp1 3) $$ [Hbp1]
  case region => exact scan_step m d L bp1 (Memref.isWhole_whole _) 3
  · iapply (scan_enter m d L bp1 3 (rfl) ?_) $$ Hbp1; rfl
  iintro %a H
  ihave ⟨%ha, ⟨%ft, Hbp1⟩⟩ := (scan_exit m d L bp1 3 a) $$ H
  subst ha
  sl_exec
  sl_for (scanInv m d L bp0 4) $$ [Hbp0]
  case region => exact scan_step m d L bp0 (Memref.isWhole_whole _) 4
  · iapply (scan_enter m d L bp0 4 (rfl) ?_) $$ Hbp0; rfl
  iintro %a H
  ihave ⟨%ha, ⟨%ft, Hbp0⟩⟩ := (scan_exit m d L bp0 4 a) $$ H
  subst ha
  sl_exec
  sl_for (scanInv m d L bp1 5) $$ [Hbp1]
  case region => exact scan_step m d L bp1 (Memref.isWhole_whole _) 5
  · iapply (scan_enter m d L bp1 5 (rfl) ?_) $$ Hbp1; rfl
  iintro %a H
  ihave ⟨%ha, ⟨%ft, Hbp1⟩⟩ := (scan_exit m d L bp1 5 a) $$ H
  subst ha
  sl_exec
  sl_step
  isplitl [Hx0]; · iexact Hx0
  isplitl [Hx1]; · iexact Hx1
  isplitl [Ht0]; · iexact Ht0
  isplitl [Ht1]; · iexact Ht1
  isplitl [Ht2]; · iexact Ht2
  isplitl [Ht3]; · iexact Ht3
  isplitl [Hn]
  · iexists _; isplitr
    swap; · iexact Hn
    ipureintro; exact read_row (nRow L) vn gn f6 _ _
  isplitl [Hc]
  · iexists _; isplitr
    swap; · iexact Hc
    ipureintro; exact read_row (cRow L) vc gc f7 _ _
  isplitl [Hp]
  · iexists _; isplitr
    swap; · iexact Hp
    ipureintro; exact read_row (pRow L) vp gp f8 _ _
  isplitl [Hbx0]; · iexists _; iexact Hbx0
  isplitl [Hbx1]; · iexists _; iexact Hbx1
  isplitl [Hbt0]; · iexists _; iexact Hbt0
  isplitl [Hbt1]; · iexists _; iexact Hbt1
  isplitl [Hbp0]; · iexists _; iexact Hbp0
  isplitl [Hbp1]; · iexists _; iexact Hbp1
  isplitl [Hvn]; · iexists _; iexact Hvn
  isplitl [Hvc]; · iexists _; iexact Hvc
  isplitl [Hvp]; · iexists _; iexact Hvp
  isplitl [Hs0 Hs1 Hs2 Hs3 Hs4 Hs5 Hs6 Hs7 Hs8]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  iexists _; isplitr
  swap; · iexact HO
  ipureintro; intro p _
  rcases p.2 with _ | q
  · exact .inr (.inl rfl)
  · exact .inr (.inr (congrArg some (Subsingleton.elim q 0)))

end Tile

end Cert.Proof.Loss

end
-- ==== Proof.Rows.lean ====
/-
  The three arrays of results, of 32 rows of sixteen lanes: row `2 w + c` is that of subcore `w` of SparseCore `c`, and
  the rows of all the tiles are the array. `NV`, `CV`, `PV` are the arrays when every tile has written its row.
-/
module

public import proofs.«01_k».proof.Proof.Tile

@[expose] public section

noncomputable section

namespace Cert.Proof.Loss

open Cert.KernelIdeal Cert.KernelIdeal.Gen

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The first axis of the grid has two coordinates. -/
theorem bound_zero : grid1.bound 0 = 2 := rfl
/-- The second axis of the grid has sixteen coordinates. -/
theorem bound_one : grid1.bound 1 = 16 := rfl

/-- The number of a tile among the 32. -/
def wid (L : grid1.Coords) : Fin 32 := ⟨2 * (L 1).val + (L 0).val, by have h0 : (L 0).val < 2 := (L 0).isLt; have h1 : (L 1).val < 16 := (L 1).isLt; omega⟩

/-- The tile of a number. -/
def tileOf (i : Fin 32) : grid1.Coords := coordsV ⟨i.val % 2, show i.val % 2 < 2 by omega⟩ ⟨i.val / 2, show i.val / 2 < 16 by omega⟩

/-- The tile of a tile's number is the tile. -/
theorem tileOf_wid (L : grid1.Coords) : tileOf (wid L) = L := by
  have h0 : (L 0).val < 2 := (L 0).isLt
  funext a
  match a with
  | 0 => exact Fin.ext (show (2 * (L 1).val + (L 0).val) % 2 = (L 0).val by omega)
  | 1 => exact Fin.ext (show (2 * (L 1).val + (L 0).val) / 2 = (L 1).val by omega)

/-- The number of a number's tile is the number. -/
theorem wid_tileOf (i : Fin 32) : wid (tileOf i) = i := Fin.ext (show 2 * (i.val / 2) + i.val % 2 = i.val by omega)

/-- The rows of the arrays of results divide into 32 parts. -/
theorem hdiv : 32 ∣ S32x16.size 0 := ⟨1, rfl⟩
/-- A tile's row of the arrays of results. -/
abbrev rowSet (L : grid1.Coords) : Finset S32x16.Idx := (Rect.part (s := S32x16) (a₀ := 0) hdiv (wid L)).set

/-- The rectangle that a tile writes is its part of the rows. -/
theorem rowRect_eq (L : grid1.Coords) : Rect.unit (s := S32x16) (k1_off98 L) S1x16.size (k1_off98_inb L) = Rect.part (s := S32x16) (a₀ := 0) hdiv (wid L) := by
  unfold Rect.part Rect.block
  congr 1 <;> funext a
  · rw [k1_off98_eq]
    match a with
    | 0 => simp [Shape.partIx, Shape.partSize, wid]
    | 1 => simp [Shape.partIx, Shape.partSize]
  · match a with
    | 0 => simp [Shape.partSize]
    | 1 => simp [Shape.partSize]

/-- The row of a whole array is the tile's part of it. -/
theorem set_row (L : grid1.Coords) : (Rect.unit (s := S32x16) (k1_off98 L) S1x16.size (k1_off98_inb L)).set = rowSet L := by rw [rowRect_eq]

/-- The row that a tile writes of the sums is its own. -/
theorem set_nRow (L : grid1.Coords) : (nRow L).view.set = rowSet L := by
  show (((View.whole main_v1_0_scv).slice (Rect.unit (s := S32x16) (k1_off98 L) S1x16.size (k1_off98_inb L))).reshape S16 squeezes_S1x16_S16.numel_eq).set = _
  rw [View.set_reshape, View.set_slice]; exact Finset.map_refl.trans (set_row L)
/-- The row that a tile writes of the counts is its own. -/
theorem set_cRow (L : grid1.Coords) : (cRow L).view.set = rowSet L := by
  show (((View.whole main_v1_1_scv).slice (Rect.unit (s := S32x16) (k1_off98 L) S1x16.size (k1_off98_inb L))).reshape S16 squeezes_S1x16_S16.numel_eq).set = _
  rw [View.set_reshape, View.set_slice]; exact Finset.map_refl.trans (set_row L)
/-- The row that a tile writes of the bits is its own. -/
theorem set_pRow (L : grid1.Coords) : (pRow L).view.set = rowSet L := by
  show (((View.whole main_v1_2_scv).slice (Rect.unit (s := S32x16) (k1_off98 L) S1x16.size (k1_off98_inb L))).reshape S16 squeezes_S1x16_S16.numel_eq).set = _
  rw [View.set_reshape, View.set_slice]; exact Finset.map_refl.trans (set_row L)

/-! ## All the rows are the array -/

/-- The grid point of a pair. -/
abbrev pairL (p : Fin 2 × Fin 16) : grid1.Coords := coordsV p.1 p.2

/-- Different tiles have different numbers. -/
theorem pairL_wid (p q : Fin 2 × Fin 16) (h : p ≠ q) : wid (pairL p) ≠ wid (pairL q) := fun e => h (by
  have e' : pairL p = pairL q := by rw [← tileOf_wid (pairL p), e, tileOf_wid]
  exact Prod.ext (congrFun e' 0) (congrFun e' 1))

/-- Different tiles' rows are disjoint. -/
theorem rows_disjoint : ∀ p ∈ (Finset.univ : Finset (Fin 2 × Fin 16)), ∀ q ∈ (Finset.univ : Finset (Fin 2 × Fin 16)), p ≠ q → Disjoint (rowSet (pairL p)) (rowSet (pairL q)) :=
  fun p _ q _ h => Rect.part_disjoint hdiv (pairL_wid p q h)

/-- The tiles' rows are all the rows. -/
theorem rows_cover : (Finset.univ : Finset (Fin 2 × Fin 16)).biUnion (fun p => rowSet (pairL p)) = Finset.univ := by
  refine Finset.eq_univ_of_forall fun i => ?_
  have h := Finset.mem_univ i
  rw [← Rect.biUnion_part hdiv] at h
  obtain ⟨j, -, hj⟩ := Finset.mem_biUnion.mp h
  refine Finset.mem_biUnion.mpr ⟨((tileOf j) 0, (tileOf j) 1), Finset.mem_univ _, ?_⟩
  rw [← wid_tileOf j] at hj
  exact hj

/-- An array of results is its rows, SparseCore by SparseCore and tile by tile. -/
theorem pts_rows {ℓ : Loc nD τ sig} (K : Fin 2 × Fin 16 → Finset (Idx ℓ)) (hd : ∀ p ∈ (Finset.univ : Finset (Fin 2 × Fin 16)), ∀ q ∈ (Finset.univ : Finset (Fin 2 × Fin 16)), p ≠ q → Disjoint (K p) (K q))
    (hc : (Finset.univ : Finset (Fin 2 × Fin 16)).biUnion K = Finset.univ) (f : Buf (Elt F) ℓ) :
    (ℓ ↦{fullShare} f : sProp (Mo F)) = bigSep Finset.univ fun c : Fin 2 => bigSep Finset.univ fun w : Fin 16 => ℓ ↦[K (c, w)]{fullShare} f := by
  rw [← bigSep_univ_prod (fun p : Fin 2 × Fin 16 => (ℓ ↦[K p]{fullShare} f : sProp (Mo F))), ← pointsTo_biUnion Finset.univ (ℓ := ℓ) K hd, hc]

/-! ## The arrays at the end -/

section Values

variable (m : (ℓ : Loc nD τ sig) → Buf (Elt F) ℓ) (d : Dev nD)

/-- The lane of an index of an array of results. -/
def lane (i : S32x16.Idx) : S16.Idx := ix1 (i 1)

/-- The sums of the losses, the counts, the labels' bits, a row for each tile. -/
def NV : Buf (Elt F) (nLoc d) := fun (i : S32x16.Idx) => (chunksVal m d (tileOf (i 0)) 8).1 (lane i)
def CV : Buf (Elt F) (cLoc d) := fun (i : S32x16.Idx) => (chunksVal m d (tileOf (i 0)) 8).2.1 (lane i)
def PV : Buf (Elt F) (pLoc d) := fun (i : S32x16.Idx) => scanVal m d (tileOf (i 0)) 6 (lane i)

/-- Where a lane of the tile's row lies. -/
theorem emb_row (L : grid1.Coords) (x : S16.Idx) :
    (Rect.unit (s := S32x16) (k1_off98 L) S1x16.size (k1_off98_inb L)).emb (Shape.reshapeEquiv squeezes_S1x16_S16.numel_eq x) = ix2 (wid L) (x 0) := by
  have hx : Shape.reshapeEquiv squeezes_S1x16_S16.numel_eq x = (ix2 (0 : Fin 1) (x 0) : S1x16.Idx) :=
    Shape.reshapeEquiv_eq_of_vals _ _ _ _ _ (rowMajor_val2 _ 16 rfl) (rowMajor_val1 _) (by simp [ix2])
  rw [hx]
  funext a
  refine Fin.ext ?_
  match a with
  | 0 => simp [Rect.emb, Rect.unit, k1_off98_eq, wid, ix2]
  | 1 => simp [Rect.emb, Rect.unit, k1_off98_eq, ix2]

/-- An index of sixteen lanes is its coordinate. -/
theorem eq_ix1 (x : S16.Idx) : x = ix1 (x 0) := by funext a; match a with | 0 => rfl

attribute [local irreducible] chunksVal scanVal

/-- A row that reads the tile's vector agrees with the array. -/
theorem agree_n (L : grid1.Coords) (g : Buf (Elt F) (nLoc d)) (h : (nRow L).view.read (Elt F) g = (chunksVal m d L 8).1) :
    ∀ i ∈ rowSet L, g i = NV m d i := by
  intro i hi
  rw [← set_nRow] at hi
  obtain ⟨x, -, rfl⟩ := Finset.mem_map.mp hi
  have e := congrFun h x
  refine (show g ((nRow L).view.emb x) = _ from e).trans ?_
  show _ = NV m d ((Rect.unit (s := S32x16) (k1_off98 L) S1x16.size (k1_off98_inb L)).emb (Shape.reshapeEquiv squeezes_S1x16_S16.numel_eq x))
  rw [emb_row]
  show _ = (chunksVal m d (tileOf (wid L)) 8).1 (ix1 (x 0))
  rw [tileOf_wid]; exact congrArg (chunksVal m d L 8).1 (eq_ix1 x)
/-- A row of counts that reads as the tile's is that row of the whole array. -/
theorem agree_c (L : grid1.Coords) (g : Buf (Elt F) (cLoc d)) (h : (cRow L).view.read (Elt F) g = (chunksVal m d L 8).2.1) :
    ∀ i ∈ rowSet L, g i = CV m d i := by
  intro i hi
  rw [← set_cRow] at hi
  obtain ⟨x, -, rfl⟩ := Finset.mem_map.mp hi
  have e := congrFun h x
  refine (show g ((cRow L).view.emb x) = _ from e).trans ?_
  show _ = CV m d ((Rect.unit (s := S32x16) (k1_off98 L) S1x16.size (k1_off98_inb L)).emb (Shape.reshapeEquiv squeezes_S1x16_S16.numel_eq x))
  rw [emb_row]
  show _ = (chunksVal m d (tileOf (wid L)) 8).2.1 (ix1 (x 0))
  rw [tileOf_wid]; exact congrArg (chunksVal m d L 8).2.1 (eq_ix1 x)
/-- A row of bits that reads as the tile's is that row of the whole array. -/
theorem agree_p (L : grid1.Coords) (g : Buf (Elt F) (pLoc d)) (h : (pRow L).view.read (Elt F) g = scanVal m d L 6) :
    ∀ i ∈ rowSet L, g i = PV m d i := by
  intro i hi
  rw [← set_pRow] at hi
  obtain ⟨x, -, rfl⟩ := Finset.mem_map.mp hi
  have e := congrFun h x
  refine (show g ((pRow L).view.emb x) = _ from e).trans ?_
  show _ = PV m d ((Rect.unit (s := S32x16) (k1_off98 L) S1x16.size (k1_off98_inb L)).emb (Shape.reshapeEquiv squeezes_S1x16_S16.numel_eq x))
  rw [emb_row]
  show _ = scanVal m d (tileOf (wid L)) 6 (ix1 (x 0))
  rw [tileOf_wid]; exact congrArg (scanVal m d L 6) (eq_ix1 x)

end Values

end Cert.Proof.Loss

end
-- ==== Proof.Task.lean ====
/-
  A tile's task as the launch runs it: what the call hands to the SparseCores and these to their tiles, what comes back,
  and that the body of a tile turns the one into the other.
-/
module

public import proofs.«01_k».proof.Proof.Rows

@[expose] public section

noncomputable section

namespace Cert.Proof.Loss

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the call hands out and takes back -/

section Pieces

variable (m : (ℓ : Loc nD τ sig) → Buf (Elt F) ℓ) (d : Dev nD)

/-- SparseCore `c`'s share of the arguments, and tile `w`'s share of that. -/
abbrev coreShare (c : Fin 2) : PosShare TreeShare := Transfers.shareTok fullShare 2 c
abbrev tileShare (c : Fin 2) (w : Fin 16) : PosShare TreeShare := Transfers.shareTok (coreShare c) 16 w

/-- The arguments, at a share. -/
abbrev args (q : PosShare TreeShare) : sProp (Mo F) := iprop((xLoc d ↦{q} m (xLoc d)) ∗ (tLoc d ↦{q} m (tLoc d)))
/-- A tile's rows of the results. -/
abbrev rowsAt (L : grid1.Coords) (n : Buf (Elt F) (nLoc d)) (c : Buf (Elt F) (cLoc d)) (p : Buf (Elt F) (pLoc d)) : sProp (Mo F) :=
  iprop((nLoc d ↦[rowSet L]{fullShare} n) ∗ (cLoc d ↦[rowSet L]{fullShare} c) ∗ (pLoc d ↦[rowSet L]{fullShare} p))
/-- A tile's rows as the launch left them, and as the tile leaves them. -/
abbrev rowsIn (c : Fin 2) (w : Fin 16) : sProp (Mo F) := rowsAt d (coordsV c w) (m (nLoc d)) (m (cLoc d)) (m (pLoc d))
abbrev rowsOut (c : Fin 2) (w : Fin 16) : sProp (Mo F) := rowsAt d (coordsV c w) (NV m d) (CV m d) (PV m d)

/-- What a tile is handed and hands back, what a SparseCore is handed and hands back. -/
abbrev goP (c : Fin 2) (w : Fin 16) : sProp (Mo F) := iprop(args m d (tileShare c w) ∗ rowsIn m d c w)
abbrev tdP (c : Fin 2) (w : Fin 16) : sProp (Mo F) := iprop(args m d (tileShare c w) ∗ rowsOut m d c w)
abbrev stP (c : Fin 2) : sProp (Mo F) := iprop(args m d (coreShare c) ∗ bigSep Finset.univ fun w : Fin 16 => rowsIn m d c w)
abbrev dnP (c : Fin 2) : sProp (Mo F) := iprop(args m d (coreShare c) ∗ bigSep Finset.univ fun w : Fin 16 => rowsOut m d c w)

end Pieces

/-- What the call's signals carry. -/
def P (m : (ℓ : Loc nD τ sig) → Buf (Elt F) ℓ) : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable (m : (ℓ : Loc nD τ sig) → Buf (Elt F) ℓ) : (P m).IsStorable where
  st q d c := match q with | 0 => (inferInstance : BI.Storable (upEmb : UEmb _ (Mo F)) (stP m d (Fin.cast nCore_zero c)))
  dn q d c := match q with | 0 => (inferInstance : BI.Storable (upEmb : UEmb _ (Mo F)) (dnP m d (Fin.cast nCore_zero c)))
  go q d c i := match q with | 0 => (inferInstance : BI.Storable (upEmb : UEmb _ (Mo F)) (goP m d (Fin.cast nCore_zero c) (Fin.cast nSub_zero i)))
  td q d c i := match q with | 0 => (inferInstance : BI.Storable (upEmb : UEmb _ (Mo F)) (tdP m d (Fin.cast nCore_zero c) (Fin.cast nSub_zero i)))

/-! ## A tile's own buffers and cells -/

/-- Nine of a family set apart. -/
theorem pick9 {I : Type} [DecidableEq I] (s : Finset I) (f : Fin 9 → I) (inj : Function.Injective f) (sub : ∀ j, f j ∈ s) (Φ : I → sProp (Mo F)) :
    bigSep s Φ = iprop((Φ (f 0) ∗ Φ (f 1) ∗ Φ (f 2) ∗ Φ (f 3) ∗ Φ (f 4) ∗ Φ (f 5) ∗ Φ (f 6) ∗ Φ (f 7) ∗ Φ (f 8))
      ∗ bigSep (s \ Finset.univ.image f) Φ) := by
  rw [SparseCore.bigSep_sdiff_split' (t := Finset.univ.map ⟨f, inj⟩) (fun x hx => by obtain ⟨j, -, rfl⟩ := Finset.mem_map.mp hx; exact sub j), BI.bigSep_map,
    Finset.map_eq_image]
  rw [bigSep_univ_eq_bigSepL [0, 1, 2, 3, 4, 5, 6, 7, 8] (by decide) (by decide)]
  rfl

/-- The buffers and the cells that the body names. -/
def bufs : Fin 9 → Ref sig .scVector := ![cc1_scratch0, cc1_scratch1, cc1_scratch2, cc1_scratch3, cc1_scratch4, cc1_scratch5, cc1_scratch6, cc1_scratch7, cc1_scratch8]
def sems : Fin 9 → SemLoc sig := ![.dma cc1_scratch9.sem, .dma cc1_scratch10.sem, .dma cc1_scratch11.sem, .dma cc1_scratch12.sem, .dma cc1_scratch13.sem,
  .dma cc1_scratch14.sem, .dma cc1_scoped0.sem, .dma cc1_scoped1.sem, .dma cc1_scoped2.sem]

/-- The buffers of a tile are different. -/
theorem bufs_injective : Function.Injective bufs := by unfold bufs; decide
/-- The semaphores of a tile are different. -/
theorem sems_injective : Function.Injective sems := by unfold sems; decide
/-- The semaphores of a tile are scoped. -/
theorem sems_scoped : ∀ j, (sems j).isScoped .scVector = true := by unfold sems; decide
/-- The buffers belong to the tile. -/
theorem bufs_owner (p : Fin τ.nSC) (q : Fin τ.nSub) : ∀ j, (Proc.scVector p q).devRef (bufs j) ∈ ownRefs (τ := τ) (.scVector p q) := by
  intro j
  refine SparseCore.Cfg.mem_ownRefs_of_owner ?_
  fin_cases j <;> rfl

variable (m : (ℓ : Loc nD τ sig) → Buf (Elt F) ℓ) (d : Dev nD) (L : grid1.Coords)

/-- A tile's counters at zero: the ones that it uses, and the others. -/
theorem ownSems0_V : (ownSems0 (VT d L) : sProp (Mo F))
    = iprop(cells0 d L ∗ bigSep ((ownCells (VT d L)) \ Finset.univ.image fun j => ((VT d L, sems j) : GSem nD τ sig)) fun g => semVal g 0) := by
  unfold SparseCore.Cfg.ownSems0
  exact pick9 _ (fun j => ((VT d L, sems j) : GSem nD τ sig)) (fun a b e => sems_injective (Prod.ext_iff.mp e).2)
    (fun j => mem_ownCells.mpr ⟨rfl, sems_scoped j⟩) (fun g => semVal g 0)

/-- A buffer whole, at some contents. -/
abbrev whole (b : Ref sig .scVector) : sProp (Mo F) := iprop(∃ f, (VT d L).loc b ↦{fullShare} f)

/-- A tile's buffers: the ones that it uses, and the others. -/
theorem ownBufs_V : (ownBufs (VT d L) : sProp (Mo F))
    = iprop((whole d L cc1_scratch0 ∗ whole d L cc1_scratch1 ∗ whole d L cc1_scratch2 ∗ whole d L cc1_scratch3 ∗ whole d L cc1_scratch4 ∗ whole d L cc1_scratch5
        ∗ whole d L cc1_scratch6 ∗ whole d L cc1_scratch7 ∗ whole d L cc1_scratch8)
      ∗ bigSep ((ownRefs (τ := τ) (.scVector (cV L) (jV L))) \ Finset.univ.image fun j => (Proc.scVector (cV L) (jV L)).devRef (bufs j))
          fun b => iprop(∃ f, ((d, b) : Loc nD τ sig) ↦{fullShare} f)) := by
  unfold SparseCore.Cfg.ownBufs
  exact pick9 _ (fun j => (Proc.scVector (cV L) (jV L)).devRef (bufs j)) (fun a b e => bufs_injective (Proc.devRef_injective _ e))
    (fun j => bufs_owner _ _ j) (fun b => iprop(∃ f, ((d, b) : Loc nD τ sig) ↦{fullShare} f))

/-! ## The pieces in the body's spelling -/

/-- Two tokens of a share, and four. -/
theorem toks2 {ℓ : Loc nD τ sig} {S : Finset (Idx ℓ)} (q : PosShare TreeShare) (f : Buf (Elt F) ℓ) :
    (ℓ ↦[S]{q} f : sProp (Mo F)) ⊣⊢ iprop((ℓ ↦[S]{Transfers.shareDrop q 2} f) ∗ (ℓ ↦[S]{Transfers.shareTokN q 0} f) ∗ (ℓ ↦[S]{Transfers.shareTokN q 1} f)) := by
  have h := Transfers.pointsTo_toks (ℓ := ℓ) (S := S) (f := f) (Name := ℕ) (Lvl := ℕ) (Ix := HIx 1) (U := UU) q 2
  rw [bigSep_univ_eq_bigSepL [0, 1] (by decide) (by decide)] at h
  exact h
/-- A part of an array, split into four shares to be read with and a rest. -/
theorem toks4 {ℓ : Loc nD τ sig} {S : Finset (Idx ℓ)} (q : PosShare TreeShare) (f : Buf (Elt F) ℓ) :
    (ℓ ↦[S]{q} f : sProp (Mo F)) ⊣⊢ iprop((ℓ ↦[S]{Transfers.shareDrop q 4} f) ∗ (ℓ ↦[S]{Transfers.shareTokN q 0} f) ∗ (ℓ ↦[S]{Transfers.shareTokN q 1} f)
      ∗ (ℓ ↦[S]{Transfers.shareTokN q 2} f) ∗ (ℓ ↦[S]{Transfers.shareTokN q 3} f)) := by
  have h := Transfers.pointsTo_toks (ℓ := ℓ) (S := S) (f := f) (Name := ℕ) (Lvl := ℕ) (Ix := HIx 1) (U := UU) q 4
  rw [bigSep_univ_eq_bigSepL [0, 1, 2, 3] (by decide) (by decide)] at h
  exact h

/-- A buffer whole, as the body names it. -/
theorem pts_whole (b : Ref sig .scVector) (f : Buf (Elt F) ((VT d L).loc b)) :
    ((View.whole b).loc (VT d L) ↦[(View.whole b).set]{fullShare} f : sProp (Mo F)) = ((VT d L).loc b ↦{fullShare} f) := by
  rw [View.set_whole]

/-- Holding the row of sums that the tile writes is holding its rows of the array. -/
theorem pts_nRow (f : Buf (Elt F) (nLoc d)) :
    ((nRow L).view.loc (VT d L) ↦[(nRow L).view.set]{fullShare} f : sProp (Mo F)) = nLoc d ↦[rowSet L]{fullShare} f := by rw [set_nRow]
/-- Holding the row of counts that the tile writes is holding its rows of the array. -/
theorem pts_cRow (f : Buf (Elt F) (cLoc d)) :
    ((cRow L).view.loc (VT d L) ↦[(cRow L).view.set]{fullShare} f : sProp (Mo F)) = cLoc d ↦[rowSet L]{fullShare} f := by rw [set_cRow]
/-- Holding the row of bits that the tile writes is holding its rows of the array. -/
theorem pts_pRow (f : Buf (Elt F) (pLoc d)) :
    ((pRow L).view.loc (VT d L) ↦[(pRow L).view.set]{fullShare} f : sProp (Mo F)) = pLoc d ↦[rowSet L]{fullShare} f := by rw [set_pRow]

/-! ## The body -/

attribute [local irreducible] chunksVal scanVal

/-- The task on a tile, from what it is handed to what it hands back. -/
theorem tile_body (hF : (K (F := F)).Facts) (c : Fin 2) (w : Fin 16)
    (O : CellTallies nD τ sig (HIx 1)) (W : Waits sig (HIx 1)) (hO : ∀ g, O g none = 0) :
    iprop(levAts (K (F := F)).L (K (F := F)).lev ∗ emp ∗ (args m d (tileShare c w) ∗ rowsAt d L (m (nLoc d)) (m (cLoc d)) (m (pLoc d)))
        ∗ scopedBufs (VT d L) ∗ scopedSems0 (VT d L) ∗ owes (VT d L) O W)
      ⊢ wp frame (wpE (defs₀ (F := F)) 𝒱₀ (VT d L) none) Set.univ
          (cc1__sc_main (F := F) L xW (Memref.isWhole_whole _) tW (Memref.isWhole_whole _) nW (Memref.isWhole_whole _) cW (Memref.isWhole_whole _)
            pW (Memref.isWhole_whole _) bx0 (Memref.isWhole_whole _) bx1 (Memref.isWhole_whole _) bt0 (Memref.isWhole_whole _) bt1 (Memref.isWhole_whole _)
            bp0 (Memref.isWhole_whole _) bp1 (Memref.isWhole_whole _) vn (Memref.isWhole_whole _)
            vc (Memref.isWhole_whole _) vp (Memref.isWhole_whole _) cc1_scratch9 cc1_scratch10 cc1_scratch11 cc1_scratch12 cc1_scratch13
            cc1_scratch14 cc1_scoped0 cc1_scoped1 cc1_scoped2)
          fun _ => iprop((args m d (tileShare c w) ∗ rowsAt d L (NV m d) (CV m d) (PV m d))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨⟨Hx, Ht⟩, ⟨Hn, Hc, Hp⟩⟩, ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  ihave ⟨Hxd, Hx0, Hx1⟩ := (toks2 (tileShare c w) (m (xLoc d))).1 $$ Hx
  ihave ⟨Htd, Ht0, Ht1, Ht2, Ht3⟩ := (toks4 (tileShare c w) (m (tLoc d))).1 $$ Ht
  iapply (wp_wand_r Idealize.ShloMosaic.frame (wpE (defs₀ (F := F)) 𝒱₀ (VT d L) none) Set.univ)
  isplitl [Hmw Hx0 Hx1 Ht0 Ht1 Ht2 Ht3 Hn Hc Hp H0 H1 H2 H3 H4 H5 H6 H7 H8 Hcells HO]
  · iapply (tile_run m d L (tileShare c w) (tileShare c w) O W (m (nLoc d)) (m (cLoc d)) (m (pLoc d)) f0 f1 f2 f3 f4 f5 f6 f7 f8)
    isplitl [Hmw]; · iexact Hmw
    isplitl [Hx0]; · iexact Hx0
    isplitl [Hx1]; · iexact Hx1
    isplitl [Ht0]; · iexact Ht0
    isplitl [Ht1]; · iexact Ht1
    isplitl [Ht2]; · iexact Ht2
    isplitl [Ht3]; · iexact Ht3
    isplitl [Hn]; · iapply (Entails.of_eq (pts_nRow d L _).symm); iexact Hn
    isplitl [Hc]; · iapply (Entails.of_eq (pts_cRow d L _).symm); iexact Hc
    isplitl [Hp]; · iapply (Entails.of_eq (pts_pRow d L _).symm); iexact Hp
    isplitl [H0]; · iapply (Entails.of_eq (pts_whole d L cc1_scratch0 _).symm); iexact H0
    isplitl [H1]; · iapply (Entails.of_eq (pts_whole d L cc1_scratch1 _).symm); iexact H1
    isplitl [H2]; · iapply (Entails.of_eq (pts_whole d L cc1_scratch2 _).symm); iexact H2
    isplitl [H3]; · iapply (Entails.of_eq (pts_whole d L cc1_scratch3 _).symm); iexact H3
    isplitl [H4]; · iapply (Entails.of_eq (pts_whole d L cc1_scratch4 _).symm); iexact H4
    isplitl [H5]; · iapply (Entails.of_eq (pts_whole d L cc1_scratch5 _).symm); iexact H5
    isplitl [H6]; · iapply (Entails.of_eq (pts_whole d L cc1_scratch6 _).symm); iexact H6
    isplitl [H7]; · iapply (Entails.of_eq (pts_whole d L cc1_scratch7 _).symm); iexact H7
    isplitl [H8]; · iapply (Entails.of_eq (pts_whole d L cc1_scratch8 _).symm); iexact H8
    isplitl [Hcells]; · iexact Hcells
    iexact HO
  iintro %u ⟨Hx0, Hx1, Ht0, Ht1, Ht2, Ht3, ⟨%gn, %hn, Hn⟩, ⟨%gc, %hc', Hc⟩, ⟨%gp, %hp, Hp⟩, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, Hcells, HO⟩
  isplitl [Hx0 Hx1 Ht0 Ht1 Ht2 Ht3 Hxd Htd Hn Hc Hp]
  · isplitl [Hx0 Hx1 Ht0 Ht1 Ht2 Ht3 Hxd Htd]
    · isplitl [Hx0 Hx1 Hxd]
      · iapply (toks2 (tileShare c w) (m (xLoc d))).2
        isplitl [Hxd]; · iexact Hxd
        isplitl [Hx0]; · iexact Hx0
        iexact Hx1
      iapply (toks4 (tileShare c w) (m (tLoc d))).2
      isplitl [Htd]; · iexact Htd
      isplitl [Ht0]; · iexact Ht0
      isplitl [Ht1]; · iexact Ht1
      isplitl [Ht2]; · iexact Ht2
      iexact Ht3
    isplitl [Hn]
    · iapply (Entails.of_eq (pointsTo_congr (agree_n m d L gn hn))); iapply (Entails.of_eq (pts_nRow d L _)); iexact Hn
    isplitl [Hc]
    · iapply (Entails.of_eq (pointsTo_congr (agree_c m d L gc hc'))); iapply (Entails.of_eq (pts_cRow d L _)); iexact Hc
    iapply (Entails.of_eq (pointsTo_congr (agree_p m d L gp hp))); iapply (Entails.of_eq (pts_pRow d L _)); iexact Hp
  isplitl [H0 H1 H2 H3 H4 H5 H6 H7 H8 Hbufs]
  · isplitl [H0 H1 H2 H3 H4 H5 H6 H7 H8]
    · isplitl [H0]; · iexists g0; iapply (Entails.of_eq (pts_whole d L cc1_scratch0 _)); iexact H0
      isplitl [H1]; · iexists g1; iapply (Entails.of_eq (pts_whole d L cc1_scratch1 _)); iexact H1
      isplitl [H2]; · iexists g2; iapply (Entails.of_eq (pts_whole d L cc1_scratch2 _)); iexact H2
      isplitl [H3]; · iexists g3; iapply (Entails.of_eq (pts_whole d L cc1_scratch3 _)); iexact H3
      isplitl [H4]; · iexists g4; iapply (Entails.of_eq (pts_whole d L cc1_scratch4 _)); iexact H4
      isplitl [H5]; · iexists g5; iapply (Entails.of_eq (pts_whole d L cc1_scratch5 _)); iexact H5
      isplitl [H6]; · iexists g6; iapply (Entails.of_eq (pts_whole d L cc1_scratch6 _)); iexact H6
      isplitl [H7]; · iexists g7; iapply (Entails.of_eq (pts_whole d L cc1_scratch7 _)); iexact H7
      iexists g8; iapply (Entails.of_eq (pts_whole d L cc1_scratch8 _)); iexact H8
    iexact Hbufs
  isplitl [Hcells Hsems]
  · isplitl [Hcells]; · iexact Hcells
    iexact Hsems
  iexact HO

/-! ## The obligation -/

/-- A tile's program is the SparseCore body at its coordinates. -/
theorem defs₀_vector (c : Fin τ.nSC) (s : Fin τ.nSub) :
    defs₀ (F := F) (.scVector c s) 1 ()
      = SparseCore.onTile hcore1 hsub1 (fun c s => cc1__sc_main (F := F) (coordsV c s) xW (Memref.isWhole_whole _) tW (Memref.isWhole_whole _) nW (Memref.isWhole_whole _) cW (Memref.isWhole_whole _)
            pW (Memref.isWhole_whole _) bx0 (Memref.isWhole_whole _) bx1 (Memref.isWhole_whole _) bt0 (Memref.isWhole_whole _) bt1 (Memref.isWhole_whole _)
            bp0 (Memref.isWhole_whole _) bp1 (Memref.isWhole_whole _) vn (Memref.isWhole_whole _)
            vc (Memref.isWhole_whole _) vp (Memref.isWhole_whole _) cc1_scratch9 cc1_scratch10 cc1_scratch11 cc1_scratch12 cc1_scratch13
            cc1_scratch14 cc1_scoped0 cc1_scoped1 cc1_scoped2) ⟨⟩ c s := rfl

/-- Every tile runs from its part of the arrays to the part that it gives back. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) facts (Fin.cast nCore_zero c) (Fin.cast nSub_zero i) O W hO

/-! ## A SparseCore's operands are its tiles' -/

/-- The tiles of a SparseCore, counted either way. -/
theorem bigSep_tasks (Φ : Fin 16 → sProp (Mo F)) :
    (bigSep Finset.univ fun i : Fin ((K (F := F)).nSub 0) => Φ (Fin.cast nSub_zero i)) = bigSep Finset.univ Φ :=
  bigSep_congr fun _ _ => congrArg Φ (Fin.ext rfl)

/-- The arguments at a share are its tokens for the tiles and what remains. -/
theorem args_toks (q : PosShare TreeShare) (n : ℕ) : (args m d q : sProp (Mo F)) ⊣⊢ iprop(args m d (Transfers.shareDrop q n)
    ∗ bigSep Finset.univ fun i : Fin n => args m d (Transfers.shareTok q n i)) := by
  rw [bigSep_sep']
  refine ⟨?_, ?_⟩
  · iintro ⟨Hx, Ht⟩
    ihave ⟨Hx, Hxs⟩ := (Transfers.pointsTo_toks_split q n) $$ Hx
    ihave ⟨Ht, Hts⟩ := (Transfers.pointsTo_toks_split q n) $$ Ht
    isplitl [Hx Ht]
    · isplitl [Hx]; · iexact Hx
      iexact Ht
    isplitl [Hxs]; · iexact Hxs
    iexact Hts
  · iintro ⟨⟨Hx, Ht⟩, ⟨Hxs, Hts⟩⟩
    isplitl [Hx Hxs]
    · iapply (Transfers.pointsTo_toks_join q n); isplitl [Hx]; · iexact Hx
      iexact Hxs
    iapply (Transfers.pointsTo_toks_join q n); isplitl [Ht]; · iexact Ht
    iexact Hts

/-- A SparseCore's part of the arrays divides into its tiles' parts, and those that they give back join again. -/
theorem vecSplit : (K (F := F)).VecSplit' (P m) 0 := by
  intro d c
  generalize hc : Fin.cast nCore_zero c = c'
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i)) -∗ dnP m d (Fin.cast nCore_zero c)))
  rw [hc, bigSep_tasks (fun i => goP m d c' i), bigSep_tasks (fun i => tdP m d c' i)]
  rw [bigSep_sep' Finset.univ (fun i => args m d (tileShare c' i)), bigSep_sep' Finset.univ (fun i => args m d (tileShare c' i))]
  iintro ⟨Ha, Hr⟩
  ihave ⟨Hd, Hs⟩ := (args_toks m d (coreShare c') 16).1 $$ Ha
  imodintro
  isplitl [Hs Hr]
  · isplitl [Hs]; · iexact Hs
    iexact Hr
  iintro ⟨Hs, Hr⟩
  isplitl [Hd Hs]
  · iapply (args_toks m d (coreShare c') 16).2
    isplitl [Hd]; · iexact Hd
    iexact Hs
  iexact Hr

end Cert.Proof.Loss

end
-- ==== Proof.Region.lean ====
/-
  One TensorCore pipeline of @main as a step of the TensorCore's thread, for any contents of the unscoped buffers: its
  arrays are read from a valuation, what a body leaves in the windows is a parameter, and through the whole pipeline the
  thread keeps owing the starts of the SparseCore calls that are still to come.
-/
module

public import proofs.«01_k».proof.Proof.Base
public import Idealize.ShloMosaic.Lib.Pipeline.RegionsLoop

@[expose] public section

noncomputable section

namespace Cert.Proof.Loss

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- No pipeline has prefetched tables. -/
abbrev adm : (p : Fin 2) → (pcfgs (F := F) p).Adm := fun p => (cfgs p).toPCfg_adm

/-- The unscoped buffers' contents on every device. -/
abbrev Vals (F : FTy → Type) : Type := (c : Dev nD) → (b : Ref sig .tc) → Buf (Elt F) ((c : Thread nD τ).loc b)

/-- What the bodies leave in the windows' staging buffers. -/
abbrev Afters (F : FTy → Type) : Type :=
  (p : Fin 2) → (c : Dev nD) → (w : Fin (cfgs p).W) → Fin (cfgs p).N → ((cfgs p).win w).block.Idx → Elt F ((cfgs p).win w).elt

/-- The core owes the starts of the calls from `n` on, and what it has waited for lies below them. -/
abbrev owing (n : ℕ) (c : Dev nD) : sProp (Mo F) :=
  iprop(∃ W, ⌜(K (F := F)).WBelow (T c) W (8 * n)⌝ ∗ owes (T c) ((K (F := F)).Otc c n) W)

/-- The proof data of the pipelines, entered at the valuation `V` after `n` SparseCore calls. -/
def dats (V : Vals F) (n : ℕ) (after : Afters F) (p : Fin 2) (c : Dev nD) :
    Dat τ (Elt F) (HIx 1) ℕ UU ℕ (Pipeline.pin (pcfgs (F := F)) adm p) c where
  A w := V c (Pipeline.arrRef (cfgs p).spec w)
  after := after p c
  Φ _ := Pipeline.scopedRest (Ix := HIx 1) (Name := ℕ) (U := UU) (Lvl := ℕ) (Val := Elt F) (cfgs p).spec c
  q _ := fullShare
  owed _ := (K (F := F)).Otc c n
  recorded _ := {s | (K (F := F)).lev (T c, s.1) s.2 ≤ 8 * n}

/-- Between the steps of a call nothing is held but the buffers that it does not use. -/
theorem dats_Φ (V : Vals F) (n : ℕ) (after : Afters F) (p : Fin 2) (c : Dev nD) (t : Fin ((cfgs p).N + 1)) :
    (dats V n after p c).Φ t = Pipeline.scopedRest (Ix := HIx 1) (Name := ℕ) (U := UU) (Lvl := ℕ) (Val := Elt F) (cfgs p).spec c := rfl

omit [FloatOps F] in
/-- Nothing is owed at the index of the loops' own waits. -/
theorem Otc_none (c : Dev nD) (n : ℕ) (g : GSem nD τ sig) : (K (F := F)).Otc (nD := nD) (N := 1) c n g none = 0 := by
  by_contra h
  have := SparseCore.Cfg.lev_of_Otc_pos (K := K (F := F)) (Nat.pos_of_ne_zero h)
  exact absurd this (by rw [show (K (F := F)).lev g none = 0 from rfl]; omega)

set_option backward.isDefEq.respectTransparency.types false in
/-- A pipeline whose body meets its obligation takes the thread from the valuation `V` to any valuation that has the
    pipeline's arrays at what the pipeline leaves there and agrees with `V` elsewhere. -/
def region (p : Fin 2) (lf : Pipeline.LaunchFacts (nD := nD) (τ := τ) cfgs p) (V Vp : Vals F) (n : ℕ) (after : Afters F)
    (hbody : ∀ c, BodyObligation (dats V n after p c) (defs₀ (F := F)) 𝒱₀ (none : HIx 1) Set.univ)
    (harr : ∀ c w, (dats V n after p c).arrAt w (cfgs p).N = Vp c (Pipeline.arrRef (cfgs p).spec w))
    (hrest : ∀ c b, b ∉ Finset.univ.image (Pipeline.arrRef (cfgs p).spec) → Vp c b = V c b) :
    Pipeline.RegionSeg (pcfgs (F := F)) adm (dats V n after) (none : HIx 1) defs₀ 𝒱₀ (K (F := F)).L (K (F := F)).lev p where
  win := lf.win.to₀
  block_pos := lf.block_pos
  stage_whole := lf.stage_whole
  K := PEmpty
  osem k := k.elim
  ho := Pipeline.OwnSemFacts.none _
  hbody c := (hbody c).loose
  hwaits c := Pipeline.cellsWaits_intro _ (dats V n after) none p c fun w s t => (K (F := F)).mayWait_none _ (Otc_none c n)
  pre c := iprop(unscopedBufs c (V c) ∗ owing n c)
  post c := iprop(unscopedBufs c (Vp c) ∗ owing n c)
  X _ := BI.emp
  Y _ := BI.emp
  Z c := Pipeline.unscopedRest (Ix := HIx 1) (Name := ℕ) (U := UU) (Lvl := ℕ) (cfgs p).spec c (V c)
  hentry c := by
    rw [Pipeline.ownSems0_none]
    have hsplit := Pipeline.arrays_of_unscopedBufs (p := p) (pcfgs (F := F)) adm (dats V n after) lf.win lf.arr_whole c
      ((dats V n after p c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun s hs => Or.inl (hW s hs)
      iexact HO
    isplitr; · iempintro
    iexact Hrest
  hin c := by
    rw [dats_Φ]
    iintro ⟨-, -, Hr⟩; iexact Hr
  hout c := by
    rw [Pipeline.ownSems0_none, dats_Φ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) lf.win lf.arr_whole c
      (dats V n after) ((dats V n after p c).share_full fun _ => rfl) (V c) (Vp c) ((dats V n after p c).arrAt · (cfgs p).N) (harr c) (hrest c)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro s hs
      rcases hW hs with h | ⟨w, i, rfl⟩
      · exact h
      · exact Nat.zero_le _
    iexact HO

end Cert.Proof.Loss

end
-- ==== Proof.TcBody.lean ====
/-
  The TensorCore's body of the loss: one grid point adds, for two batches, the masked losses of the 512×512 pixels to
  the first accumulator and the number of pixels that count to the second.
-/
module

public import proofs.«01_k».proof.Proof.Base
public import Idealize.ShloMosaic.Lib.Pipeline.Value

@[expose] public section

noncomputable section

namespace Cert.Proof.Loss

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The plane of class `c` of the block's batch `b`. -/
def plane (X : Vec F S2x10x512x512 .f32) (b : Fin 2) (c : Fin 10) : Vec F S1x1x512x512 .f32 :=
  View.ld X (Rect.unit (s := S2x10x512x512) ![b.val, c.val, 0, 0] S1x1x512x512.size (by
    intro a; fin_cases a <;> simp [S2x10x512x512]; omega))

/-- The labels of the block's batch `b`. -/
def labels (T : Vec F S2x512x512 .i32) (b : Fin 2) : Vec F S1x512x512 .i32 :=
  View.ld T (Rect.unit (s := S2x512x512) ![b.val, 0, 0] S1x512x512.size (by
    intro a; fin_cases a <;> simp [S2x512x512]; omega))

/-- The accumulators after the block's first batch. -/
def tcFst (X : Vec F S2x10x512x512 .f32) (T : Vec F S2x512x512 .i32) (a : F .f32 × F .f32) : F .f32 × F .f32 :=
  let x := plane X 0
  let t := k0_pay4 (F := F) (labels T 0)
  let s := k0_pay15 (k0_pay8 (x 0) (x 1) (x 2)) (x 3) (x 4) (x 5) (x 6) (x 7)
  let l := k0_pay16 t (k0_pay9 (labels T 0) (x 0) (x 1) (x 2)) (x 3) (x 4) (x 5) (x 6) (x 7)
  (k0_pay18 t s l (x 8) (x 9) a.1, k0_pay19 t a.2)

/-- The accumulators after the block's second batch. -/
def tcSnd (X : Vec F S2x10x512x512 .f32) (T : Vec F S2x512x512 .i32) (a : F .f32 × F .f32) : F .f32 × F .f32 :=
  let x := plane X 1
  let t := k0_pay20 (F := F) (labels T 1)
  let s := k0_pay27 (Scalar.ofBits .f32 0x00000000#32) (x 0) (x 1) (x 2) (x 3) (x 4)
  let l := k0_pay25 t (x 0) (x 1) (x 2) (x 3)
  (k0_pay2 t (k0_pay32 t l (k0_pay26 (x 4)) 4#32 (x 5) (x 6) (x 7) (x 8)) (k0_pay33 (x 9)) (k0_pay34 s (x 5) (x 6) (x 7) (x 8) (x 9)) 9#32 a.1,
    k0_pay3 t a.2)

/-- The accumulators after one grid point. -/
def tcStep (X : Vec F S2x10x512x512 .f32) (T : Vec F S2x512x512 .i32) (a : F .f32 × F .f32) : F .f32 × F .f32 :=
  tcSnd X T (tcFst X T a)

/-- The accumulators as the first grid point resets them. -/
def tcZero : F .f32 × F .f32 := (Scalar.ofBits .f32 0x00000000#32, Scalar.ofBits .f32 0x00000000#32)

/-! ## The run -/

/-- Memref `M`'s buffer on core `c`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (Mo F) :=
  M.view.loc (c : Thread nD τ) ↦{fullShare} f

/-- The point's test for the first of the grid. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The zero offset of an array of one element. -/
theorem off_zero : (![0, 0] : Fin S1x1.rank → ℕ) = fun _ => 0 := by decide

/-- A store to the one cell covers it. -/
theorem cover_cell {e : EltTy} (w : S1x1.Idx → Elt F e) (l : List (View.Piece (Elt F) S1x1 e)) (y : S1x1.Idx) :
    ∃ p ∈ (⟨Rect.unit (s := S1x1) ![0, 0] S1x1.size inb_S1x1_S1x1_0_0, w⟩ : View.Piece (Elt F) S1x1 e) :: l, y ∈ p.1.set :=
  ⟨_, List.mem_cons_self, by
    have h : ∀ a : Fin S1x1.rank, (![0, 0] : Fin S1x1.rank → ℕ) a ≤ (y a).val ∧ (y a).val < (![0, 0] : Fin S1x1.rank → ℕ) a + S1x1.size a := fun a =>
      ⟨by rw [off_zero]; exact Nat.zero_le _, by rw [off_zero, Nat.zero_add]; exact (y a).isLt⟩
    show y ∈ (Rect.unit (s := S1x1) ![0, 0] S1x1.size inb_S1x1_S1x1_0_0).set
    exact Rect.mem_set_unit.mpr h⟩

/-- A grid point that is not the first adds its two batches to the accumulators. -/
theorem tc_run_next (i : grid0.Coords) (hi : ¬ isFirst i)
    (d : Dev nD) (M0 : Memref sig .tc .vmem S2x10x512x512 .f32) (h0 : M0.IsWhole) (M1 : Memref sig .tc .vmem S2x512x512 .i32) (h1 : M1.IsWhole)
    (M2 : Memref sig .tc .smem S1x1 .f32) (h2 : M2.IsWhole) (M3 : Memref sig .tc .smem S1x1 .f32) (h3 : M3.IsWhole)
    (f0 : Bf (F := F) d M0) (f1 : Bf (F := F) d M1) (f2 : Bf (F := F) d M2) (f3 : Bf (F := F) d M3)
    (a : F .f32 × F .f32) (hf2 : M2.view.read (Elt F) f2 = fun _ => a.1) (hf3 : M3.view.read (Elt F) f3 = fun _ => a.2)
    (E : Set ℕ) (Q : PUnit → sProp (Mo F)) :
    iprop(pt d M0 f0 ∗ pt d M1 f1 ∗ pt d M2 f2 ∗ pt d M3 f3
      ∗ (iprop(∃ g2 g3, ⌜M2.view.read (Elt F) g2 = (fun _ => (tcStep (M0.view.read (Elt F) f0) (M1.view.read (Elt F) f1) a).1)
          ∧ M3.view.read (Elt F) g3 = (fun _ => (tcStep (M0.view.read (Elt F) f0) (M1.view.read (Elt F) f1) a).2)⌝
            ∗ pt d M0 f0 ∗ pt d M1 f1 ∗ pt d M2 g2 ∗ pt d M3 g3) -∗ Q ⟨⟩))
      ⊢ wp frame (wpE (defs₀ (F := F)) 𝒱₀ (d : Thread nD τ) none) E (cc0__tc_body i M0 h0 M1 h1 M2 h2 M3 h3) Q := by
  iintro ⟨H0, H1, H2, H3, Hk⟩
  sl_exec!
  sl_step
  iapply Hk
  iexists _
  iexists _
  isplitr
  swap
  · isplitl [H0]; · iexact H0
    isplitl [H1]; · iexact H1
    isplitl [H2]; · iexact H2
    iexact H3
  ipureintro
  sl_unfold_run_names
  rw [View.read_writes_eq_canon _ _ _ (cover_cell _ _), View.canon_cons_unit_zero off_zero, View.read_writes_eq_canon _ _ _ (cover_cell _ _),
    View.canon_cons_unit_zero off_zero]
  simp only [View.readAt_eq_ld, hf2, hf3]
  exact ⟨rfl, rfl⟩

/-- A grid point that is the first resets the accumulators, then adds its two batches. -/
theorem tc_run_first (i : grid0.Coords) (hi : isFirst i)
    (d : Dev nD) (M0 : Memref sig .tc .vmem S2x10x512x512 .f32) (h0 : M0.IsWhole) (M1 : Memref sig .tc .vmem S2x512x512 .i32) (h1 : M1.IsWhole)
    (M2 : Memref sig .tc .smem S1x1 .f32) (h2 : M2.IsWhole) (M3 : Memref sig .tc .smem S1x1 .f32) (h3 : M3.IsWhole)
    (f0 : Bf (F := F) d M0) (f1 : Bf (F := F) d M1) (f2 : Bf (F := F) d M2) (f3 : Bf (F := F) d M3)
    (E : Set ℕ) (Q : PUnit → sProp (Mo F)) :
    iprop(pt d M0 f0 ∗ pt d M1 f1 ∗ pt d M2 f2 ∗ pt d M3 f3
      ∗ (iprop(∃ g2 g3, ⌜M2.view.read (Elt F) g2 = (fun _ => (tcStep (M0.view.read (Elt F) f0) (M1.view.read (Elt F) f1) tcZero).1)
          ∧ M3.view.read (Elt F) g3 = (fun _ => (tcStep (M0.view.read (Elt F) f0) (M1.view.read (Elt F) f1) tcZero).2)⌝
            ∗ pt d M0 f0 ∗ pt d M1 f1 ∗ pt d M2 g2 ∗ pt d M3 g3) -∗ Q ⟨⟩))
      ⊢ wp frame (wpE (defs₀ (F := F)) 𝒱₀ (d : Thread nD τ) none) E (cc0__tc_body i M0 h0 M1 h1 M2 h2 M3 h3) Q := by
  iintro ⟨H0, H1, H2, H3, Hk⟩
  sl_exec!
  sl_step
  iapply Hk
  iexists _
  iexists _
  isplitr
  swap
  · isplitl [H0]; · iexact H0
    isplitl [H1]; · iexact H1
    isplitl [H2]; · iexact H2
    iexact H3
  ipureintro
  sl_unfold_run_names
  rw [View.read_writes_eq_canon _ _ _ (cover_cell _ _), View.canon_cons_unit_zero off_zero, View.read_writes_eq_canon _ _ _ (cover_cell _ _),
    View.canon_cons_unit_zero off_zero]
  simp only [View.readAt_eq_ld]
  exact ⟨rfl, rfl⟩

end Cert.Proof.Loss

end
-- ==== Proof.CombineBody.lean ====
/-
  The combining body on the TensorCore: from the two accumulators of the TensorCore's batches and the three arrays of the
  SparseCores' tiles it stores the loss.
-/
module

public import proofs.«01_k».proof.Proof.TcBody

@[expose] public section

noncomputable section

namespace Cert.Proof.Loss

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- How many of the classes 0 to 7 the words of `p` mark as present. -/
def present7 (p : Vec F S32x16 .i32) : BitVec 32 :=
  let at0 (v : IVec S1x1x1 32) : BitVec 32 := extractAt ![0, 0, 0] v inpos_S1x1x1_p0_0_0
  let w := k2_pay4 (F := F) p
  Scalar.addi (Scalar.addi (Scalar.addi (Scalar.addi (Scalar.addi (Scalar.addi (Scalar.addi 0#32 (at0 (k2_pay5 (F := F) p))) (at0 (k2_pay6 (F := F) p)))
    (at0 (k2_pay9 (k2_pay7 (F := F) p) k2_pay8))) (at0 (k2_pay10 w))) (at0 (k2_pay11 w))) (at0 (k2_pay12 w))) (at0 (k2_pay13 w))

/-- The loss that the body stores. -/
def combine (n0 c0 : F .f32) (n c : Vec F S32x16 .f32) (p : Vec F S32x16 .i32) : F .f32 :=
  k2_pay1 (k2_pay2 n0 n) (k2_pay3 c0 c) (k2_pay4 (F := F) p) (present7 p) (k2_pay14 (k2_pay4 (F := F) p)) k2_pay15

/-- The zero offset of the rows of partial results. -/
theorem off_zero' : (![0, 0] : Fin S32x16.rank → ℕ) = fun _ => 0 := by decide

/-- The body reads its five operands and leaves the loss in its result. -/
theorem combine_run (d : Dev nD) (M0 : Memref sig .tc .smem S1x1 .f32) (h0 : M0.IsWhole) (M1 : Memref sig .tc .smem S1x1 .f32) (h1 : M1.IsWhole)
    (M2 : Memref sig .tc .vmem S32x16 .f32) (h2 : M2.IsWhole) (M3 : Memref sig .tc .vmem S32x16 .f32) (h3 : M3.IsWhole)
    (M4 : Memref sig .tc .vmem S32x16 .i32) (h4 : M4.IsWhole) (M5 : Memref sig .tc .smem S1x1 .f32) (h5 : M5.IsWhole)
    (f0 : Bf (F := F) d M0) (f1 : Bf (F := F) d M1) (f2 : Bf (F := F) d M2) (f3 : Bf (F := F) d M3) (f4 : Bf (F := F) d M4) (f5 : Bf (F := F) d M5)
    (n0 c0 : F .f32) (hf0 : M0.view.read (Elt F) f0 = fun _ => n0) (hf1 : M1.view.read (Elt F) f1 = fun _ => c0)
    (E : Set ℕ) (Q : PUnit → sProp (Mo F)) :
    iprop(pt d M0 f0 ∗ pt d M1 f1 ∗ pt d M2 f2 ∗ pt d M3 f3 ∗ pt d M4 f4 ∗ pt d M5 f5
      ∗ (iprop(∃ g5, ⌜M5.view.read (Elt F) g5 = fun _ => combine n0 c0 (M2.view.read (Elt F) f2) (M3.view.read (Elt F) f3) (M4.view.read (Elt F) f4)⌝
            ∗ pt d M0 f0 ∗ pt d M1 f1 ∗ pt d M2 f2 ∗ pt d M3 f3 ∗ pt d M4 f4 ∗ pt d M5 g5) -∗ Q ⟨⟩))
      ⊢ wp frame (wpE (defs₀ (F := F)) 𝒱₀ (d : Thread nD τ) none) E (cc2__combine_body M0 h0 M1 h1 M2 h2 M3 h3 M4 h4 M5 h5) Q := by
  iintro ⟨H0, H1, H2, H3, H4, H5, Hk⟩
  sl_exec!
  sl_step
  iapply Hk
  iexists _
  isplitr
  swap
  · isplitl [H0]; · iexact H0
    isplitl [H1]; · iexact H1
    isplitl [H2]; · iexact H2
    isplitl [H3]; · iexact H3
    isplitl [H4]; · iexact H4
    iexact H5
  ipureintro
  sl_unfold_run_names
  rw [View.read_writes_eq_canon _ _ _ (cover_cell _ _), View.canon_cons_unit_zero off_zero]
  simp only [View.readAt_eq_ld, View.ld_unit_zero (S := S32x16) off_zero', hf0, hf1]
  rfl

end Cert.Proof.Loss

end
-- ==== Proof.Regions.lean ====
/-
  The two TensorCore pipelines of @main: what their bodies leave in the windows, that the bodies meet their obligations,
  and what the result arrays hold afterwards.
-/
module

public import proofs.«01_k».proof.Proof.Region
public import proofs.«01_k».proof.Proof.CombineBody

@[expose] public section

noncomputable section

namespace Cert.Proof.Loss

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-! ## What the bodies leave -/

/-- The one cell of a 1×1 array. -/
def cell {α : Type} (X : S1x1.Idx → α) : α := X (fun a => ⟨0, by fin_cases a <;> decide⟩)

/-- An array of one element is constant. -/
theorem eq_cell {α : Type} (X : S1x1.Idx → α) : X = fun _ => cell X := by
  funext i
  unfold cell
  congr 1
  funext a
  apply Fin.ext
  have h : (i a).val < S1x1.size a := (i a).isLt
  have h1 : S1x1.size a = 1 := by fin_cases a <;> rfl
  show (i a).val = 0
  omega

variable (V : Vals F) (c : Dev nD)

/-- The logits of the two batches of point `t`. -/
abbrev xBlk (t : Fin cfg0.N) : Vec F S2x10x512x512 .f32 := ((cfg0.win 0).blk t).view.read (Elt F) (V c main_arg0)
/-- The labels of the two batches of point `t`. -/
abbrev tBlk (t : Fin cfg0.N) : Vec F S2x512x512 .i32 := ((cfg0.win 1).blk t).view.read (Elt F) (V c main_arg1)

/-- The two accumulators after the first `k` points. -/
def tcAcc : ℕ → F .f32 × F .f32
  | 0 => tcZero
  | k + 1 => if h : k < cfg0.N then tcStep (xBlk V c ⟨k, h⟩) (tBlk V c ⟨k, h⟩) (tcAcc k) else tcAcc k

/-- One more step adds the losses and the weights of its block. -/
theorem tcAcc_succ (t : Fin cfg0.N) : tcAcc V c (t.val + 1) = tcStep (xBlk V c t) (tBlk V c t) (tcAcc V c t.val) := by
  rw [tcAcc, dif_pos t.isLt]

/-- The operands of the combining body, as its windows show them. -/
abbrev o0 (t : Fin cfg2.N) : Vec F S1x1 .f32 := ((cfg2.win 0).blk t).view.read (Elt F) (V c main_v0_0)
abbrev o1 (t : Fin cfg2.N) : Vec F S1x1 .f32 := ((cfg2.win 1).blk t).view.read (Elt F) (V c main_v0_1)
abbrev o2 (t : Fin cfg2.N) : Vec F S32x16 .f32 := ((cfg2.win 2).blk t).view.read (Elt F) (V c main_v1_0)
abbrev o3 (t : Fin cfg2.N) : Vec F S32x16 .f32 := ((cfg2.win 3).blk t).view.read (Elt F) (V c main_v1_1)
abbrev o4 (t : Fin cfg2.N) : Vec F S32x16 .i32 := ((cfg2.win 4).blk t).view.read (Elt F) (V c main_v1_2)

omit c in
/-- What the bodies leave in the windows' buffers. -/
def after : Afters F
  | ⟨0, _⟩ => fun c w t => match w with
    | ⟨0, _⟩ => xBlk V c t
    | ⟨1, _⟩ => tBlk V c t
    | ⟨2, _⟩ => fun _ => (tcAcc V c (t.val + 1)).1
    | ⟨3, _⟩ => fun _ => (tcAcc V c (t.val + 1)).2
  | ⟨1, _⟩ => fun c w t => match w with
    | ⟨0, _⟩ => o0 V c t
    | ⟨1, _⟩ => o1 V c t
    | ⟨2, _⟩ => o2 V c t
    | ⟨3, _⟩ => o3 V c t
    | ⟨4, _⟩ => o4 V c t
    | ⟨5, _⟩ => fun _ => combine (cell (o0 V c t)) (cell (o1 V c t)) (o2 V c t) (o3 V c t) (o4 V c t)

omit [FloatOps F] in
/-- A whole memref owned at a value is its buffer held at contents that read as the value. -/
theorem owns_pt {sp : Space} {S : Shape} {e : EltTy} (M : Memref sig .tc sp S e) (h : M.IsWhole) (X : S.Idx → Elt F e) :
    (owns (c : Thread nD τ) M fullShare X : sProp (Mo F)) = iprop(∃ f, ⌜M.view.read (Elt F) f = X⌝ ∗ pt c M f) := by
  unfold owns pt
  rw [h.set_eq_univ]

/-- The proof data of the summing pipeline, and of the combining one. -/
abbrev dat0 (n : ℕ) : Dat τ (Elt F) (HIx 1) ℕ UU ℕ cfg0 c := dats V n (after V) 0 c
abbrev dat2 (n : ℕ) : Dat τ (Elt F) (HIx 1) ℕ UU ℕ cfg2 c := dats V n (after V) 1 c

/-! ## The sums of the TensorCore's batches -/

/-- The body takes its first branch at the first step alone. -/
theorem first_iff (t : Fin cfg0.N) : isFirst (grid0.coords t) ↔ t.val = 0 :=
  (by decide +kernel : ∀ t : Fin grid0.N, isFirst (grid0.coords t) ↔ t.val = 0) t

/-- Before a step the first window holds the block of logits. -/
theorem before0_0 (n : ℕ) (t : Fin cfg0.N) (x : (cfg0.win 0).block.Idx → Elt F (cfg0.win 0).elt) :
    (dat0 V c n).before 0 t x = xBlk V c t := by
  unfold Dat.before; rw [if_pos (fetch0_0 t)]; rfl

/-- Before a step the second window holds the block of labels. -/
theorem before0_1 (n : ℕ) (t : Fin cfg0.N) (x : (cfg0.win 1).block.Idx → Elt F (cfg0.win 1).elt) :
    (dat0 V c n).before 1 t x = tBlk V c t := by
  unfold Dat.before; rw [if_pos (fetch0_1 t)]; rfl

/-- The windows of the results fetch nothing. -/
theorem nofetch (w : Fin cfg0.W) (hw : 2 ≤ w.val) (t : Fin cfg0.N) : (cfg0.win w).fetch t = false := by
  unfold Pipeline.Window.fetch
  fin_cases w <;> simp at hw ⊢

/-- No step but the last writes the results back. -/
theorem noflush (t : Fin cfg0.N) : (t.val - 1) % 6 ≠ 5 := by
  have h6 : cfg0.N = 6 := N_0
  have := t.isLt
  omega

/-- Before a later step the third window holds the losses so far. -/
theorem before0_2 (n : ℕ) (t : Fin cfg0.N) (h : t.val ≠ 0) (x : (cfg0.win 2).block.Idx → Elt F (cfg0.win 2).elt) :
    (dat0 V c n).before 2 t x = fun _ => (tcAcc V c t.val).1 := by
  unfold Dat.before
  rw [if_neg (by rw [nofetch 2 (by decide) t]; decide), if_neg h]
  dsimp only
  rw [if_neg (fun hf => noflush t ((flush0_2 _).mp hf))]
  obtain ⟨k, hk⟩ : ∃ k, t.val = k + 1 := ⟨t.val - 1, by omega⟩
  show (fun _ => (tcAcc V c (t.val - 1 + 1)).1) = _
  rw [hk]
  rfl

/-- Before a later step the fourth window holds the weights so far. -/
theorem before0_3 (n : ℕ) (t : Fin cfg0.N) (h : t.val ≠ 0) (x : (cfg0.win 3).block.Idx → Elt F (cfg0.win 3).elt) :
    (dat0 V c n).before 3 t x = fun _ => (tcAcc V c t.val).2 := by
  unfold Dat.before
  rw [if_neg (by rw [nofetch 3 (by decide) t]; decide), if_neg h]
  dsimp only
  rw [if_neg (fun hf => noflush t ((flush0_3 _).mp hf))]
  obtain ⟨k, hk⟩ : ∃ k, t.val = k + 1 := ⟨t.val - 1, by omega⟩
  show (fun _ => (tcAcc V c (t.val - 1 + 1)).2) = _
  rw [hk]
  rfl

/-- The summing body meets its obligation. -/
theorem body0 (n : ℕ) : BodyObligation (dat0 V c n) (defs₀ (F := F)) 𝒱₀ (none : HIx 1) Set.univ := fun t => by
  rw [bigSep_W0, bigSep_W0]
  rw [show (dat0 V c n).Φ t.succ = (dat0 V c n).Φ t.castSucc from rfl,
    show (dat0 V c n).owesAt (none : HIx 1) t.succ = (dat0 V c n).owesAt (none : HIx 1) t.castSucc from rfl]
  have s0 : (st0_0 t).IsWhole := hstage0_0 ((cfg0.slots t 0).cast nbuf0_0)
  have s1 : (st0_1 t).IsWhole := hstage0_1 ((cfg0.slots t 1).cast nbuf0_1)
  have s2 : (st0_2 t).IsWhole := hstage0_2 ((cfg0.slots t 2).cast nbuf0_2)
  have s3 : (st0_3 t).IsWhole := hstage0_3 ((cfg0.slots t 3).cast nbuf0_3)
  simp only [owns_pt c (st0_0 t) s0, owns_pt c (st0_1 t) s1, owns_pt c (st0_2 t) s2, owns_pt c (st0_3 t) s3]
  show _ ⊢ wp frame (wpE (defs₀ (F := F)) 𝒱₀ (c : Thread nD τ) none) Set.univ (bodyAt0 t) _
  iintro ⟨HΦ, Howes, ⟨%d0, %f0, %hf0, H0⟩, ⟨%d1, %f1, %hf1, H1⟩, ⟨%d2, %f2, %hf2, H2⟩, ⟨%d3, %f3, %hf3, H3⟩⟩
  rw [before0_0] at hf0
  rw [before0_1] at hf1
  have run : ∀ Q : PUnit → sProp (Mo F), iprop(pt c (st0_0 t) f0 ∗ pt c (st0_1 t) f1 ∗ pt c (st0_2 t) f2 ∗ pt c (st0_3 t) f3
      ∗ (iprop(∃ g2 g3, ⌜(st0_2 t).view.read (Elt F) g2 = (fun _ => (tcStep (xBlk V c t) (tBlk V c t) (tcAcc V c t.val)).1)
          ∧ (st0_3 t).view.read (Elt F) g3 = (fun _ => (tcStep (xBlk V c t) (tBlk V c t) (tcAcc V c t.val)).2)⌝
            ∗ pt c (st0_0 t) f0 ∗ pt c (st0_1 t) f1 ∗ pt c (st0_2 t) g2 ∗ pt c (st0_3 t) g3) -∗ Q ⟨⟩))
      ⊢ wp frame (wpE (defs₀ (F := F)) 𝒱₀ (c : Thread nD τ) none) Set.univ (bodyAt0 t) Q := by
    intro Q
    by_cases ht : t.val = 0
    · have h := tc_run_first (grid0.coords t) ((first_iff t).mpr ht) c (st0_0 t) s0 (st0_1 t) s1 (st0_2 t) s2 (st0_3 t) s3 f0 f1 f2 f3 Set.univ Q
      rw [hf0, hf1] at h
      rw [show tcAcc V c t.val = tcZero from by rw [ht]; rfl]
      exact h
    · have h := tc_run_next (grid0.coords t) (fun h => ht ((first_iff t).mp h)) c (st0_0 t) s0 (st0_1 t) s1 (st0_2 t) s2 (st0_3 t) s3 f0 f1 f2 f3
        (tcAcc V c t.val) (hf2.trans (before0_2 V c n t ht d2)) (hf3.trans (before0_3 V c n t ht d3)) Set.univ Q
      rw [hf0, hf1] at h
      exact h
  iapply (run _)
  isplitl [H0]; · iexact H0
  isplitl [H1]; · iexact H1
  isplitl [H2]; · iexact H2
  isplitl [H3]; · iexact H3
  iintro ⟨%g2, %g3, %hg, H0, H1, H2, H3⟩
  rw [← tcAcc_succ] at hg
  isplitl [HΦ]; · iexact HΦ
  isplitl [Howes]; · iexact Howes
  isplitl [H0]; · iexists f0; isplitr; (· ipureintro; exact hf0); iexact H0
  isplitl [H1]; · iexists f1; isplitr; (· ipureintro; exact hf1); iexact H1
  isplitl [H2]; · iexists g2; isplitr; (· ipureintro; exact hg.1); iexact H2
  iexists g3; isplitr; (· ipureintro; exact hg.2); iexact H3

/-- What the first result array holds after the pipeline, and the second. -/
theorem final0_2 (n : ℕ) : (dat0 V c n).arrAt 2 cfg0.N = fun _ => (tcAcc V c 6).1 :=
  (dat0 V c n).arrAt_eq_of_cover 2 (fun _ => (tcAcc V c 6).1) (fun t hf => by
    have hN : cfg0.N = 6 := N_0
    have h3 : t.val + 1 = 6 := by have := (flush0_2 t).mp hf; have := t.isLt; omega
    show (cfg0.win 2).cut (grid0.coords t) (fun _ => (tcAcc V c (t.val + 1)).1) = _
    rw [h3]
    rfl) fun i => ⟨t0_5, (flush0_2 _).mpr rfl, by
      show (i : S1x1.Idx) ∈ ((View.whole main_v0_0).slice (win0_2.rect t0_5)).set
      rw [View.set_slice_whole, Rect.mem_set_unit]
      intro a
      have h0 : (i a : ℕ) < S1x1.size a := (i a).isLt
      have h1 : S1x1.size a = 1 := by fin_cases a <;> rfl
      have h2 : win0_2.index t0_5 a * win0_2.size a = 0 := by fin_cases a <;> decide +kernel
      have h3 : win0_2.xsize (grid0.coords t0_5) a = 1 := by fin_cases a <;> decide +kernel
      show win0_2.index t0_5 a * win0_2.size a ≤ (i a : ℕ) ∧ (i a : ℕ) < win0_2.index t0_5 a * win0_2.size a + win0_2.xsize (grid0.coords t0_5) a
      omega⟩

/-- After the last step the second result is the sum of all the weights. -/
theorem final0_3 (n : ℕ) : (dat0 V c n).arrAt 3 cfg0.N = fun _ => (tcAcc V c 6).2 :=
  (dat0 V c n).arrAt_eq_of_cover 3 (fun _ => (tcAcc V c 6).2) (fun t hf => by
    have hN : cfg0.N = 6 := N_0
    have h3 : t.val + 1 = 6 := by have := (flush0_3 t).mp hf; have := t.isLt; omega
    show (cfg0.win 3).cut (grid0.coords t) (fun _ => (tcAcc V c (t.val + 1)).2) = _
    rw [h3]
    rfl) fun i => ⟨t0_5, (flush0_3 _).mpr rfl, by
      show (i : S1x1.Idx) ∈ ((View.whole main_v0_1).slice (win0_3.rect t0_5)).set
      rw [View.set_slice_whole, Rect.mem_set_unit]
      intro a
      have h0 : (i a : ℕ) < S1x1.size a := (i a).isLt
      have h1 : S1x1.size a = 1 := by fin_cases a <;> rfl
      have h2 : win0_3.index t0_5 a * win0_3.size a = 0 := by fin_cases a <;> decide +kernel
      have h3 : win0_3.xsize (grid0.coords t0_5) a = 1 := by fin_cases a <;> decide +kernel
      show win0_3.index t0_5 a * win0_3.size a ≤ (i a : ℕ) ∧ (i a : ℕ) < win0_3.index t0_5 a * win0_3.size a + win0_3.xsize (grid0.coords t0_5) a
      omega⟩

/-! ## The combination -/

attribute [local irreducible] combine

/-- The second call leaves its argument windows as they are. -/
theorem before2 (n : ℕ) (w : Fin cfg2.W) (hw : w ≠ 5) (t : Fin cfg2.N) (x : (cfg2.win w).block.Idx → Elt F (cfg2.win w).elt) :
    (dat2 V c n).before w t x = (dat2 V c n).after w t := by
  obtain rfl := fin_N2 t
  fin_cases w <;> first | exact absurd rfl hw | (unfold Dat.before; rw [if_pos (by decide)]; rfl)

/-- The combining body meets its obligation. -/
theorem body2 (n : ℕ) : BodyObligation (dat2 V c n) (defs₀ (F := F)) 𝒱₀ (none : HIx 1) Set.univ := fun t => by
  obtain rfl := fin_N2 t
  rw [bigSep_W2, bigSep_W2]
  rw [show (dat2 V c n).Φ t2_0.succ = (dat2 V c n).Φ t2_0.castSucc from rfl,
    show (dat2 V c n).owesAt (none : HIx 1) t2_0.succ = (dat2 V c n).owesAt (none : HIx 1) t2_0.castSucc from rfl]
  simp only [owns_pt c (st2_0 t2_0) (hstage2_0 0), owns_pt c (st2_1 t2_0) (hstage2_1 0), owns_pt c (st2_2 t2_0) (hstage2_2 0),
    owns_pt c (st2_3 t2_0) (hstage2_3 0), owns_pt c (st2_4 t2_0) (hstage2_4 0), owns_pt c (st2_5 t2_0) (hstage2_5 0)]
  show _ ⊢ wp frame (wpE (defs₀ (F := F)) 𝒱₀ (c : Thread nD τ) none) Set.univ (bodyAt2 t2_0) _
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before2 V c n 0 (by decide)] at hf0
  rw [before2 V c n 1 (by decide)] at hf1
  rw [before2 V c n 2 (by decide)] at hf2
  rw [before2 V c n 3 (by decide)] at hf3
  rw [before2 V c n 4 (by decide)] at hf4
  iapply (combine_run c (st2_0 t2_0) (hstage2_0 0) (st2_1 t2_0) (hstage2_1 0) (st2_2 t2_0) (hstage2_2 0) (st2_3 t2_0) (hstage2_3 0)
    (st2_4 t2_0) (hstage2_4 0) (st2_5 t2_0) (hstage2_5 0) f0 f1 f2 f3 f4 f5 (cell (o0 V c t2_0)) (cell (o1 V c t2_0))
    (hf0.trans (eq_cell (o0 V c t2_0))) (hf1.trans (eq_cell (o1 V c t2_0))) Set.univ _)
  isplitl [H0]; · iexact H0
  isplitl [H1]; · iexact H1
  isplitl [H2]; · iexact H2
  isplitl [H3]; · iexact H3
  isplitl [H4]; · iexact H4
  isplitl [H5]; · iexact H5
  iintro ⟨%g5, %hg, H0, H1, H2, H3, H4, H5⟩
  rw [hf2, hf3, hf4] at hg
  isplitl [HΦ]; · iexact HΦ
  isplitl [Howes]; · iexact Howes
  isplitl [H0]; · iexists f0; isplitr; (· ipureintro; exact hf0); iexact H0
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  iexists g5; isplitr; (· ipureintro; exact hg); iexact H5

/-- A window over a whole array shows the array. -/
theorem o0_eq (t : Fin cfg2.N) : o0 V c t = V c main_v0_0 := by
  obtain rfl := fin_N2 t
  exact Memref.read_access_unit_zero (Elt F) main_v0_0 (funext fun a => by fin_cases a <;> decide) _ _
/-- The block of the second argument is the array. -/
theorem o1_eq (t : Fin cfg2.N) : o1 V c t = V c main_v0_1 := by
  obtain rfl := fin_N2 t
  exact Memref.read_access_unit_zero (Elt F) main_v0_1 (funext fun a => by fin_cases a <;> decide) _ _
/-- The block of the third argument is the array. -/
theorem o2_eq (t : Fin cfg2.N) : o2 V c t = V c main_v1_0 := by
  obtain rfl := fin_N2 t
  exact Memref.read_access_unit_zero (Elt F) main_v1_0 (funext fun a => by fin_cases a <;> decide) _ _
/-- The block of the fourth argument is the array. -/
theorem o3_eq (t : Fin cfg2.N) : o3 V c t = V c main_v1_1 := by
  obtain rfl := fin_N2 t
  exact Memref.read_access_unit_zero (Elt F) main_v1_1 (funext fun a => by fin_cases a <;> decide) _ _
/-- The block of the fifth argument is the array. -/
theorem o4_eq (t : Fin cfg2.N) : o4 V c t = V c main_v1_2 := by
  obtain rfl := fin_N2 t
  exact Memref.read_access_unit_zero (Elt F) main_v1_2 (funext fun a => by fin_cases a <;> decide) _ _

/-- The loss that the combination leaves. -/
def combined : F .f32 := combine (cell (V c main_v0_0)) (cell (V c main_v0_1)) (V c main_v1_0) (V c main_v1_1) (V c main_v1_2)

/-- After the second call its result is the combination of its arguments. -/
theorem final2_5 (n : ℕ) : (dat2 V c n).arrAt 5 cfg2.N = fun _ => combined V c :=
  (dat2 V c n).arrAt_eq_of_cover 5 (fun _ => combined V c) (fun t _ => by
    show (cfg2.win 5).cut (grid2.coords t) (fun _ => combine (cell (o0 V c t)) (cell (o1 V c t)) (o2 V c t) (o3 V c t) (o4 V c t)) = _
    have h : combine (cell (o0 V c t)) (cell (o1 V c t)) (o2 V c t) (o3 V c t) (o4 V c t) = combined V c := by
      unfold combined
      rw [o0_eq, o1_eq, o2_eq, o3_eq, o4_eq]
    rw [h]
    rfl) fun i => ⟨t2_0, flush2_5 _, by
      show (i : S1x1.Idx) ∈ ((View.whole main_v2).slice (win2_5.rect t2_0)).set
      rw [View.set_slice_whole, Rect.mem_set_unit]
      intro a
      have h0 : (i a : ℕ) < S1x1.size a := (i a).isLt
      have h1 : S1x1.size a = 1 := by fin_cases a <;> rfl
      have h2 : win2_5.index t2_0 a * win2_5.size a = 0 := by fin_cases a <;> decide +kernel
      have h3 : win2_5.xsize (grid2.coords t2_0) a = 1 := by fin_cases a <;> decide +kernel
      show win2_5.index t2_0 a * win2_5.size a ≤ (i a : ℕ) ∧ (i a : ℕ) < win2_5.index t2_0 a * win2_5.size a + win2_5.xsize (grid2.coords t2_0) a
      omega⟩

end Cert.Proof.Loss

end
-- ==== Proof.Main.lean ====
/-
  The program's run: @main on the TensorCore, from the launch memory through the two pipelines and the SparseCore call to
  the result, and the execution of every thread that the launch theorem makes of it.
-/
module

public import proofs.«01_k».proof.Proof.Task
public import proofs.«01_k».proof.Proof.Regions

@[expose] public section

noncomputable section

namespace Cert.Proof.Loss

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cells launchToks cellsGhost toksInit)

variable {F : FTy → Type} [FloatOps F]

attribute [local irreducible] chunksVal scanVal combine tcAcc

/-! ## The arrays of @main, stage by stage -/

section Stages

variable (m : (ℓ : Loc nD τ sig) → Buf (Elt F) ℓ)

omit [FloatOps F] in
/-- The arrays as launched, -/
def V0 : Vals F := fun c b => m ((c : Thread nD τ).loc b)
/-- after the sums of the TensorCore's batches, -/
def V1 : Vals F := fun c => Function.update (Function.update (V0 m c) main_v0_0 (fun _ => (tcAcc (V0 m) c 6).1)) main_v0_1 (fun _ => (tcAcc (V0 m) c 6).2)
/-- after the SparseCore call, -/
def V2 : Vals F := fun c => Function.update (Function.update (Function.update (V1 m c) main_v1_0 (NV m c)) main_v1_1 (CV m c)) main_v1_2 (PV m c)
/-- after the combining pipeline. -/
def V3 : Vals F := fun c => Function.update (V2 m c) main_v2 (fun _ => combined (V2 m) c)

/-- The result. -/
def loss (d : Dev nD) : F .f32 := combined (V2 m) d

variable (c : Dev nD)

/-- After the first TensorCore call its first result is the sum of the losses. -/
theorem V1_v0_0 : V1 m c main_v0_0 = fun _ => (tcAcc (V0 m) c 6).1 := by
  unfold V1; rw [Function.update_of_ne (by decide), Function.update_self]
/-- Its second result is the sum of the weights. -/
theorem V1_v0_1 : V1 m c main_v0_1 = fun _ => (tcAcc (V0 m) c 6).2 := by
  unfold V1; rw [Function.update_self]
/-- The first TensorCore call changes no other array. -/
theorem V1_of_ne (b : Ref sig .tc) (h0 : b ≠ main_v0_0) (h1 : b ≠ main_v0_1) : V1 m c b = V0 m c b := by
  unfold V1; rw [Function.update_of_ne h1, Function.update_of_ne h0]
/-- After the SparseCore call its first result holds the tiles' sums. -/
theorem V2_v1_0 : V2 m c main_v1_0 = NV m c := by
  unfold V2; rw [Function.update_of_ne (by decide), Function.update_of_ne (by decide), Function.update_self]
/-- Its second result holds the tiles' counts. -/
theorem V2_v1_1 : V2 m c main_v1_1 = CV m c := by
  unfold V2; rw [Function.update_of_ne (by decide), Function.update_self]
/-- Its third result holds the tiles' bits. -/
theorem V2_v1_2 : V2 m c main_v1_2 = PV m c := by
  unfold V2; rw [Function.update_self]
/-- The SparseCore call changes no other array. -/
theorem V2_of_ne (b : Ref sig .tc) (h0 : b ≠ main_v1_0) (h1 : b ≠ main_v1_1) (h2 : b ≠ main_v1_2) : V2 m c b = V1 m c b := by
  unfold V2; rw [Function.update_of_ne h2, Function.update_of_ne h1, Function.update_of_ne h0]
/-- After the second TensorCore call its result is the loss. -/
theorem V3_v2 : V3 m c main_v2 = fun _ => loss m c := by
  unfold V3 loss; rw [Function.update_self]
/-- The second TensorCore call changes no other array. -/
theorem V3_of_ne (b : Ref sig .tc) (h : b ≠ main_v2) : V3 m c b = V2 m c b := by
  unfold V3; rw [Function.update_of_ne h]

/-- The first pipeline's step, -/
def region0 : Pipeline.RegionSeg (pcfgs (F := F)) adm (dats (V0 m) 0 (after (V0 m))) (none : HIx 1) defs₀ 𝒱₀ (K (F := F)).L (K (F := F)).lev 0 :=
  region 0 launch0 (V0 m) (V1 m) 0 (after (V0 m)) (fun c => body0 (V0 m) c 0)
    (fun c w => by
      match w with
      | ⟨0, _⟩ => exact ((dat0 (V0 m) c 0).arrAt_in 0 rfl _).trans (V1_of_ne m c main_arg0 (by decide) (by decide)).symm
      | ⟨1, _⟩ => exact ((dat0 (V0 m) c 0).arrAt_in 1 rfl _).trans (V1_of_ne m c main_arg1 (by decide) (by decide)).symm
      | ⟨2, _⟩ => exact (final0_2 (V0 m) c 0).trans (V1_v0_0 m c).symm
      | ⟨3, _⟩ => exact (final0_3 (V0 m) c 0).trans (V1_v0_1 m c).symm)
    (fun c b hb => V1_of_ne m c b (fun h => hb (Finset.mem_image.mpr ⟨2, Finset.mem_univ _, h.symm⟩)) (fun h => hb (Finset.mem_image.mpr ⟨3, Finset.mem_univ _, h.symm⟩)))

/-- and the second's. -/
def region2 : Pipeline.RegionSeg (pcfgs (F := F)) adm (dats (V2 m) 1 (after (V2 m))) (none : HIx 1) defs₀ 𝒱₀ (K (F := F)).L (K (F := F)).lev 1 :=
  region 1 launch2 (V2 m) (V3 m) 1 (after (V2 m)) (fun c => body2 (V2 m) c 1)
    (fun c w => by
      match w with
      | ⟨0, _⟩ => exact ((dat2 (V2 m) c 1).arrAt_in 0 rfl _).trans (V3_of_ne m c main_v0_0 (by decide)).symm
      | ⟨1, _⟩ => exact ((dat2 (V2 m) c 1).arrAt_in 1 rfl _).trans (V3_of_ne m c main_v0_1 (by decide)).symm
      | ⟨2, _⟩ => exact ((dat2 (V2 m) c 1).arrAt_in 2 rfl _).trans (V3_of_ne m c main_v1_0 (by decide)).symm
      | ⟨3, _⟩ => exact ((dat2 (V2 m) c 1).arrAt_in 3 rfl _).trans (V3_of_ne m c main_v1_1 (by decide)).symm
      | ⟨4, _⟩ => exact ((dat2 (V2 m) c 1).arrAt_in 4 rfl _).trans (V3_of_ne m c main_v1_2 (by decide)).symm
      | ⟨5, _⟩ => exact (final2_5 (V2 m) c 1).trans (V3_v2 m c).symm)
    (fun c b hb => V3_of_ne m c b (fun h => hb (Finset.mem_image.mpr ⟨5, Finset.mem_univ _, h.symm⟩)))

/-- What the first TensorCore call takes: the arrays as at the start. -/
theorem region0_pre : (region0 m).pre c = iprop(unscopedBufs c (V0 m c) ∗ owing 0 c) := rfl
/-- What it gives: the arrays after it. -/
theorem region0_post : (region0 m).post c = iprop(unscopedBufs c (V1 m c) ∗ owing 0 c) := rfl
/-- What the second TensorCore call takes: the arrays after the SparseCore call. -/
theorem region2_pre : (region2 m).pre c = iprop(unscopedBufs c (V2 m c) ∗ owing 1 c) := rfl
/-- What it gives: the arrays after it. -/
theorem region2_post : (region2 m).post c = iprop(unscopedBufs c (V3 m c) ∗ owing 1 c) := rfl

end Stages

/-! ## The steps of @main -/

/-- What the pipelines' steps take from the launch: the ghost state of their cells, and their duty tokens. -/
abbrev ghost (d : Dev nD) : sProp (Mo F) :=
  iprop((cellsGhost (Pipeline.pin (pcfgs (F := F)) adm) EP 0 d ∗ toksInit (Pipeline.pin (pcfgs (F := F)) adm) EP 0 d)
    ∗ (cellsGhost (Pipeline.pin (pcfgs (F := F)) adm) EP 1 d ∗ toksInit (Pipeline.pin (pcfgs (F := F)) adm) EP 1 d))

variable (m : (ℓ : Loc nD τ sig) → Buf (Elt F) ℓ) (ρ : Dev nD → PrngReg)

/-- A TensorCore call as one step of the program: from what it takes to what it gives. -/
theorem region_step [∀ e, Nonempty (Elt F e)] {p : Fin 2} {dts : (p : Fin 2) → (c : Dev nD) → Dat τ (Elt F) (HIx 1) ℕ UU ℕ (Pipeline.pin (pcfgs (F := F)) adm p) c}
    (R : Pipeline.RegionSeg (pcfgs (F := F)) adm dts (none : HIx 1) defs₀ 𝒱₀ (K (F := F)).L (K (F := F)).lev p)
    (d : Dev nD) (Φ : PUnit → sProp (Mo F)) :
    iprop((iprop(boundary (T d) ∗ R.post d) -∗ Φ ⟨⟩) ∗ boundary (T d) ∗ R.pre d ∗ levAts (K (F := F)).L (K (F := F)).lev
        ∗ cellsGhost (Pipeline.pin (pcfgs (F := F)) adm) EP p d ∗ toksInit (Pipeline.pin (pcfgs (F := F)) adm) EP p d)
      ⊢ wp Idealize.ShloMosaic.frame (wpE ((K (F := F)).defs (D (F := F))) 𝒱 (T d) none) Set.univ
          (Prog.lift (.customCall (SparseCore.inner (Pipeline.entry p)) ())) Φ := by
  have h := Pipeline.RegionSeg.wp (pcfgs (F := F)) adm dts none cellOf_inj EP defs₀ 𝒱₀ (K (F := F)).L (K (F := F)).lev R d none (fun _ h => nomatch h)
    (fun u => .ret u) Φ
  refine BIBase.Entails.trans ?_ ((h.trans ((K (F := F)).wp_liftProg (D (F := F)) 𝒱 (T d) Set.univ none _ Φ)))
  iintro ⟨Hk, H⟩
  isplitl [Hk]
  · iintro Hp
    rw [wp_ret]
    imodintro
    iapply Hk; iexact Hp
  iexact H

/-! ## The SparseCore call -/

variable (d : Dev nD)

/-- A family of three over the tiles, as three arrays. -/
theorem rows_whole (n : Buf (Elt F) (nLoc d)) (c : Buf (Elt F) (cLoc d)) (p : Buf (Elt F) (pLoc d)) :
    (bigSep Finset.univ fun i : Fin 2 => bigSep Finset.univ fun w : Fin 16 => rowsAt d (coordsV i w) n c p : sProp (Mo F))
      = iprop((nLoc d ↦{fullShare} n) ∗ (cLoc d ↦{fullShare} c) ∗ (pLoc d ↦{fullShare} p)) := by
  rw [pts_rows (ℓ := nLoc d) (fun q => rowSet (pairL q)) rows_disjoint rows_cover n, pts_rows (ℓ := cLoc d) (fun q => rowSet (pairL q)) rows_disjoint rows_cover c,
    pts_rows (ℓ := pLoc d) (fun q => rowSet (pairL q)) rows_disjoint rows_cover p]
  rw [← bigSep_sep', ← bigSep_sep']
  refine bigSep_congr fun i _ => ?_
  rw [← bigSep_sep', ← bigSep_sep']

/-- The arrays of the SparseCore call, divided into the two SparseCores' parts. -/
theorem call_in : iprop(args m d fullShare ∗ (nLoc d ↦{fullShare} m (nLoc d)) ∗ (cLoc d ↦{fullShare} m (cLoc d)) ∗ (pLoc d ↦{fullShare} m (pLoc d)))
    ⊢ iprop(args m d (Transfers.shareDrop fullShare 2) ∗ bigSep Finset.univ fun c : Fin ((K (F := F)).nCore 0) => (P m).st 0 d c) := by
  rw [show (bigSep Finset.univ fun c : Fin ((K (F := F)).nCore 0) => (P m).st 0 d c) = bigSep Finset.univ fun c : Fin 2 => stP m d c from rfl]
  rw [bigSep_sep' Finset.univ (fun c : Fin 2 => args m d (coreShare c)), ← rows_whole d (m (nLoc d)) (m (cLoc d)) (m (pLoc d))]
  iintro ⟨Ha, Hr⟩
  ihave ⟨Hd, Hs⟩ := (args_toks m d fullShare 2).1 $$ Ha
  isplitl [Hd]; · iexact Hd
  isplitl [Hs]; · iexact Hs
  iexact Hr

/-- The parts that the two SparseCores give back, joined to whole arrays. -/
theorem call_out : iprop(args m d (Transfers.shareDrop fullShare 2) ∗ bigSep Finset.univ fun c : Fin ((K (F := F)).nCore 0) => (P m).dn 0 d c)
    ⊢ iprop(args m d fullShare ∗ (nLoc d ↦{fullShare} NV m d) ∗ (cLoc d ↦{fullShare} CV m d) ∗ (pLoc d ↦{fullShare} PV m d)) := by
  rw [show (bigSep Finset.univ fun c : Fin ((K (F := F)).nCore 0) => (P m).dn 0 d c) = bigSep Finset.univ fun c : Fin 2 => dnP m d c from rfl]
  rw [bigSep_sep' Finset.univ (fun c : Fin 2 => args m d (coreShare c)), ← rows_whole d (NV m d) (CV m d) (PV m d)]
  iintro ⟨Hd, Hs, Hr⟩
  isplitl [Hd Hs]
  · iapply (args_toks m d fullShare 2).2
    isplitl [Hd]; · iexact Hd
    iexact Hs
  iexact Hr

/-! ## @main -/

omit [FloatOps F] in
/-- The arrays of @main, one by one. -/
theorem unscopedBufs_eq (W : (b : Ref sig .tc) → Buf (Elt F) ((d.tc : Thread nD τ).loc b)) :
    (unscopedBufs d W : sProp (Mo F))
      = iprop((xLoc d ↦{fullShare} W main_arg0) ∗ (tLoc d ↦{fullShare} W main_arg1) ∗ (aLoc d ↦{fullShare} W main_v0_0) ∗ (bLoc d ↦{fullShare} W main_v0_1)
        ∗ (nLoc d ↦{fullShare} W main_v1_0) ∗ (cLoc d ↦{fullShare} W main_v1_1) ∗ (pLoc d ↦{fullShare} W main_v1_2) ∗ (lLoc d ↦{fullShare} W main_v2)
        ∗ rLoc d ↦{fullShare} W main_v3) := by
  unfold unscopedBufs
  rw [show (Finset.univ.filter fun b : Ref sig .tc => ¬ b.isScoped)
      = {main_arg0, main_arg1, main_v0_0, main_v0_1, main_v1_0, main_v1_1, main_v1_2, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The call's arrays out of the arrays of @main, and back. -/
theorem call_arrays : (unscopedBufs d (V1 m d) : sProp (Mo F))
    ⊢ iprop((args m d fullShare ∗ (nLoc d ↦{fullShare} m (nLoc d)) ∗ (cLoc d ↦{fullShare} m (cLoc d)) ∗ (pLoc d ↦{fullShare} m (pLoc d)))
      ∗ ((args m d fullShare ∗ (nLoc d ↦{fullShare} NV m d) ∗ (cLoc d ↦{fullShare} CV m d) ∗ (pLoc d ↦{fullShare} PV m d)) -∗ unscopedBufs d (V2 m d))) := by
  rw [unscopedBufs_eq, unscopedBufs_eq, V2_v1_0, V2_v1_1, V2_v1_2]
  rw [V2_of_ne m d main_arg0 (by decide) (by decide) (by decide), V2_of_ne m d main_arg1 (by decide) (by decide) (by decide),
    V2_of_ne m d main_v0_0 (by decide) (by decide) (by decide), V2_of_ne m d main_v0_1 (by decide) (by decide) (by decide),
    V2_of_ne m d main_v2 (by decide) (by decide) (by decide), V2_of_ne m d main_v3 (by decide) (by decide) (by decide),
    V1_of_ne m d main_arg0 (by decide) (by decide), V1_of_ne m d main_arg1 (by decide) (by decide), V1_of_ne m d main_v1_0 (by decide) (by decide),
    V1_of_ne m d main_v1_1 (by decide) (by decide), V1_of_ne m d main_v1_2 (by decide) (by decide)]
  iintro ⟨Hx, Ht, Ha, Hb, Hn, Hc, Hp, Hl, Hr⟩
  isplitl [Hx Ht Hn Hc Hp]
  · isplitl [Hx Ht]
    · isplitl [Hx]; · iexact Hx
      iexact Ht
    isplitl [Hn]; · iexact Hn
    isplitl [Hc]; · iexact Hc
    iexact Hp
  iintro ⟨⟨Hx, Ht⟩, Hn, Hc, Hp⟩
  isplitl [Hx]; · iexact Hx
  isplitl [Ht]; · iexact Ht
  isplitl [Ha]; · iexact Ha
  isplitl [Hb]; · iexact Hb
  isplitl [Hn]; · iexact Hn
  isplitl [Hc]; · iexact Hc
  isplitl [Hp]; · iexact Hp
  isplitl [Hl]; · iexact Hl
  iexact Hr

/-- What @main keeps to the end: the arguments as launched, and the result. -/
abbrev FIN : sProp (Mo F) :=
  iprop((xLoc d ↦{fullShare} m (xLoc d)) ∗ (tLoc d ↦{fullShare} m (tLoc d)) ∗ (rLoc d ↦{fullShare} (fun _ => loss m d : Buf (Elt F) (rLoc d))))

include m in
/-- The reshape of the combined scalar into the result. -/
theorem reshape_step (f : F .f32) (g : Buf (Elt F) (rLoc d)) (Φ : PUnit → sProp (Mo F)) :
    iprop(boundary (T d) ∗ (lLoc d ↦{fullShare} (fun _ => f : Buf (Elt F) (lLoc d))) ∗ (rLoc d ↦{fullShare} g))
      ⊢ iprop(((boundary (T d) ∗ (rLoc d ↦{fullShare} (fun _ => f : Buf (Elt F) (rLoc d)))) -∗ Φ ⟨⟩)
        -∗ wp Idealize.ShloMosaic.frame (wpE ((K (F := F)).defs (D (F := F))) 𝒱 (T d) none) Set.univ
          (hlo rfl (StableHlo.reshape main_v2 main_v3 (rfl : (.f32 : EltTy) = .f32) shapeCasts_S1x1_S_) (fun _ => .ret ⟨⟩)) Φ) := by
  let V : Valuation τ sig (Elt F) := Function.update (Function.update (fun b => m (d, b)) (Proc.devRef .tc main_v2) (fun _ => f)) (Proc.devRef .tc main_v3) g
  have hne : (Proc.devRef .tc main_v2 : DevRef τ sig) ≠ Proc.devRef .tc main_v3 := by decide
  have h2 : V (Proc.devRef .tc main_v2) = fun _ => f := by
    show Function.update _ _ _ _ = _; rw [Function.update_of_ne hne, Function.update_self]
  have h3 : V (Proc.devRef .tc main_v3) = g := by
    show Function.update _ _ _ _ = _; rw [Function.update_self]
  have hr : (StableHlo.reshape (τ := τ) (Val := Elt F) main_v2 main_v3 (rfl : (.f32 : EltTy) = .f32) shapeCasts_S1x1_S_).result V (Proc.devRef .tc main_v3) = fun _ => f := by
    rw [StableHlo.reshape_result]
    funext i
    show V (Proc.devRef .tc main_v2) _ = f
    rw [h2]
  have hs := StableHlo.wp_hlo_within (defs := (K (F := F)).defs (D (F := F))) (𝒱 := 𝒱) (c := T d) (bd := none) (E := Set.univ) (hp := rfl)
    (op := StableHlo.reshape (τ := τ) (Val := Elt F) main_v2 main_v3 (rfl : (.f32 : EltTy) = .f32) shapeCasts_S1x1_S_)
    (k := fun _ => .ret ⟨⟩) (S := {Proc.devRef .tc main_v2, Proc.devRef .tc main_v3}) (Finset.Subset.refl _) (V := V) (Q := Φ)
  unfold StableHlo.held at hs
  rw [SparseCore.bigSep_insert' (by simp), bigSep_singleton, SparseCore.bigSep_insert' (by simp), bigSep_singleton, h2, h3, hr] at hs
  iintro ⟨Hb, Hl, Hr⟩ Hk
  iapply hs $$ [Hb Hl Hr]
  · isplitl [Hb]; · iexact Hb
    isplitl [Hl]; · iexact Hl
    iexact Hr
  iintro ⟨Hb, -, Hr⟩
  rw [wp_ret]
  imodintro
  iapply Hk
  isplitl [Hb]; · iexact Hb
  iexact Hr

/-- What the TensorCore holds between the calls, apart from what it owes. -/
theorem tcSt_open (n : ℕ) : ∃ R : sProp (Mo F), (K (F := F)).tcSt EH d n = iprop(owing n d ∗ R) := ⟨_, rfl⟩

/-- The last array's contents at the end of the second pipeline, and the arguments' and the result's. -/
theorem last_arrays : (unscopedBufs d (V3 m d) : sProp (Mo F))
    ⊢ iprop((xLoc d ↦{fullShare} m (xLoc d)) ∗ (tLoc d ↦{fullShare} m (tLoc d)) ∗ (lLoc d ↦{fullShare} (fun _ => loss m d : Buf (Elt F) (lLoc d))) ∗ (rLoc d ↦{fullShare} m (rLoc d))) := by
  rw [unscopedBufs_eq, V3_v2]
  rw [V3_of_ne m d main_arg0 (by decide), V3_of_ne m d main_arg1 (by decide), V3_of_ne m d main_v3 (by decide),
    V2_of_ne m d main_arg0 (by decide) (by decide) (by decide), V2_of_ne m d main_arg1 (by decide) (by decide) (by decide),
    V2_of_ne m d main_v3 (by decide) (by decide) (by decide),
    V1_of_ne m d main_arg0 (by decide) (by decide), V1_of_ne m d main_arg1 (by decide) (by decide), V1_of_ne m d main_v3 (by decide) (by decide)]
  iintro ⟨Hx, Ht, -, -, -, -, -, Hl, Hr⟩
  isplitl [Hx]; · iexact Hx
  isplitl [Ht]; · iexact Ht
  isplitl [Hl]; · iexact Hl
  iexact Hr

/-- @main on device `d`'s TensorCore. -/
theorem hmain [∀ e, Nonempty (Elt F e)] (κ : GSem nD τ sig → ℕ) :
    iprop((K (F := F)).ctx EH (P m) κ ∗ (K (F := F)).tcSt EH d 0 ∗ (K (F := F)).tcRes m ρ d ∗ ghost d)
      ⊢ wp Idealize.ShloMosaic.frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  obtain ⟨R0, e0⟩ := tcSt_open (F := F) d 0
  obtain ⟨R1, e1⟩ := tcSt_open (F := F) d 1
  simp only [main, wp_bind, wp_pure]
  iintro ⟨#Hctx, Hst, ⟨Hb, Hu, Hts, -⟩, ⟨Hg0, Hg1⟩⟩
  ihave #Hlv := (SparseCore.Cfg.ctx_levAts (K := K (F := F)) (EH := EH) (P := P m) κ) $$ Hctx
  ihave ⟨HO, HR⟩ := (Entails.of_eq e0) $$ Hst
  iapply (region_step (region0 m) d)
  rw [region0_pre, region0_post]
  isplitr [Hb Hu HO Hg0]
  · iintro ⟨Hb, Hu, HO⟩
    ihave Hst := (Entails.of_eq e0.symm) $$ [HO HR]
    · isplitl [HO]; · iexact HO
      iexact HR
    ihave ⟨Hin, Hback⟩ := (call_arrays m d) $$ Hu
    ihave ⟨Hdrop, Hin⟩ := (call_in m d) $$ Hin
    iapply ((K (F := F)).wp_run (D (F := F)) 𝒱 (EH := EH) (P := P m) κ d 0)
    isplitr; · iexact Hctx
    isplitl [Hst]; · iexact Hst
    isplitl [Hin]; · iexact Hin
    iintro ⟨Hst, Hdn⟩
    ihave Hout := (call_out m d) $$ [Hdrop Hdn]
    · isplitl [Hdrop]; · iexact Hdrop
      iexact Hdn
    ihave Hu := Hback $$ Hout
    ihave ⟨HO, HR⟩ := (Entails.of_eq (show (K (F := F)).tcSt EH d ((0 : Fin 1).val + 1) = _ from e1)) $$ Hst
    iapply (region_step (region2 m) d)
    rw [region2_pre, region2_post]
    isplitr [Hb Hu HO Hg1]
    · iintro ⟨Hb, Hu, HO⟩
      ihave Hst := (Entails.of_eq e1.symm) $$ [HO HR]
      · isplitl [HO]; · iexact HO
        iexact HR
      ihave ⟨Hx, Ht, Hl, Hr⟩ := (last_arrays m d) $$ Hu
      iapply (reshape_step m d) $$ [Hb Hl Hr]
      · isplitl [Hb]; · iexact Hb
        isplitl [Hl]; · iexact Hl
        iexact Hr
      iintro ⟨Hb, Hr⟩
      imodintro
      isplitl [Hst]; · iexact Hst
      isplitl [Hx Ht Hr]
      · isplitl [Hx]; · iexact Hx
        isplitl [Ht]; · iexact Ht
        iexact Hr
      isplitl [Hb]; · iexact Hb
      iexact Hts
    isplitl [Hb]; · iexact Hb
    isplitl [Hu HO]
    · isplitl [Hu]; · iexact Hu
      iexact HO
    isplitr; · iexact Hlv
    iexact Hg1
  isplitl [Hb]; · iexact Hb
  isplitl [Hu HO]
  · isplitl [Hu]; · iexact Hu
    iexact HO
  isplitr; · iexact Hlv
  iexact Hg0

/-! ## The launch -/

/-- The launch element: the handshakes' rounds and the pipelines'. -/
def u₀ : UU := (initOf (K (F := F)).hsCells (K (F := F)).hsToks,
  (initOf (cells (Pipeline.pin (pcfgs (F := F)) adm) cellOf_inj) (launchToks (Pipeline.pin (pcfgs (F := F)) adm) cellOf_inj), 1))

/-- The pipelines' ghost state, device by device. -/
theorem ghosts_join : iprop((bigSep Finset.univ fun c : Dev nD => bigSep Finset.univ fun p => cellsGhost (Pipeline.pin (pcfgs (F := F)) adm) (EP (F := F)) p c)
      ∗ (bigSep Finset.univ fun c : Dev nD => bigSep Finset.univ fun p => toksInit (Pipeline.pin (pcfgs (F := F)) adm) (EP (F := F)) p c))
    ⊢ bigSep Finset.univ fun d : Dev nD => ghost (F := F) d := by
  rw [← bigSep_sep']
  refine bigSep_mono fun d _ => ?_
  have hg : (bigSep Finset.univ fun p => cellsGhost (Pipeline.pin (pcfgs (F := F)) adm) (EP (F := F)) p d)
      = iprop(cellsGhost (Pipeline.pin (pcfgs (F := F)) adm) (EP (F := F)) 0 d ∗ cellsGhost (Pipeline.pin (pcfgs (F := F)) adm) (EP (F := F)) 1 d) :=
    bigSep_univ_eq_bigSepL ([0, 1] : List (Fin 2)) (by decide) (by decide) _
  have ht : (bigSep Finset.univ fun p => toksInit (Pipeline.pin (pcfgs (F := F)) adm) (EP (F := F)) p d)
      = iprop(toksInit (Pipeline.pin (pcfgs (F := F)) adm) (EP (F := F)) 0 d ∗ toksInit (Pipeline.pin (pcfgs (F := F)) adm) (EP (F := F)) 1 d) :=
    bigSep_univ_eq_bigSepL ([0, 1] : List (Fin 2)) (by decide) (by decide) _
  rw [hg, ht]
  show iprop((cellsGhost (Pipeline.pin (pcfgs (F := F)) adm) (EP (F := F)) 0 d ∗ cellsGhost (Pipeline.pin (pcfgs (F := F)) adm) (EP (F := F)) 1 d)
    ∗ toksInit (Pipeline.pin (pcfgs (F := F)) adm) (EP (F := F)) 0 d ∗ toksInit (Pipeline.pin (pcfgs (F := F)) adm) (EP (F := F)) 1 d) ⊢ ghost (F := F) d
  iintro ⟨⟨H0, H1⟩, G0, G1⟩
  isplitl [H0 G0]
  · isplitl [H0] <;> iassumption
  isplitl [H1] <;> iassumption

/-- The starting resource gives the launch its tokens and each device its share. -/
theorem hu₀ : (ownU (u₀ (F := F)) : sProp (Mo F))
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave ⟨HH, Hr⟩ := (ownU_pair _ _) $$ Hu
  ihave ⟨HP, -⟩ := (own_pair_emb (M' := Mo F) embR _ _) $$ Hr
  ihave HP := (Entails.of_eq (show BI.own (((Emb.inl : Emb UP (UP × Counters)).trans embR)
      (initOf (cells (Pipeline.pin (pcfgs (F := F)) adm) cellOf_inj) (launchToks (Pipeline.pin (pcfgs (F := F)) adm) cellOf_inj)))
    = BI.own (EP (initOf (cells (Pipeline.pin (pcfgs (F := F)) adm) cellOf_inj) (launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · iapply ghosts_join; isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp (Mo F)) from bigSep_emp_const _]
  iempintro

/-- What is read off the memory at the end. -/
def fq (d : Dev nD) (s' : Phys nD τ sig (Elt F)) : Prop :=
  s'.mem.mem (xLoc d) = m (xLoc d) ∧ s'.mem.mem (tLoc d) = m (tLoc d) ∧ s'.mem.mem (rLoc d) = fun _ => loss m d

/-- An array held whole is what the memory holds. -/
theorem held_reads {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp (Mo F)) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

/-- What the program ends with fixes the final memory: the arguments as at the start, and the result the loss. -/
theorem hfin (s' : Phys nD τ sig (Elt F)) : iprop(FIN m d ∗ SI s') ⊢ (⌜fq m d s'⌝ : sProp (Mo F)) := by
  iintro ⟨⟨Hx, Ht, Hr⟩, HSI⟩
  ihave ⟨%hx, HSI⟩ := (held_reads _ s') $$ [HSI Hx]
  · isplitl [Hx] <;> iassumption
  ihave ⟨%ht, HSI⟩ := (held_reads _ s') $$ [HSI Ht]
  · isplitl [Ht] <;> iassumption
  ihave ⟨%hr, HSI⟩ := (held_reads _ s') $$ [HSI Hr]
  · isplitl [Hr] <;> iassumption
  ipureintro; exact ⟨hx, ht, hr⟩

/-- What the whole run leaves: the arguments as launched, the result at the kernel's value, every counter at zero. -/
def QC : PUnit × MemSt nD τ sig (Elt F) → Prop := fun r =>
  (∀ c : Dev nD, r.2.mem (xLoc c) = m (xLoc c) ∧ r.2.mem (tLoc c) = m (tLoc c) ∧ r.2.mem (rLoc c) = fun _ => loss m c) ∧ r.2.sem = fun _ => 0

/-- Every weakly fair execution of all threads ends, and ends so. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => ghost d) (FIN m) (u₀ (F := F)) (sep_elim_left.trans (hu₀ m)) (fun κ d => hmain m ρ d κ) (fq m) (hfin m) (QC m) (fun _ h hz => ⟨h, hz⟩)

end Cert.Proof.Loss

end
-- ==== Proof.Printed.lean ====
/-
  The kernel's two readings are one text: the printed program and the idealized one have, over any float values, equal
  body tables and equal threads.
-/
module

public import proofs.«01_k».proof.Proof.Gen.Kernel
public import proofs.«01_k».proof.Proof.Gen.KernelIdeal

@[expose] public section

set_option maxHeartbeats 4000000

noncomputable section

namespace Cert.Proof.Printed

open Idealize.ShloMosaic

variable {F : FTy → Type} [FloatOps F]

/-- The three bodies, on the processors that run them and on the others. -/
theorem bodies_eq : Cert.Kernel.defs₀ (F := F) = Cert.KernelIdeal.defs₀ (F := F) := by
  funext p ℓ a
  match p, ℓ, a with
  | .tc, ⟨0, _⟩, a => rfl
  | .tc, ⟨1, _⟩, a => rfl
  | .tc, ⟨2, _⟩, a => rfl
  | .scScalar c, ⟨0, _⟩, a => rfl
  | .scScalar c, ⟨1, _⟩, a => rfl
  | .scScalar c, ⟨2, _⟩, a => rfl
  | .scVector c s, ⟨0, _⟩, a => rfl
  | .scVector c s, ⟨1, _⟩, a => rfl
  | .scVector c s, ⟨2, _⟩, a => rfl

attribute [local irreducible] Cert.Kernel.defs₀ Cert.KernelIdeal.defs₀

/-- The whole table. -/
theorem defs_eq : Cert.Kernel.defs (F := F) = Cert.KernelIdeal.defs (F := F) :=
  congrArg (fun T => (Cert.KernelIdeal.sc (F := F)).defs (Pipeline.defs Cert.KernelIdeal.pcfgs T)) (bodies_eq (F := F))

/-- The threads. -/
theorem threads_eq : Cert.Kernel.threads (F := F) = Cert.KernelIdeal.threads (F := F) := rfl

end Cert.Proof.Printed

end
-- ==== Proof.Frames.lean ====
/-
  The frames: both readings of the kernel run to the end with the arguments unchanged and every counter at zero, and so
  does the reference.
-/
module

public import proofs.«01_k».proof.Proof.Main
public import proofs.«01_k».proof.Proof.Printed
public import proofs.«01_k».proof.Proof.Gen.ReferenceIdeal
public import proofs.«01_k».proof.Proof.Gen.ReferenceIdeal.Run

@[expose] public section

noncomputable section

namespace Cert.Proof.Loss

open Idealize.ShloMosaic Idealize.SL.Sem

section Printed

variable {F : FTy → Type} [FloatOps F]

attribute [local irreducible] Cert.Kernel.defs Cert.KernelIdeal.defs Cert.Kernel.main Cert.KernelIdeal.main loss

/-- The kernel as printed, over any float values: its text is the idealized one's. -/
theorem run_printed [∀ e, Nonempty (Elt F e)] (m : (ℓ : Loc Cert.Kernel.nD Cert.Kernel.τ Cert.Kernel.sig) → Buf (Elt F) ℓ) (ρ : Dev Cert.Kernel.nD → PrngReg) :
    θ_run (Cert.Kernel.defs (F := F)) (Cert.Kernel.threads (F := F)) ⟨m, fun _ => 0, ρ⟩ (QC (F := F) m) := by
  rw [Printed.defs_eq, Printed.threads_eq]
  exact run_main (F := F) m ρ

end Printed

/-- The kernel as printed, at the bit-exact float values. -/
theorem frame_kernel : Cert.quiescent_Kernel := fun m ρ _ =>
  (θ_run Cert.Kernel.defs _ _).mono (fun _ h => ⟨fun c => ⟨(h.1 c).1, (h.1 c).2.1⟩, h.2⟩) (run_printed (F := Bits) m ρ)

/-- The kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference: a straight line of host operations that declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Loss

end
-- ==== Proof.Pixel.lean ====
/-
  One pixel of the loss, in the real numbers: the loss of ten logits and a label, and the weight of a label. The lemmas
  say that the kernel's chain of operations on one pixel computes them, for finite logits and a label of one of the ten
  classes.
-/
module

public import Idealize.ShloMosaic.Lib.Pointwise

@[expose] public section

noncomputable section

namespace Cert.Proof.Loss

open Idealize.ShloMosaic

/-- The class that a label names. -/
def cls (t : BitVec 32) : Fin 10 := Fin.ofNat 10 t.toNat

/-- The loss of a pixel: the logarithm of the sum of the exponentials less the logit of the label; nothing at class 9. -/
def pixLoss (x : Fin 10 → ℝ) (t : BitVec 32) : ℝ := if t = 9#32 then 0 else Real.log (∑ k, Real.exp (x k)) - x (cls t)

/-- The weight of a pixel: nothing at class 9, else one. -/
def pixKeep (t : BitVec 32) : ℝ := if t = 9#32 then 0 else 1

/-- The kernel's difference at one pixel: the logarithm of the sum of the ten exponentials less the logit selected by the label. -/
def lseSel (x : Fin 10 → EReal) (t : BitVec 32) : EReal :=
  Ideal.log (Ideal.exp (x 0) + Ideal.exp (x 1) + Ideal.exp (x 2) + Ideal.exp (x 3) + Ideal.exp (x 4) + Ideal.exp (x 5) + Ideal.exp (x 6)
      + Ideal.exp (x 7) + Ideal.exp (x 8) + Ideal.exp (x 9))
    - Scalar.select (IntOp.cmpi .eq t 9#32) (x 9) (Scalar.select (IntOp.cmpi .eq t 8#32) (x 8) (Scalar.select (IntOp.cmpi .eq t 7#32) (x 7)
      (Scalar.select (IntOp.cmpi .eq t 6#32) (x 6) (Scalar.select (IntOp.cmpi .eq t 5#32) (x 5) (Scalar.select (IntOp.cmpi .eq t 4#32) (x 4)
      (Scalar.select (IntOp.cmpi .eq t 3#32) (x 3) (Scalar.select (IntOp.cmpi .eq t 2#32) (x 2) (Scalar.select (IntOp.cmpi .eq t 1#32) (x 1)
      (Scalar.select (IntOp.cmpi .eq t 0#32) (x 0) 0)))))))))

/-- A word below ten is one of the ten classes. -/
theorem label_cases {t : BitVec 32} (ht : t.toNat < 10) : ∃ k : Fin 10, t = BitVec.ofNat 32 k.val :=
  ⟨⟨t.toNat, ht⟩, by simp⟩

/-- The class of the word of a class is that class. -/
theorem cls_ofNat (k : Fin 10) : cls (BitVec.ofNat 32 k.val) = k := by
  revert k; decide

/-- A sum of ten exponentials is positive. -/
theorem sum_exp_pos (x : Fin 10 → ℝ) : 0 < ∑ k, Real.exp (x k) :=
  Finset.sum_pos (fun _ _ => Real.exp_pos _) ⟨0, Finset.mem_univ _⟩

/-- The logarithm of a positive real. -/
theorem log_of_pos {r : ℝ} (h : 0 < r) : Ideal.log (r : EReal) = ((Real.log r : ℝ) : EReal) := by
  rw [Ideal.log_coe, if_neg (not_le.mpr h)]

/-- On reals, the kernel's difference is the logarithm of the sum of the exponentials less the logit of the label. -/
theorem lseSel_coe (x : Fin 10 → ℝ) {t : BitVec 32} (ht : t.toNat < 10) :
    lseSel (fun k => (x k : EReal)) t = ((Real.log (∑ k, Real.exp (x k)) - x (cls t) : ℝ) : EReal) := by
  have hs : Ideal.exp (x 0 : EReal) + Ideal.exp (x 1) + Ideal.exp (x 2) + Ideal.exp (x 3) + Ideal.exp (x 4) + Ideal.exp (x 5) + Ideal.exp (x 6)
      + Ideal.exp (x 7) + Ideal.exp (x 8) + Ideal.exp (x 9) = ((∑ k, Real.exp (x k) : ℝ) : EReal) := by
    simp only [Ideal.exp_coe, ← EReal.coe_add, Fin.sum_univ_succ, Fin.sum_univ_zero]
    congr 1
    simp only [add_zero, add_assoc]
    rfl
  unfold lseSel
  rw [hs, log_of_pos (sum_exp_pos x)]
  obtain ⟨k, rfl⟩ := label_cases ht
  rw [cls_ofNat, EReal.coe_sub]
  congr 1
  fin_cases k <;> rfl

/-- The two masks: a comparison widened and converted, and a selection of one or zero. -/
theorem mask_convert (t : BitVec 32) :
    (FloatOps.sitofp (F := Ideal) .f32 (BitVec.setWidth 32 (IntOp.cmpi .ne t 9#32)) : EReal) = ((pixKeep t : ℝ) : EReal) := by
  show ((((BitVec.setWidth 32 (IntOp.cmpi .ne t 9#32)).toInt : ℤ) : ℝ) : EReal) = _
  by_cases h : t = 9#32
  · subst h; simp [pixKeep, IntOp.cmpi]
  · have : IntOp.cmpi .ne t 9#32 = 1#1 := by simp [IntOp.cmpi, bne_iff_ne.mpr h]
    rw [this]; simp [pixKeep, h]

/-- The mask as a selection of one or zero is the weight. -/
theorem mask_select (t : BitVec 32) : Scalar.select (IntOp.cmpi .ne t 9#32) (1 : EReal) 0 = ((pixKeep t : ℝ) : EReal) := by
  by_cases h : t = 9#32
  · subst h; simp [pixKeep, IntOp.cmpi, Scalar.select]
  · have : IntOp.cmpi .ne t 9#32 = 1#1 := by simp [IntOp.cmpi, bne_iff_ne.mpr h]
    rw [this]; simp [pixKeep, h, Scalar.select]

/-- The masked difference is the pixel's loss. -/
theorem lseSel_mask (x : Fin 10 → ℝ) {t : BitVec 32} (ht : t.toNat < 10) :
    lseSel (fun k => (x k : EReal)) t * ((pixKeep t : ℝ) : EReal) = ((pixLoss x t : ℝ) : EReal) := by
  rw [lseSel_coe x ht, ← EReal.coe_mul]
  congr 1
  unfold pixKeep pixLoss
  split <;> simp

/-! ## Arrays at natural coordinates -/

/-- The label at batch `b`, row `r`, column `c` (each modulo its extent). -/
def labelAt (T : (⟨3, ![16, 512, 512]⟩ : Shape).Idx → BitVec 32) (b r c : ℕ) : BitVec 32 := T (ix3 (Fin.ofNat 16 b) (Fin.ofNat 512 r) (Fin.ofNat 512 c))

/-- The ten logits there. -/
def logitsAt {α : Type} (X : (⟨4, ![16, 10, 512, 512]⟩ : Shape).Idx → α) (b r c : ℕ) (k : Fin 10) : α :=
  X (ix4 (Fin.ofNat 16 b) k (Fin.ofNat 512 r) (Fin.ofNat 512 c))

/-- The loss and the weight of a pixel of the arrays. -/
def lossAt (X : (⟨4, ![16, 10, 512, 512]⟩ : Shape).Idx → ℝ) (T : (⟨3, ![16, 512, 512]⟩ : Shape).Idx → BitVec 32) (b r c : ℕ) : ℝ :=
  pixLoss (logitsAt X b r c) (labelAt T b r c)
def keepAt (T : (⟨3, ![16, 512, 512]⟩ : Shape).Idx → BitVec 32) (b r c : ℕ) : ℝ := pixKeep (labelAt T b r c)

/-- A real array as extended reals. -/
theorem coe_sum {ι : Type} (s : Finset ι) (f : ι → ℝ) : ((∑ i ∈ s, f i : ℝ) : EReal) = ∑ i ∈ s, (f i : EReal) :=
  map_sum (⟨⟨fun r : ℝ => (r : EReal), rfl⟩, fun a b => EReal.coe_add a b⟩ : ℝ →+ EReal) f s

end Cert.Proof.Loss

end
-- ==== Proof.RefPixel.lean ====
/-
  What the reference computes at one pixel: minus the selected entry of the logarithm of the softmax, times the weight, is the
  pixel's loss; the softmax's shift by the greatest logit cancels.
-/
module

public import proofs.«01_k».proof.Proof.Gen.ReferenceIdeal.Read
public import proofs.«01_k».proof.Proof.Pixel
public import Idealize.ShloMosaic.Lib.Pointwise

@[expose] public section

set_option maxRecDepth 16384

noncomputable section

namespace Cert.Proof.Loss

open Cert.ReferenceIdeal Cert.ReferenceIdeal.Gen Cert.ReferenceIdeal.Read
open Idealize.ShloMosaic

/-! ## The selection -/

/-- The gather's dimension numbers. -/
abbrev gd := gather_S16x512x512x10_S16x512x512x1x1_S16x512x512x1_n_3_012_012_3_4_1111

/-- The gather along the classes, at a pixel whose start index is a class: that class's entry. -/
theorem gather_apply {α : Type} (X : S16x512x512x10.Idx → α) (I : IVec S16x512x512x1x1 32) (b : Fin 16) (r c : Fin 512)
    (k : Fin 10) (h : I (ix5 b r c 0 0) = BitVec.ofNat 32 k.val) : Host.gather gd X I (ix4 b r c 0) = X (ix4 b r c k) := by
  unfold Host.gather
  refine congrArg X (funext fun a => Fin.ext ?_)
  show gd.start _ I a + gd.batchCoord _ a + gd.offCoord _ a = _
  have hoff : gd.offCoord (ix4 b r c 0) a = 0 := GatherDims.offCoord_eq_zero _ _ _ (fun h => by
    have h' := (GatherDims.mem_sKept _ _).mp h
    revert h'
    show ¬ (a ∉ [3] ∧ a ∉ [0, 1, 2])
    revert a; decide)
  rw [hoff, Nat.add_zero]
  match a with
  | 0 => rw [GatherDims.start_batching _ _ _ _ (by decide), Nat.zero_add]; rfl
  | 1 => rw [GatherDims.start_batching _ _ _ _ (by decide), Nat.zero_add]; rfl
  | 2 => rw [GatherDims.start_batching _ _ _ _ (by decide), Nat.zero_add]; rfl
  | 3 =>
    rw [GatherDims.batchCoord_eq_zero _ _ _ (by decide), Nat.add_zero]
    unfold GatherDims.start
    rw [dif_pos (by decide)]
    have hsi : gd.siIdx (ix4 b r c 0) ⟨List.idxOf (3 : Fin 4) gd.startIndexMap, List.idxOf_lt_length_iff.2 (List.mem_singleton.mpr rfl)⟩ = ix5 b r c 0 0 := by
      funext e; refine Fin.ext ?_
      match e with
      | 0 => rfl
      | 1 => rfl
      | 2 => rfl
      | 3 => rfl
      | 4 => rfl
    rw [hsi, h]
    have : (BitVec.ofNat 32 k.val).toInt.toNat = k.val := by
      clear h hsi hoff
      revert k
      decide
    rw [this]
    show min k.val (10 - 1) = k.val
    omega

/-- The class that the reference selects: class 9 is replaced by class 0. -/
def safe (k : Fin 10) : Fin 10 := if k = 9 then 0 else k

section Labels

variable (T : Vec Ideal S16x512x512 .i32) (b : Fin 16) (r c : Fin 512) (k : Fin 10) (hk : T (ix3 b r c) = BitVec.ofNat 32 k.val)

include hk in
/-- The start index of a pixel. -/
theorem start_index : val_main_call4_v5 (F := Ideal) T (ix5 b r c 0 0) = BitVec.ofNat 32 (safe k).val := by
  unfold val_main_call4_v5 val_main_call4_v4 val_main_call4_v1 val_main_call4_v3 val_main_v26 val_main_v25 val_main_v22 val_main_v2 val_main_v1
    val_main_v0 val_main_call0_v1 val_main_call0_v0 val_main_call3_v1 val_main_call3_v0 val_main_c val_main_c_0 val_main_c_11 val_main_v21
    val_main_c_10 val_main_call4_v0 val_main_call4_c val_main_call4_v2 val_main_call4_c_0
  pointwise []
  rw [hk]
  simp only [id, constantI]
  clear hk
  revert k
  decide

include hk in
/-- Every start index is in range. -/
theorem in_range : val_main_call4_v12 (F := Ideal) T (ix4 b r c 0) = 1#1 := by
  unfold val_main_call4_v12 val_main_call4_v11 val_main_call4_v7 val_main_call4_v10 val_main_call4_v9 val_main_call4_v8 val_main_call4_v6
    val_main_call4_c_3 val_main_call4_c_2 val_main_call4_c_1
  pointwise []
  rw [Finset.univ_unique, Finset.fold_singleton]
  rw [show (default : Fin 1) = 0 from rfl, start_index T b r c k hk]
  clear hk
  revert k
  decide

include hk in
/-- The weight of a pixel. -/
theorem weight_eq : val_main_v30 (F := Ideal) T (ix3 b r c) = ((pixKeep (T (ix3 b r c)) : ℝ) : EReal) := by
  rw [val_main_v30_apply]
  have h : val_main_v22 (F := Ideal) T (ix3 b r c) = if k = 9 then 0#1 else 1#1 := by
    unfold val_main_v22 val_main_v2 val_main_v1 val_main_v0 val_main_call0_v1 val_main_call0_v0 val_main_c val_main_c_0 val_main_v21 val_main_c_10
    pointwise []
    rw [hk]
    simp only [id, constantI]
    clear hk
    revert k
    decide
  rw [h]
  show ((((if k = 9 then 0#1 else 1#1).toNat : ℕ) : ℝ) : EReal) = _
  rw [hk]
  clear hk h
  unfold pixKeep
  have e : BitVec.ofNat 32 k.val = 9#32 ↔ k = 9 := by revert k; decide
  simp only [e]
  split <;> simp

end Labels

/-! ## The logarithm of the softmax -/

section Softmax

variable (X : Vec Ideal S16x10x512x512 .f32) (x : (⟨4, ![16, 10, 512, 512]⟩ : Shape).Idx → ℝ) (hx : ∀ i, X i = ((x i : ℝ) : EReal))
  (b : Fin 16) (r c : Fin 512) (k : Fin 10)

/-- The greatest of reals, from minus infinity: a real, where there are some. -/
theorem fold_max_real {ι : Type} (f : ι → ℝ) (s : Finset ι) (hs : s.Nonempty) : ∃ M : ℝ, Finset.fold max ⊥ (fun i => (f i : EReal)) s = (M : EReal) := by
  classical
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM]; exact (EReal.coe_strictMono.monotone.map_max).symm⟩

include hx in
/-- The shift is a real. -/
theorem shift_real : ∃ M : ℝ, val_main_call2_v2 (F := Ideal) X (ix3 b r c) = (M : EReal) := by
  have h : val_main_call2_v0 (F := Ideal) X (ix3 b r c) = Finset.fold max (Ideal.ofBits .f32 0xFF800000#32) (fun k => X (ix4 b k r c)) Finset.univ := by
    unfold val_main_call2_v0 val_main_v23 val_main_call2_cst
    pointwise []
  obtain ⟨M, hM⟩ := fold_max_real (fun k : Fin 10 => x (ix4 b k r c)) Finset.univ ⟨0, Finset.mem_univ _⟩
  have hb : Ideal.ofBits .f32 0xFF800000#32 = ⊥ := by simp [Ideal.ofBits, Ideal.ieee]
  refine ⟨M, ?_⟩
  rw [val_main_call2_v2_apply, val_main_call2_v1_apply, val_main_call2_cst_0_apply, h]
  simp only [hx]
  show max (Ideal.ofBits .f32 0xFF800000#32) _ = _
  rw [hb, hM, max_bot_left]

include hx in
/-- The entry of a class: its logit less the logarithm of the sum of the exponentials. -/
theorem log_softmax : val_main_v24 (F := Ideal) X (ix4 b r c k)
    = ((x (ix4 b k r c) - Real.log (∑ j, Real.exp (x (ix4 b j r c))) : ℝ) : EReal) := by
  obtain ⟨M, hM⟩ := shift_real X x hx b r c
  have h5 : ∀ j : Fin 10, val_main_call2_v5 (F := Ideal) X (ix4 b r c j) = ((x (ix4 b j r c) - M : ℝ) : EReal) := fun j => by
    have e1 : idx_main_v23 (ix4 b r c j) = ix4 b j r c := by
      funext a
      match a with
      | 0 => rfl
      | 1 => rfl
      | 2 => rfl
      | 3 => rfl
    have e2 : idx_main_call2_v3 (idx_main_call2_v4 (ix4 b r c j)) = ix3 b r c := by
      funext a
      match a with
      | 0 => rfl
      | 1 => rfl
      | 2 => rfl
    rw [val_main_call2_v5_apply, val_main_v23_apply, val_main_call2_v4_apply, val_main_call2_v3_apply, e1, e2, hM, hx, EReal.coe_sub]
    rfl
  have h7 : val_main_call2_v7 (F := Ideal) X (ix3 b r c) = ((∑ j, Real.exp (x (ix4 b j r c) - M) : ℝ) : EReal) := by
    rw [val_main_call2_v7_apply, val_main_call2_cst_1_apply, coe_sum]
    have e3 : ∀ j : Fin 10, idx_main_call2_v7 (ix3 b r c) j = ix4 b r c j := fun j => by
      funext a
      match a with
      | 0 => rfl
      | 1 => rfl
      | 2 => rfl
      | 3 => rfl
    have h0 : (FloatOps.ofBits .f32 0x00000000#32 : Ideal .f32) = (0 : EReal) := Ideal.ofBits_zero_f32
    rw [h0, zero_add]
    refine Finset.sum_congr rfl fun j _ => ?_
    rw [e3, val_main_call2_v6_apply, h5]
    exact Ideal.exp_coe _
  have e4 : idx_main_call2_v8 (idx_main_call2_v10 (ix4 b r c k)) = ix3 b r c := by
    funext a
    match a with
    | 0 => rfl
    | 1 => rfl
    | 2 => rfl
  have hpos : 0 < ∑ j, Real.exp (x (ix4 b j r c) - M) := sum_exp_pos _
  have hpos' : 0 < ∑ j, Real.exp (x (ix4 b j r c)) := sum_exp_pos _
  have hlog : Real.log (∑ j, Real.exp (x (ix4 b j r c) - M)) = Real.log (∑ j, Real.exp (x (ix4 b j r c))) - M := by
    simp only [Real.exp_sub]
    rw [← Finset.sum_div, Real.log_div hpos'.ne' (Real.exp_pos M).ne', Real.log_exp]
  rw [val_main_v24_apply, val_main_call2_v10_apply, val_main_call2_v9_apply, val_main_call2_v8_apply, e4, h7, h5]
  refine (congrArg (fun v : EReal => ((x (ix4 b k r c) - M : ℝ) : EReal) - v) (log_of_pos hpos)).trans ?_
  show ((x (ix4 b k r c) - M : ℝ) : EReal) - _ = _
  rw [hlog, ← EReal.coe_sub]
  have e : ∀ u v w : ℝ, u - w - (v - w) = u - v := fun u v w => by ring
  rw [e]

end Softmax

/-! ## The pixel -/

section Pixel

variable (X : Vec Ideal S16x10x512x512 .f32) (T : Vec Ideal S16x512x512 .i32) (x : (⟨4, ![16, 10, 512, 512]⟩ : Shape).Idx → ℝ)
  (hx : ∀ i, X i = ((x i : ℝ) : EReal)) (hT : ∀ i, (T i : BitVec 32).toNat < 10) (b : Fin 16) (r c : Fin 512)

include hx hT in
/-- The reference's summand at a pixel is the pixel's loss. -/
theorem pixel_loss : val_main_v31 (F := Ideal) X T (ix3 b r c) = ((pixLoss (fun k => x (ix4 b k r c)) (T (ix3 b r c)) : ℝ) : EReal) := by
  obtain ⟨k, hk⟩ := label_cases (hT (ix3 b r c))
  have e28 : idx_main_v28 (ix3 b r c) = ix4 b r c 0 := by
    have hb := b.isLt
    have hr := r.isLt
    have hc := c.isLt
    funext a
    refine Fin.ext ?_
    match a with
    | 0 => show ((b.val * 512 + r.val) * 512 + c.val) / 262144 = b.val; omega
    | 1 => show ((b.val * 512 + r.val) * 512 + c.val) / 512 % 512 = r.val; omega
    | 2 => show ((b.val * 512 + r.val) * 512 + c.val) / 1 % 512 = c.val; omega
    | 3 => rfl
  have h13 : val_main_call4_v13 (F := Ideal) X T (ix4 b r c 0) = val_main_v24 (F := Ideal) X (ix4 b r c (safe k)) := by
    unfold val_main_call4_v13
    exact gather_apply _ _ b r c (safe k) (start_index T b r c k hk)
  rw [val_main_v31_apply, val_main_v29_apply, val_main_v28_apply, e28, val_main_v27_apply, in_range T b r c k hk, weight_eq T b r c k hk, h13,
    log_softmax X x hx b r c]
  show -(Scalar.select 1#1 _ _ : EReal) * _ = _
  have hs : ∀ (u v : EReal), Scalar.select 1#1 u v = u := fun _ _ => rfl
  rw [hs, ← EReal.coe_neg, ← EReal.coe_mul, hk]
  congr 1
  unfold pixKeep pixLoss
  rw [cls_ofNat]
  have e : BitVec.ofNat 32 k.val = 9#32 ↔ k = 9 := by clear hk h13; revert k; decide
  simp only [e]
  by_cases h : k = 9
  · simp [h]
  · simp [h, safe]

end Pixel

end Cert.Proof.Loss
end
-- ==== Proof.ScSum.lean ====
/-
  What the SparseCores' tiles leave in their rows: lane by lane, the losses and the weights of the pixels that the tile
  walks, summed, and the bits of the labels that it meets.
-/
module

public import proofs.«01_k».proof.Proof.Rows
public import proofs.«01_k».proof.Proof.Pixel
public import Idealize.ShloMosaic.Lib.Pipeline.ValueKit
public import Idealize.ShloMosaic.Lib.ValueLayout

@[expose] public section

set_option maxRecDepth 16384

noncomputable section

namespace Cert.Proof.Loss

open Cert.KernelIdeal Cert.KernelIdeal.Gen
open Idealize.ShloMosaic
open Idealize.ShloMosaic.SparseCore (S V)

/-! ## Walks -/

/-- A walk whose every step adds to what `p` reads of the state adds the sum of what its steps add. -/
theorem upto_add {α M : Type} [AddCommMonoid M] {n : ℕ} (f : Fin n → α → α) (p : α → M) (g : ℕ → M) (h : ∀ k a, p (f k a) = p a + g k.val) (a : α) :
    ∀ k, k ≤ n → p (upto f k a) = p a + ∑ i ∈ Finset.range k, g i
  | 0, _ => by simp [upto]
  | k + 1, hk => by
    rw [show upto f (k + 1) a = f ⟨k, by omega⟩ (upto f k a) from upto_succ f ⟨k, by omega⟩ a, h, upto_add f p g h a k (by omega),
      Finset.sum_range_succ, add_assoc]

/-- A walk whose every step adds a case to the proposition `p` adds one of its steps' cases. -/
theorem upto_or {α : Type} {n : ℕ} (f : Fin n → α → α) (p : α → Prop) (g : ℕ → Prop) (h : ∀ k a, p (f k a) ↔ p a ∨ g k.val) (a : α) :
    ∀ k, k ≤ n → (p (upto f k a) ↔ p a ∨ ∃ i < k, g i)
  | 0, _ => by simp [upto]
  | k + 1, hk => by
    rw [show upto f (k + 1) a = f ⟨k, by omega⟩ (upto f k a) from upto_succ f ⟨k, by omega⟩ a, h, upto_or f p g h a k (by omega), or_assoc]
    refine or_congr_right ⟨?_, ?_⟩
    · rintro (⟨i, hi, hg⟩ | hg)
      · exact ⟨i, by omega, hg⟩
      · exact ⟨k, by omega, hg⟩
    · rintro ⟨i, hi, hg⟩
      rcases Nat.lt_succ_iff_lt_or_eq.mp hi with h' | rfl
      · exact .inl ⟨i, h', hg⟩
      · exact .inr hg

/-! ## One trip -/

section Trip

variable (X : Vec Ideal S10x8x512 .f32) (T : Vec Ideal S8x512 .i32) (r : Fin k1_t1_loop.trips) (c : Fin k1_t2_loop.trips) (a : Acc Ideal) (l : Fin 16)

/-- A chunk has 8 rows. -/
theorem trips1 : k1_t1_loop.trips = 8 := by decide +kernel
/-- A row has 32 column blocks. -/
theorem trips2 : k1_t2_loop.trips = 32 := by decide +kernel
/-- A block of the scan has 32 rows. -/
theorem trips17 : k1_t17_loop.trips = 32 := by decide +kernel
/-- A row of the scan has 32 column blocks. -/
theorem trips18 : k1_t18_loop.trips = 32 := by decide +kernel

/-- A lane of the logits that a trip reads. -/
theorem xAt_apply (k r c : ℕ) (off : Fin 3 → ℕ) (h) (e : off = ![k, r, 16 * c]) :
    xAt X off h (ix3 0 0 l) = X (ix3 (Fin.ofNat 10 k) (Fin.ofNat 8 r) (Fin.ofNat 512 (16 * c + l.val))) := by
  subst e
  have h0 : k + 1 ≤ 10 := h 0
  have h1 : r + 1 ≤ 8 := h 1
  have h2 : 16 * c + 16 ≤ 512 := h 2
  refine congrArg X (funext fun ax => Fin.ext ?_)
  match ax with
  | 0 => simp [Rect.unit, ix3]; omega
  | 1 => simp [Rect.unit, ix3]; omega
  | 2 => simp [Rect.unit, ix3]; omega

/-- A lane of the labels that a trip reads. -/
theorem tAt_apply : tAt T r c (ix2 0 l) = T (ix2 (Fin.ofNat 8 r.val) (Fin.ofNat 512 (16 * c.val + l.val))) := by
  have h1 := lt_of_lt_of_eq r.isLt trips1
  have h2 := lt_of_lt_of_eq c.isLt trips2
  refine congrArg T (funext fun ax => Fin.ext ?_)
  match ax with
  | 0 => simp [Rect.unit, ix2, k1_off3_eq]; omega
  | 1 => simp [Rect.unit, ix2, k1_off3_eq]; omega

/-- The label of the trip's lane, and its ten logits. -/
abbrev colT (r c : ℕ) : BitVec 32 := T (ix2 (Fin.ofNat 8 r) (Fin.ofNat 512 (16 * c + l.val)))
abbrev colX (r c : ℕ) (k : Fin 10) : EReal := X (ix3 k (Fin.ofNat 8 r) (Fin.ofNat 512 (16 * c + l.val)))

/-- A lane's sum of losses grows by the pixel's loss, -/
theorem col_loss : (col X T r c a).1 (ix1 l)
    = a.1 (ix1 l) + Scalar.select (IntOp.cmpi .ne (colT T l r.val c.val) 9#32) (lseSel (colX X l r.val c.val) (colT T l r.val c.val)) 0 := by
  unfold col
  unfold_payloads
  pointwise []
  rw [tAt_apply]
  simp only [xAt_apply X l 0 r.val c.val _ _ (k1_off4_eq r c), xAt_apply X l 1 r.val c.val _ _ (k1_off5_eq r c),
    xAt_apply X l 2 r.val c.val _ _ (k1_off6_eq r c), xAt_apply X l 3 r.val c.val _ _ (k1_off7_eq r c),
    xAt_apply X l 4 r.val c.val _ _ (k1_off8_eq r c), xAt_apply X l 5 r.val c.val _ _ (k1_off9_eq r c),
    xAt_apply X l 6 r.val c.val _ _ (k1_off10_eq r c), xAt_apply X l 7 r.val c.val _ _ (k1_off11_eq r c),
    xAt_apply X l 8 r.val c.val _ _ (k1_off12_eq r c), xAt_apply X l 9 r.val c.val _ _ (k1_off13_eq r c)]
  rfl

/-- its count by the pixel's weight, -/
theorem col_keep : (col X T r c a).2.1 (ix1 l) = a.2.1 (ix1 l) + Scalar.select (IntOp.cmpi .ne (colT T l r.val c.val) 9#32) 1 0 := by
  unfold col
  unfold_payloads
  pointwise []
  rw [tAt_apply]

/-- its bits by the label's. -/
theorem col_bits : (col X T r c a).2.2 (ix1 l) = IntOp.ori (a.2.2 (ix1 l)) (IntOp.shli .vector 1#32 (colT T l r.val c.val)) := by
  unfold col
  unfold_payloads
  pointwise []
  rw [tAt_apply]

end Trip

/-- A trip of the scan sets the bit of the lane's label. -/
theorem pcol_bits (T : Vec Ideal S32x512 .i32) (r : Fin k1_t17_loop.trips) (c : Fin k1_t18_loop.trips) (a : IVec S16 32) (l : Fin 16) :
    pcol T r c a (ix1 l) = IntOp.ori (a (ix1 l)) (IntOp.shli .vector 1#32 (T (ix2 (Fin.ofNat 32 r.val) (Fin.ofNat 512 (16 * c.val + l.val))))) := by
  have h1 := lt_of_lt_of_eq r.isLt trips17
  have h2 := lt_of_lt_of_eq c.isLt trips18
  have e : View.ld T (Rect.unit (s := S32x512) (k1_off92 r c) S1x16.size (k1_off92_inb r c)) (ix2 0 l)
      = T (ix2 (Fin.ofNat 32 r.val) (Fin.ofNat 512 (16 * c.val + l.val))) := by
    refine congrArg T (funext fun ax => Fin.ext ?_)
    match ax with
    | 0 => simp [Rect.unit, ix2, k1_off92_eq]; omega
    | 1 => simp [Rect.unit, ix2, k1_off92_eq]; omega
  rw [← e]
  unfold pcol
  generalize View.ld T (Rect.unit (s := S32x512) (k1_off92 r c) S1x16.size (k1_off92_inb r c)) = t
  unfold_payloads
  pointwise []

/-! ## Bits -/

/-- Bit `k` of a word that has the label's bit added. -/
theorem ori_bit (w t : BitVec 32) (ht : t.toNat < 10) (k : Fin 10) :
    (IntOp.ori w (IntOp.shli .vector 1#32 t)).getLsbD k.val = true ↔ w.getLsbD k.val = true ∨ t = BitVec.ofNat 32 k.val := by
  have hs : IntOp.shli .vector 1#32 t = 1#32 <<< t := by unfold IntOp.shli; rw [if_pos (by omega)]
  rw [hs]
  obtain ⟨j, rfl⟩ := label_cases ht
  show (w ||| _).getLsbD _ = true ↔ _
  rw [BitVec.getLsbD_or, Bool.or_eq_true]
  refine or_congr_right ?_
  revert j k
  decide

/-! ## The blocks that a tile reads -/

/-- Tile `w` reads its chunks in batch `12 + w / 8`, 64 rows of it, eight at a time; and its blocks of labels at rows `192 w + 32 k` of the
    rows of all the batches. -/
theorem off1_eq : ∀ (L : grid1.Coords) (k : Fin 8), k1_off1 L (BitVec.ofNat 32 (8 * k.val)) = ![12 + (wid L).val / 8, 0, (wid L).val % 8 * 64 + 8 * k.val, 0] := by
  decide +kernel
/-- Where a tile's chunk starts: its batch, its first row, column 0. -/
theorem off2_eq : ∀ (L : grid1.Coords) (k : Fin 8), k1_off2 L (BitVec.ofNat 32 (8 * k.val)) = ![12 + (wid L).val / 8, (wid L).val % 8 * 64 + 8 * k.val, 0] := by
  decide +kernel
/-- Where a tile's block of the scan starts: its batch, its first row, column 0. -/
theorem off80_eq : ∀ (L : grid1.Coords) (k : Fin 6), k1_off80 L (BitVec.ofNat 32 (32 * k.val))
    = ![((wid L).val * 192 + 32 * k.val) / 512, ((wid L).val * 192 + 32 * k.val) % 512, 0] := by
  decide +kernel

section Blocks

variable (m : (ℓ : Loc nD τ sig) → Buf (Elt Ideal) ℓ) (d : Dev nD) (L : grid1.Coords)

/-- The logits of a chunk, read from the whole array. -/
theorem chunkX_apply (k : Fin 8) (p : Fin 10) (r : Fin 8) (c : Fin 512) :
    chunkX m d L k (ix3 p r c)
      = (m (xLoc d)) (ix4 (Fin.ofNat 16 (12 + (wid L).val / 8)) p (Fin.ofNat 512 ((wid L).val % 8 * 64 + 8 * k.val + r.val)) c) := by
  have hw := (wid L).isLt
  have hk := k.isLt
  have e : Shape.reshapeEquiv squeezes_S1x10x8x512_S10x8x512.numel_eq (ix3 p r c) = ix4 (⟨0, Nat.one_pos⟩ : Fin 1) p r c :=
    ValueIdx.reshapeEquiv_ix3_1abc _ p r c
  show (m (xLoc d)) ((Rect.unit (s := S16x10x512x512) (k1_off1 L (BitVec.ofNat 32 (8 * k.val))) S1x10x8x512.size (k1_off1_inb L k)).emb
    (Shape.reshapeEquiv squeezes_S1x10x8x512_S10x8x512.numel_eq (ix3 p r c))) = _
  rw [e]
  refine congrArg (m (xLoc d)) (funext fun ax => Fin.ext ?_)
  match ax with
  | 0 => simp [Rect.emb, Rect.unit, ix4, off1_eq]; omega
  | 1 => simp [Rect.emb, Rect.unit, ix4, off1_eq]
  | 2 => simp [Rect.emb, Rect.unit, ix4, off1_eq]; omega
  | 3 => simp [Rect.emb, Rect.unit, ix4, off1_eq]

/-- The labels of a chunk, read from the whole array. -/
theorem chunkT_apply (k : Fin 8) (r : Fin 8) (c : Fin 512) :
    chunkT m d L k (ix2 r c)
      = (m (tLoc d)) (ix3 (Fin.ofNat 16 (12 + (wid L).val / 8)) (Fin.ofNat 512 ((wid L).val % 8 * 64 + 8 * k.val + r.val)) c) := by
  have hw := (wid L).isLt
  have hk := k.isLt
  have e : Shape.reshapeEquiv squeezes_S1x8x512_S8x512.numel_eq (ix2 r c) = ix3 (⟨0, Nat.one_pos⟩ : Fin 1) r c :=
    ValueIdx.reshapeEquiv_ix2_1ab _ r c
  show (m (tLoc d)) ((Rect.unit (s := S16x512x512) (k1_off2 L (BitVec.ofNat 32 (8 * k.val))) S1x8x512.size (k1_off2_inb L k)).emb
    (Shape.reshapeEquiv squeezes_S1x8x512_S8x512.numel_eq (ix2 r c))) = _
  rw [e]
  refine congrArg (m (tLoc d)) (funext fun ax => Fin.ext ?_)
  match ax with
  | 0 => simp [Rect.emb, Rect.unit, ix3, off2_eq]; omega
  | 1 => simp [Rect.emb, Rect.unit, ix3, off2_eq]; omega
  | 2 => simp [Rect.emb, Rect.unit, ix3, off2_eq]

/-- The labels of a block of the scan, read from the whole array. -/
theorem scanT_apply (k : Fin 6) (r : Fin 32) (c : Fin 512) :
    scanT m d L k (ix2 r c)
      = (m (tLoc d)) (ix3 (Fin.ofNat 16 (((wid L).val * 192 + 32 * k.val) / 512)) (Fin.ofNat 512 (((wid L).val * 192 + 32 * k.val) % 512 + r.val)) c) := by
  have hw := (wid L).isLt
  have hk := k.isLt
  have e : Shape.reshapeEquiv squeezes_S1x32x512_S32x512.numel_eq (ix2 r c) = ix3 (⟨0, Nat.one_pos⟩ : Fin 1) r c :=
    ValueIdx.reshapeEquiv_ix2_1ab _ r c
  show (m (tLoc d)) ((Rect.unit (s := S16x512x512) (k1_off80 L (BitVec.ofNat 32 (32 * k.val))) S1x32x512.size (k1_off80_inb L k)).emb
    (Shape.reshapeEquiv squeezes_S1x32x512_S32x512.numel_eq (ix2 r c))) = _
  rw [e]
  refine congrArg (m (tLoc d)) (funext fun ax => Fin.ext ?_)
  match ax with
  | 0 => simp [Rect.emb, Rect.unit, ix3, off80_eq]; omega
  | 1 => simp [Rect.emb, Rect.unit, ix3, off80_eq]; omega
  | 2 => simp [Rect.emb, Rect.unit, ix3, off80_eq]

end Blocks

/-! ## The loops of loops -/

section Loops

variable {M : Type} [AddCommMonoid M]

/-- A quantity to which every trip adds: after the rows of a chunk, what it was and the sum. -/
theorem rows_add (X : Vec Ideal S10x8x512 .f32) (T : Vec Ideal S8x512 .i32) (p : Acc Ideal → M) (g : ℕ → ℕ → M)
    (h : ∀ r c a, p (col X T r c a) = p a + g r.val c.val) (a : Acc Ideal) :
    p (rows X T k1_t1_loop.trips a) = p a + ∑ r ∈ Finset.range 8, ∑ c ∈ Finset.range 32, g r c := by
  have := upto_add (fun r => upto (fun c => col X T r c) k1_t2_loop.trips) p (fun r => ∑ c ∈ Finset.range k1_t2_loop.trips, g r c)
    (fun r a => upto_add (fun c => col X T r c) p (g r.val) (h r) a _ le_rfl) a _ le_rfl
  refine this.trans ?_
  rw [trips1, trips2]

/-- A property that every trip may bring about: after the rows of a chunk, it held before or some trip brought it. -/
theorem rows_or (X : Vec Ideal S10x8x512 .f32) (T : Vec Ideal S8x512 .i32) (p : Acc Ideal → Prop) (g : ℕ → ℕ → Prop)
    (h : ∀ r c a, p (col X T r c a) ↔ p a ∨ g r.val c.val) (a : Acc Ideal) :
    p (rows X T k1_t1_loop.trips a) ↔ p a ∨ ∃ r < 8, ∃ c < 32, g r c := by
  have := upto_or (fun r => upto (fun c => col X T r c) k1_t2_loop.trips) p (fun r => ∃ c < k1_t2_loop.trips, g r c)
    (fun r a => upto_or (fun c => col X T r c) p (g r.val) (h r) a _ le_rfl) a _ le_rfl
  refine this.trans ?_
  rw [trips1, trips2]

/-- A property that every trip of the scan may bring about: after the rows of a block, it held before or some trip brought it. -/
theorem prows_or (T : Vec Ideal S32x512 .i32) (p : IVec S16 32 → Prop) (g : ℕ → ℕ → Prop)
    (h : ∀ r c a, p (pcol (F := Ideal) T r c a) ↔ p a ∨ g r.val c.val) (a : IVec S16 32) :
    p (prows (F := Ideal) T k1_t17_loop.trips a) ↔ p a ∨ ∃ r < 32, ∃ c < 32, g r c := by
  have := upto_or (fun r => upto (fun c => pcol (F := Ideal) T r c) k1_t18_loop.trips) p (fun r => ∃ c < k1_t18_loop.trips, g r c)
    (fun r a => upto_or (fun c => pcol (F := Ideal) T r c) p (g r.val) (h r) a _ le_rfl) a _ le_rfl
  refine this.trans ?_
  rw [trips17]

variable (m : (ℓ : Loc nD τ sig) → Buf (Elt Ideal) ℓ) (d : Dev nD) (L : grid1.Coords)

/-- A quantity to which every trip adds: after all the chunks, what it was and the sum. -/
theorem chunks_add (p : Acc Ideal → M) (g : ℕ → ℕ → ℕ → M)
    (h : ∀ k r c a, p (col (chunkX m d L k) (chunkT m d L k) r c a) = p a + g k.val r.val c.val) :
    p (chunksVal m d L 8)
      = p (k1_pay113, k1_pay114, k1_pay115) + ∑ k ∈ Finset.range 8, ∑ r ∈ Finset.range 8, ∑ c ∈ Finset.range 32, g k r c :=
  upto_add _ p (fun k => ∑ r ∈ Finset.range 8, ∑ c ∈ Finset.range 32, g k r c)
    (fun k a => rows_add (chunkX m d L k) (chunkT m d L k) p (g k.val) (h k) a) _ 8 le_rfl

/-- A property that every trip may bring about: after all the chunks, it held at the start or some trip brought it. -/
theorem chunks_or (p : Acc Ideal → Prop) (g : ℕ → ℕ → ℕ → Prop)
    (h : ∀ k r c a, p (col (chunkX m d L k) (chunkT m d L k) r c a) ↔ p a ∨ g k.val r.val c.val) :
    p (chunksVal m d L 8) ↔ p (k1_pay113, k1_pay114, k1_pay115) ∨ ∃ k < 8, ∃ r < 8, ∃ c < 32, g k r c :=
  upto_or _ p (fun k => ∃ r < 8, ∃ c < 32, g k r c) (fun k a => rows_or (chunkX m d L k) (chunkT m d L k) p (g k.val) (h k) a) _ 8 le_rfl

/-- A property that every trip of the scan may bring about: after all its blocks, it held after the chunks or some trip brought it. -/
theorem scan_or (p : IVec S16 32 → Prop) (g : ℕ → ℕ → ℕ → Prop)
    (h : ∀ k r c a, p (pcol (F := Ideal) (scanT m d L k) r c a) ↔ p a ∨ g k.val r.val c.val) :
    p (scanVal m d L 6) ↔ p (chunksVal m d L 8).2.2 ∨ ∃ k < 6, ∃ r < 32, ∃ c < 32, g k r c :=
  upto_or _ p (fun k => ∃ r < 32, ∃ c < 32, g k r c) (fun k a => prows_or (scanT m d L k) p (g k.val) (h k) a) _ 6 le_rfl

end Loops

/-! ## A tile's lanes -/

section Lanes

variable (m : (ℓ : Loc nD τ sig) → Buf (Elt Ideal) ℓ) (d : Dev nD) (L : grid1.Coords) (l : Fin 16)

/-- The losses start from zero. -/
theorem init_loss : (k1_pay113 (F := Ideal)) (ix1 l) = 0 := by unfold_payloads; pointwise []
/-- The weights start from zero. -/
theorem init_keep : (k1_pay114 (F := Ideal)) (ix1 l) = 0 := by unfold_payloads; pointwise []
/-- The bits start from none. -/
theorem init_bits : k1_pay115 (ix1 l) = 0#32 := by unfold_payloads; pointwise []

/-- A lane's label in a chunk, as a label of the array. -/
theorem chunk_label (k : Fin 8) (r : Fin k1_t1_loop.trips) (c : ℕ) :
    colT (chunkT m d L k) l r.val c = labelAt (m (tLoc d)) (12 + (wid L).val / 8) ((wid L).val % 8 * 64 + 8 * k.val + r.val) (16 * c + l.val) := by
  have h1 := lt_of_lt_of_eq r.isLt trips1
  unfold colT labelAt
  rw [chunkT_apply]
  congr 3
  simp [Nat.mod_eq_of_lt h1]

/-- A lane's logits in a chunk, as logits of the array. -/
theorem chunk_logits (k : Fin 8) (r : Fin k1_t1_loop.trips) (c : ℕ) :
    colX (chunkX m d L k) l r.val c = logitsAt (m (xLoc d)) (12 + (wid L).val / 8) ((wid L).val % 8 * 64 + 8 * k.val + r.val) (16 * c + l.val) := by
  have h1 := lt_of_lt_of_eq r.isLt trips1
  funext p
  unfold colX logitsAt
  rw [chunkX_apply]
  congr 3
  simp [Nat.mod_eq_of_lt h1]

/-- A lane's label in a block of the scan, as a label of the array. -/
theorem scan_label (k : Fin 6) (r : Fin k1_t17_loop.trips) (c : ℕ) :
    scanT m d L k (ix2 (Fin.ofNat 32 r.val) (Fin.ofNat 512 (16 * c + l.val)))
      = labelAt (m (tLoc d)) (((wid L).val * 192 + 32 * k.val) / 512) (((wid L).val * 192 + 32 * k.val) % 512 + r.val) (16 * c + l.val) := by
  have h1 := lt_of_lt_of_eq r.isLt trips17
  unfold labelAt
  rw [scanT_apply]
  congr 3
  simp [Nat.mod_eq_of_lt h1]

variable (x : (⟨4, ![16, 10, 512, 512]⟩ : Shape).Idx → ℝ) (hx : ∀ i, m (xLoc d) i = ((x i : ℝ) : EReal)) (hT : ∀ i, (m (tLoc d) i : BitVec 32).toNat < 10)

include hT in
/-- A label is below ten. -/
theorem labelAt_lt (b r c : ℕ) : (labelAt (m (tLoc d)) b r c).toNat < 10 := hT _

/-- The loss that the kernel selects where the label counts. -/
theorem select_loss (y : Fin 10 → ℝ) {t : BitVec 32} (ht : t.toNat < 10) :
    Scalar.select (IntOp.cmpi .ne t 9#32) (lseSel (fun k => (y k : EReal)) t) (0 : EReal) = (pixLoss y t : EReal) := by
  rw [← lseSel_mask y ht]
  by_cases h : t = 9#32
  · subst h
    simp [Scalar.select, IntOp.cmpi, pixKeep]
  · simp [Scalar.select, IntOp.cmpi, pixKeep, h, bne_iff_ne.mpr h]

include hx hT in
/-- A lane's sum of losses at the end. -/
theorem tile_loss : (chunksVal m d L 8).1 (ix1 l)
    = ((∑ k ∈ Finset.range 8, ∑ r ∈ Finset.range 8, ∑ c ∈ Finset.range 32,
        lossAt x (m (tLoc d)) (12 + (wid L).val / 8) ((wid L).val % 8 * 64 + 8 * k + r) (16 * c + l.val) : ℝ) : EReal) := by
  have h := chunks_add m d L (fun a => a.1 (ix1 l))
    (fun k r c => ((lossAt x (m (tLoc d)) (12 + (wid L).val / 8) ((wid L).val % 8 * 64 + 8 * k + r) (16 * c + l.val) : ℝ) : EReal))
    (fun k r c a => by
      show (col _ _ _ _ _).1 _ = _
      rw [col_loss, chunk_label, chunk_logits]
      have e : logitsAt (m (xLoc d)) (12 + (wid L).val / 8) ((wid L).val % 8 * 64 + 8 * k.val + r.val) (16 * c.val + l.val)
          = fun p => ((logitsAt x (12 + (wid L).val / 8) ((wid L).val % 8 * 64 + 8 * k.val + r.val) (16 * c.val + l.val) p : ℝ) : EReal) :=
        funext fun p => hx _
      rw [e, select_loss _ (labelAt_lt m d hT _ _ _)]
      rfl)
  refine h.trans ?_
  show k1_pay113 (F := Ideal) (ix1 l) + _ = _
  rw [init_loss, zero_add]
  simp only [coe_sum]

/-- A lane's count at the end. -/
theorem tile_keep : (chunksVal m d L 8).2.1 (ix1 l)
    = ((∑ k ∈ Finset.range 8, ∑ r ∈ Finset.range 8, ∑ c ∈ Finset.range 32,
        keepAt (m (tLoc d)) (12 + (wid L).val / 8) ((wid L).val % 8 * 64 + 8 * k + r) (16 * c + l.val) : ℝ) : EReal) := by
  have h := chunks_add m d L (fun a => a.2.1 (ix1 l))
    (fun k r c => ((keepAt (m (tLoc d)) (12 + (wid L).val / 8) ((wid L).val % 8 * 64 + 8 * k + r) (16 * c + l.val) : ℝ) : EReal))
    (fun k r c a => by
      show (col _ _ _ _ _).2.1 _ = _
      rw [col_keep, chunk_label, mask_select]
      rfl)
  refine h.trans ?_
  show k1_pay114 (F := Ideal) (ix1 l) + _ = _
  rw [init_keep, zero_add]
  simp only [coe_sum]

include hT in
/-- Which bits a lane has at the end: those of the labels of its pixels of the chunks and of the scan. -/
theorem tile_bits (j : Fin 10) : (scanVal m d L 6 (ix1 l)).getLsbD j.val = true ↔
    (∃ k < 8, ∃ r < 8, ∃ c < 32, labelAt (m (tLoc d)) (12 + (wid L).val / 8) ((wid L).val % 8 * 64 + 8 * k + r) (16 * c + l.val) = BitVec.ofNat 32 j.val)
    ∨ ∃ k < 6, ∃ r < 32, ∃ c < 32,
        labelAt (m (tLoc d)) (((wid L).val * 192 + 32 * k) / 512) (((wid L).val * 192 + 32 * k) % 512 + r) (16 * c + l.val) = BitVec.ofNat 32 j.val := by
  have h1 := scan_or m d L (fun a => (a (ix1 l)).getLsbD j.val = true)
    (fun k r c => labelAt (m (tLoc d)) (((wid L).val * 192 + 32 * k) / 512) (((wid L).val * 192 + 32 * k) % 512 + r) (16 * c + l.val) = BitVec.ofNat 32 j.val)
    (fun k r c a => by
      show (pcol _ _ _ _ _).getLsbD _ = true ↔ _
      rw [pcol_bits, scan_label]
      exact ori_bit _ _ (labelAt_lt m d hT _ _ _) j)
  have h2 := chunks_or m d L (fun a => (a.2.2 (ix1 l)).getLsbD j.val = true)
    (fun k r c => labelAt (m (tLoc d)) (12 + (wid L).val / 8) ((wid L).val % 8 * 64 + 8 * k + r) (16 * c + l.val) = BitVec.ofNat 32 j.val)
    (fun k r c a => by
      show ((col _ _ _ _ _).2.2 _).getLsbD _ = true ↔ _
      rw [col_bits, chunk_label]
      exact ori_bit _ _ (labelAt_lt m d hT _ _ _) j)
  refine h1.trans (or_congr_left (h2.trans ?_))
  show (k1_pay115 (ix1 l)).getLsbD _ = true ∨ _ ↔ _
  rw [init_bits]
  simp

end Lanes

/-! ## All the tiles -/

/-- A sum over a product of extents, block by block. -/
theorem sum_range_blocks {M : Type} [AddCommMonoid M] (a b : ℕ) (f : ℕ → M) :
    ∑ i ∈ Finset.range (a * b), f i = ∑ i ∈ Finset.range a, ∑ j ∈ Finset.range b, f (b * i + j) := by
  induction a with
  | zero => simp
  | succ n ih => rw [Nat.succ_mul, Finset.sum_range_add, ih, Finset.sum_range_succ, Nat.mul_comm n b]

/-- The tiles' lanes, rows and column blocks are the rows and columns of four batches. -/
theorem sum_tiles {M : Type} [AddCommMonoid M] (g : ℕ → ℕ → ℕ → M) :
    ∑ w : Fin 32, ∑ l : Fin 16, ∑ k ∈ Finset.range 8, ∑ r ∈ Finset.range 8, ∑ c ∈ Finset.range 32,
        g (12 + w.val / 8) (w.val % 8 * 64 + 8 * k + r) (16 * c + l.val)
      = ∑ b ∈ Finset.range 4, ∑ r : Fin 512, ∑ c : Fin 512, g (12 + b) r.val c.val := by
  have hc : ∀ b r, ∑ c : Fin 512, g (12 + b) r c.val = ∑ l : Fin 16, ∑ c ∈ Finset.range 32, g (12 + b) r (16 * c + l.val) := fun b r => by
    rw [← Finset.sum_range fun c => g (12 + b) r c, Finset.sum_comm]
    refine (sum_range_blocks 32 16 fun c => g (12 + b) r c).trans (Finset.sum_congr rfl fun c _ => ?_)
    rw [Finset.sum_range]
  have hr : ∀ b, ∑ r : Fin 512, ∑ c : Fin 512, g (12 + b) r.val c.val
      = ∑ q ∈ Finset.range 8, ∑ k ∈ Finset.range 8, ∑ r ∈ Finset.range 8, ∑ c : Fin 512, g (12 + b) (q * 64 + 8 * k + r) c.val := fun b => by
    rw [← Finset.sum_range fun r => ∑ c : Fin 512, g (12 + b) r c.val]
    refine (sum_range_blocks 8 64 _).trans (Finset.sum_congr rfl fun q _ => ?_)
    refine (sum_range_blocks 8 8 _).trans (Finset.sum_congr rfl fun k _ => Finset.sum_congr rfl fun r _ => ?_)
    rw [show 64 * q + (8 * k + r) = q * 64 + 8 * k + r by omega]
  rw [← Finset.sum_range fun w => ∑ l : Fin 16, ∑ k ∈ Finset.range 8, ∑ r ∈ Finset.range 8, ∑ c ∈ Finset.range 32,
    g (12 + w / 8) (w % 8 * 64 + 8 * k + r) (16 * c + l.val)]
  refine (sum_range_blocks 4 8 _).trans (Finset.sum_congr rfl fun b _ => ?_)
  rw [hr]
  refine Finset.sum_congr rfl fun q hq => ?_
  have hq' := Finset.mem_range.mp hq
  rw [show (8 * b + q) / 8 = b by omega, show (8 * b + q) % 8 = q by omega, Finset.sum_comm]
  refine Finset.sum_congr rfl fun k _ => ?_
  rw [Finset.sum_comm]
  exact Finset.sum_congr rfl fun r _ => (hc b _).symm

end Cert.Proof.Loss
end
-- ==== Proof.Presence.lean ====
/-
  Which of the ten classes occur. The kernel counts them from the tiles' bits: a class counts once when some lane of some
  tile has its bit. The lanes' bits together are those of the labels of the whole array.
-/
module

public import proofs.«01_k».proof.Proof.CombineBody
public import proofs.«01_k».proof.Proof.ScSum
public import Idealize.ShloMosaic.Lib.Pointwise

@[expose] public section

set_option maxRecDepth 16384

noncomputable section

namespace Cert.Proof.Loss

open Cert.KernelIdeal Cert.KernelIdeal.Gen
open Idealize.ShloMosaic

/-! ## Counting -/

open Classical in
/-- One where the proposition holds, else zero. -/
def bit (P : Prop) : BitVec 32 := if P then 1#32 else 0#32

/-- How many of the ten hold. -/
def count (P : Fin 10 → Prop) : BitVec 32 :=
  0#32 + bit (P 0) + bit (P 1) + bit (P 2) + bit (P 3) + bit (P 4) + bit (P 5) + bit (P 6) + bit (P 7) + bit (P 8) + bit (P 9)

/-- The quotient, times zero where fewer than two classes occur. -/
def outcome (s c : EReal) (u : BitVec 32) : EReal := Scalar.select (IntOp.cmpi .slt u 2#32) (0 * Ideal.div s c) (Ideal.div s c)

/-- Shifting a word right and keeping the last bit reads the bit at the shift. -/
theorem shifted_bit (w : BitVec 32) (k : Fin 10) :
    IntOp.andi (IntOp.shrsi .vector w (BitVec.ofNat 32 k.val)) 1#32 = bit (w.getLsbD k.val = true) := by
  have hk := k.isLt
  have ht : (BitVec.ofNat 32 k.val).toNat = k.val := by simp; omega
  unfold IntOp.shrsi
  rw [if_pos (by rw [ht]; omega)]
  show (w.sshiftRight' _) &&& 1#32 = _
  unfold bit
  rw [BitVec.sshiftRight', ht]
  have h32 : k.val < 32 := by omega
  split <;> rename_i h <;> ext i hi <;> by_cases h0 : i = 0 <;>
    simp_all [BitVec.getElem_sshiftRight, BitVec.getElem_one]

/-- The greatest of words that are zero or one: one exactly where some word is. -/
theorem fold_bit {ι : Type} (P : ι → Prop) (s : Finset ι) (hs : s.Nonempty) :
    Finset.fold IntOp.maxsi 2147483648#32 (fun x => bit (P x)) s = bit (∃ x ∈ s, P x) := by
  classical
  induction hs using Finset.Nonempty.cons_induction with
  | singleton a =>
    rw [Finset.fold_singleton]
    unfold bit
    by_cases h : P a <;> simp [h] <;> decide
  | cons a s ha hs ih =>
    rw [Finset.fold_cons, ih]
    unfold bit
    by_cases h : P a <;> by_cases h' : ∃ x ∈ s, P x <;> simp [h, h'] <;> decide

/-- The combination of the parts: the quotient of the sums, times zero where the lanes hold fewer than two bits. -/
theorem combine_eq (n0 c0 : Ideal .f32) (n c : Vec Ideal S32x16 .f32) (p : Vec Ideal S32x16 .i32) :
    combine n0 c0 n c p = outcome (n0 + ∑ w : Fin 32, ∑ l : Fin 16, n (ix2 w l)) (c0 + ∑ w : Fin 32, ∑ l : Fin 16, c (ix2 w l))
      (count fun k => ∃ w : Fin 32, ∃ l : Fin 16, (p (ix2 w l) : BitVec 32).getLsbD k.val = true) := by
  have hb : ∀ k : Fin 10, Finset.fold IntOp.maxsi 2147483648#32
      (fun x : Fin 32 × Fin 16 => IntOp.andi (IntOp.shrsi .vector (p (ix2 x.1 x.2)) (BitVec.ofNat 32 k.val)) 1#32) Finset.univ
        = bit (∃ w : Fin 32, ∃ l : Fin 16, (p (ix2 w l) : BitVec 32).getLsbD k.val = true) := fun k => by
    simp only [shifted_bit]
    rw [fold_bit _ _ ⟨(0, 0), Finset.mem_univ _⟩]
    congr 1
    exact propext ⟨fun ⟨x, _, h⟩ => ⟨x.1, x.2, h⟩, fun ⟨w, l, h⟩ => ⟨(w, l), Finset.mem_univ _, h⟩⟩
  unfold combine present7
  unfold_payloads
  pointwise []
  simp only [outcome, count, ← hb]
  rfl

/-! ## The labels of the array -/

section Lanes

variable (m : (ℓ : Loc nD τ sig) → Buf (Elt Ideal) ℓ) (d : Dev nD) (hT : ∀ i, (m (tLoc d) i : BitVec 32).toNat < 10)

include hT in
/-- Some lane has the class's bit exactly where some label is the class. -/
theorem lanes_bits (k : Fin 10) : (∃ w : Fin 32, ∃ l : Fin 16, (PV m d (ix2 w l) : BitVec 32).getLsbD k.val = true)
    ↔ ∃ i, (m (tLoc d) i : BitVec 32) = BitVec.ofNat 32 k.val := by
  have hPV : ∀ (w : Fin 32) (l : Fin 16), PV m d (ix2 w l) = scanVal m d (tileOf w) 6 (ix1 l) := fun _ _ => rfl
  constructor
  · rintro ⟨w, l, h⟩
    rw [hPV, tile_bits m d _ l hT] at h
    rcases h with ⟨_, _, _, _, _, _, h⟩ | ⟨_, _, _, _, _, _, h⟩
    · exact ⟨_, h⟩
    · exact ⟨_, h⟩
  · rintro ⟨i, h⟩
    obtain ⟨b, r, c, rfl⟩ : ∃ (b : Fin 16) (r c : Fin 512), i = ix3 b r c := ⟨i 0, i 1, i 2, funext fun a => by fin_cases a <;> rfl⟩
    have hl : labelAt (m (tLoc d)) b.val r.val c.val = BitVec.ofNat 32 k.val := by
      rw [← h]; unfold labelAt; congr 2 <;> simp
    have hb := b.isLt
    have hr := r.isLt
    have hc := c.isLt
    by_cases h12 : 12 ≤ b.val
    · refine ⟨⟨(b.val - 12) * 8 + r.val / 64, by omega⟩, ⟨c.val % 16, by omega⟩, ?_⟩
      rw [hPV, tile_bits m d _ _ hT, wid_tileOf]
      refine .inl ⟨r.val % 64 / 8, by omega, r.val % 8, by omega, c.val / 16, by omega, ?_⟩
      rw [← hl]
      congr 1 <;> dsimp only <;> omega
    · refine ⟨⟨(b.val * 512 + r.val) / 192, by omega⟩, ⟨c.val % 16, by omega⟩, ?_⟩
      rw [hPV, tile_bits m d _ _ hT, wid_tileOf]
      refine .inr ⟨(b.val * 512 + r.val) % 192 / 32, by omega, (b.val * 512 + r.val) % 32, by omega, c.val / 16, by omega, ?_⟩
      rw [← hl]
      congr 1 <;> dsimp only <;> omega

end Lanes

end Cert.Proof.Loss
end
-- ==== Proof.RefCount.lean ====
/-
  How many classes occur, as the reference counts them: a histogram of the labels, shifted so that class 9 comes first, and
  the number of its entries that are positive.
-/
module

public import proofs.«01_k».proof.Proof.RefPixel
public import proofs.«01_k».proof.Proof.Presence
public import Idealize.ShloMosaic.Lib.Routing.OpsPair

@[expose] public section

set_option maxRecDepth 16384

noncomputable section

namespace Cert.Proof.Loss

open Cert.ReferenceIdeal Cert.ReferenceIdeal.Gen Cert.ReferenceIdeal.Read
open Idealize.ShloMosaic

/-! ## A histogram's entry -/

/-- Adding one for each member with the property counts them. -/
theorem foldl_count {ι : Type} (P : ι → Prop) [DecidablePred P] (l : List ι) (a : ℕ) :
    l.foldl (fun (s : BitVec 32) n => if P n then IntOp.addi s 1#32 else s) (BitVec.ofNat 32 a)
      = BitVec.ofNat 32 (a + l.countP (fun n => decide (P n))) := by
  induction l generalizing a with
  | nil => rfl
  | cons n l ih =>
    rw [List.foldl_cons, List.countP_cons]
    by_cases h : P n
    · rw [if_pos h, show IntOp.addi (BitVec.ofNat 32 a) 1#32 = BitVec.ofNat 32 (a + 1) from (BitVec.ofNat_add a 1).symm, ih]
      simp only [h, decide_true, if_true]
      congr 1
      omega
    · rw [if_neg h, ih]
      simp [h]

/-- A count below two to the thirty-first is positive as a signed word exactly where it is not zero. -/
theorem count_pos (n : ℕ) (hn : n < 2147483648) : (IntOp.cmpi .sgt (BitVec.ofNat 32 n) 0#32).setWidth 32 = bit (0 < n) := by
  have ht : (BitVec.ofNat 32 n).toInt = n := by
    rw [BitVec.toInt_eq_toNat_cond, BitVec.toNat_ofNat, Nat.mod_eq_of_lt (by omega), if_pos (by omega)]
  have h : IntOp.cmpi .sgt (BitVec.ofNat 32 n) 0#32 = BitVec.ofBool (decide (0 < n)) := by
    show BitVec.ofBool (BitVec.slt 0#32 (BitVec.ofNat 32 n)) = _
    congr 1
    rw [BitVec.slt, ht]
    simp
  rw [h]
  unfold bit
  by_cases h0 : 0 < n <;> simp [h0]

/-! ## The bins -/

/-- The bin of a class. -/
def bin (k : Fin 10) : Fin 11 := if k = 9 then 0 else k.succ

/-- Two classes have different bins. -/
theorem bin_inj : ∀ k' k : Fin 10, bin k' = bin k → k' = k := by decide

/-- No class has the last bin. -/
theorem bin_ne : ∀ k : Fin 10, bin k ≠ 10 := by decide

/-- The sum over the bins, where the bins of the classes come first. -/
theorem fold_bins (v : Fin 11 → BitVec 32) :
    Finset.fold IntOp.addi 0#32 v Finset.univ = 0#32 + v 1 + v 2 + v 3 + v 4 + v 5 + v 6 + v 7 + v 8 + v 9 + v 0 + v 10 := by
  rw [show (Finset.univ : Finset (Fin 11)) = {0, 1, 2, 3, 4, 5, 6, 7, 8, 9, 10} from by decide]
  rw [Finset.fold_insert (by decide), Finset.fold_insert (by decide), Finset.fold_insert (by decide), Finset.fold_insert (by decide),
    Finset.fold_insert (by decide), Finset.fold_insert (by decide), Finset.fold_insert (by decide), Finset.fold_insert (by decide),
    Finset.fold_insert (by decide), Finset.fold_insert (by decide), Finset.fold_singleton]
  show v 0 + (v 1 + (v 2 + (v 3 + (v 4 + (v 5 + (v 6 + (v 7 + (v 8 + (v 9 + (v 10 + 0#32)))))))))) = _
  ac_rfl

section Bins

variable (T : Vec Ideal S16x512x512 .i32) (hT : ∀ i, (T i : BitVec 32).toNat < 10)

/-- The histogram's index for a label in range is its bin. -/
theorem bin_word (j : S4194304.Idx) (k : Fin 10) (hk : T (idx_main_v5 j) = BitVec.ofNat 32 k.val) :
    val_main_v12 (F := Ideal) T j = BitVec.ofNat 32 (bin k).val := by
  rw [val_main_v12_apply, val_main_v9_apply, val_main_v11_apply, val_main_v7_apply, val_main_v5_apply]
  have h4 : val_main_v4 (F := Ideal) T (idx_main_v5 j) = BitVec.ofNat 32 (bin k).val := by
    generalize idx_main_v5 j = i at hk ⊢
    obtain ⟨b, r, c, rfl⟩ : ∃ (b : Fin 16) (r c : Fin 512), i = ix3 b r c := ⟨i 0, i 1, i 2, funext fun a => by fin_cases a <;> rfl⟩
    unfold val_main_v4 val_main_v3 val_main_v2 val_main_v1 val_main_v0 val_main_call0_v1 val_main_call0_v0 val_main_c val_main_c_0 val_main_c_1
    pointwise []
    rw [hk]
    simp only [id, constantI]
    clear hk
    revert k
    decide
  rw [h4]
  clear h4 hk
  show Scalar.select (IntOp.cmpi .slt (IntOp.maxsi 0#32 _) 0#32) (IntOp.addi (IntOp.maxsi 0#32 _) 11#32) (IntOp.maxsi 0#32 _) = _
  revert k
  decide

/-- Where an update of the histogram lands. -/
theorem lands (j : S4194304.Idx) (k : Fin 10) (hk : T (idx_main_v5 j) = BitVec.ofNat 32 k.val) (e : Fin 11) :
    scatter_S11_S4194304x1_S4194304_n_0_0_1.resultIdx? j (val_main_v13 (F := Ideal) T) = some (ix1 e) ↔ bin k = e := by
  have hw : scatter_S11_S4194304x1_S4194304_n_0_0_1.window j 0 = 0 := by
    unfold ScatterDims.window
    exact dif_neg (by decide)
  have hs : scatter_S11_S4194304x1_S4194304_n_0_0_1.start j (val_main_v13 (F := Ideal) T) 0 = ((bin k).val : Int) := by
    unfold ScatterDims.start
    rw [dif_pos (show (0 : Fin 1) ∈ scatter_S11_S4194304x1_S4194304_n_0_0_1.scatterDimsToOperandDims from by decide), val_main_v13_apply]
    have hj : ∀ q, idx_main_v13 (scatter_S11_S4194304x1_S4194304_n_0_0_1.siIdx j q) = j := fun q => by
      funext a
      match a with
      | 0 => rfl
    rw [hj, bin_word T j k hk]
    clear hj hk hw
    revert k
    decide
  have h0 : ∀ a : Fin 1, a = 0 := fun a => Subsingleton.elim _ _
  rw [Routing.resultIdx?_eq_some]
  constructor
  · intro h
    have h' := h 0
    rw [hw, hs] at h'
    refine Fin.ext ?_
    have h'' : ((bin k).val : Int) + ((0 : ℕ) : Int) = (e.val : Int) := h'
    omega
  · intro h a
    rw [h0 a, hw, hs, h]
    exact add_zero _

include hT in
/-- An entry of the histogram is positive exactly where some label has its bin. -/
theorem entry (e : Fin 11) : val_main_v18 (F := Ideal) T (ix1 e) = bit (∃ i, ∃ k : Fin 10, T i = BitVec.ofNat 32 k.val ∧ bin k = e) := by
  classical
  have h15 : ∃ n : ℕ, n < 2147483648 ∧ val_main_v15 (F := Ideal) T (ix1 e) = BitVec.ofNat 32 n
      ∧ (0 < n ↔ ∃ i, ∃ k : Fin 10, T i = BitVec.ofNat 32 k.val ∧ bin k = e) := by
    refine ⟨(List.finRange S4194304.numel).countP (fun n => decide (scatter_S11_S4194304x1_S4194304_n_0_0_1.resultIdx? (S4194304.rowMajor.symm n) (val_main_v13 (F := Ideal) T) = some (ix1 e))), ?_, ?_, ?_⟩
    · refine lt_of_le_of_lt List.countP_le_length ?_
      rw [List.length_finRange]
      show 4194304 * 1 < 2147483648
      norm_num
    · unfold val_main_v15
      rw [Routing.scatter_at]
      have := foldl_count (fun n => scatter_S11_S4194304x1_S4194304_n_0_0_1.resultIdx? (S4194304.rowMajor.symm n) (val_main_v13 (F := Ideal) T) = some (ix1 e))
        (List.finRange S4194304.numel) 0
      rw [Nat.zero_add] at this
      exact this
    · rw [List.countP_pos_iff]
      constructor
      · rintro ⟨n, _, h⟩
        obtain ⟨k, hk⟩ := label_cases (hT (idx_main_v5 (S4194304.rowMajor.symm n)))
        exact ⟨_, k, hk, (lands T _ k hk e).1 (of_decide_eq_true h)⟩
      · rintro ⟨i, k, hk, he⟩
        obtain ⟨j, rfl⟩ : ∃ j, i = idx_main_v5 j := by
          have h0 : (i 0).val < 16 := (i 0).isLt
          have h1 : (i 1).val < 512 := (i 1).isLt
          have h2 : (i 2).val < 512 := (i 2).isLt
          refine ⟨ix1 ⟨((i 0).val * 512 + (i 1).val) * 512 + (i 2).val, by omega⟩, ?_⟩
          funext a
          refine Fin.ext ?_
          match a with
          | 0 => show (i 0).val = (((i 0).val * 512 + (i 1).val) * 512 + (i 2).val) / 262144; omega
          | 1 => show (i 1).val = (((i 0).val * 512 + (i 1).val) * 512 + (i 2).val) / 512 % 512; omega
          | 2 => show (i 2).val = (((i 0).val * 512 + (i 1).val) * 512 + (i 2).val) % 512; omega
        refine ⟨S4194304.rowMajor j, List.mem_finRange _, decide_eq_true ?_⟩
        rw [Equiv.symm_apply_apply]
        exact (lands T j k hk e).2 he
  obtain ⟨n, hn, h, hP⟩ := h15
  rw [val_main_v18_apply, val_main_v17_apply, h]
  refine (count_pos n hn).trans ?_
  rw [hP]

include hT in
/-- The number of positive entries is the number of classes that occur. -/
theorem bins_eq (i : S_.Idx) : val_main_v19 (F := Ideal) T i = count fun k => ∃ i, T i = BitVec.ofNat 32 k.val := by
  have hk : ∀ k : Fin 10, bit (∃ i, ∃ k' : Fin 10, T i = BitVec.ofNat 32 k'.val ∧ bin k' = bin k) = bit (∃ i, T i = BitVec.ofNat 32 k.val) := fun k => by
    congr 1
    refine propext ⟨fun ⟨i, k', h, e⟩ => ⟨i, ?_⟩, fun ⟨i, h⟩ => ⟨i, k, h, rfl⟩⟩
    rw [h, bin_inj k' k e]
  have h10 : bit (∃ i, ∃ k' : Fin 10, T i = BitVec.ofNat 32 k'.val ∧ bin k' = 10) = 0#32 := by
    unfold bit
    rw [if_neg]
    rintro ⟨_, k', _, e⟩
    exact bin_ne k' e
  unfold val_main_v19
  rw [show i = ix0 from funext fun a => a.elim0]
  generalize hv : val_main_v18 (F := Ideal) T = v
  have hv' : ∀ e, v (ix1 e) = bit (∃ i, ∃ k : Fin 10, T i = BitVec.ofNat 32 k.val ∧ bin k = e) := fun e => by rw [← hv]; exact entry T hT e
  unfold val_main_c_8
  pointwise []
  refine (fold_bins fun e => v (ix1 e)).trans ?_
  simp only [hv', h10]
  rw [BitVec.add_zero]
  unfold count
  rw [← hk 0, ← hk 1, ← hk 2, ← hk 3, ← hk 4, ← hk 5, ← hk 6, ← hk 7, ← hk 8, ← hk 9]
  rfl

end Bins

end Cert.Proof.Loss
end
-- ==== Proof.TcSum.lean ====
/-
  What the TensorCore's six grid points leave in their two accumulators: the losses and the weights of the pixels of
  batches 0 to 11, summed.
-/
module

public import proofs.«01_k».proof.Proof.Regions
public import proofs.«01_k».proof.Proof.Pixel
public import Idealize.ShloMosaic.Lib.Pipeline.ValueKit

@[expose] public section

set_option maxRecDepth 16384

noncomputable section

namespace Cert.Proof.Loss

open Cert.KernelIdeal Cert.KernelIdeal.Gen
open Idealize.ShloMosaic
open Idealize.ShloMosaic.TcCoe

/-! ## One batch -/

variable (X : Vec Ideal S2x10x512x512 .f32) (T : Vec Ideal S2x512x512 .i32) (a : Ideal .f32 × Ideal .f32)

/-- An entry of a class's plane of a block. -/
theorem plane_apply (b : Fin 2) (k : Fin 10) (r c : Fin 512) : plane X b k (ix4 0 0 r c) = X (ix4 b k r c) := by
  refine congrArg X (funext fun ax => Fin.ext ?_)
  match ax with
  | 0 => simp [Rect.unit, ix4]
  | 1 => simp [Rect.unit, ix4]
  | 2 => simp [Rect.unit, ix4]
  | 3 => simp [Rect.unit, ix4]

/-- An entry of a block's labels. -/
theorem labels_apply (b : Fin 2) (r c : Fin 512) : labels T b (ix3 0 r c) = T (ix3 b r c) := by
  refine congrArg T (funext fun ax => Fin.ext ?_)
  match ax with
  | 0 => simp [Rect.unit, ix3]
  | 1 => simp [Rect.unit, ix3]
  | 2 => simp [Rect.unit, ix3]

/-- The mask as the body computes it. -/
abbrev mask (t : BitVec 32) : EReal := FloatOps.sitofp (F := Ideal) .f32 (BitVec.setWidth 32 (IntOp.cmpi .ne t 9#32))

/-- The first batch of a step adds its losses. -/
theorem tcFst_one : (tcFst X T a).1 = a.1 + ∑ r : Fin 512, ∑ c : Fin 512, lseSel (fun k => X (ix4 0 k r c)) (T (ix3 0 r c)) * mask (T (ix3 0 r c)) := by
  unfold tcFst
  unfold_payloads
  pointwise []
  simp only [plane_apply, labels_apply]
  rfl

/-- The first batch of a step adds its weights. -/
theorem tcFst_two : (tcFst X T a).2 = a.2 + ∑ r : Fin 512, ∑ c : Fin 512, mask (T (ix3 0 r c)) := by
  unfold tcFst
  unfold_payloads
  pointwise []
  simp only [labels_apply]

/-- The second batch of a step adds its losses. -/
theorem tcSnd_one : (tcSnd X T a).1 = a.1 + ∑ r : Fin 512, ∑ c : Fin 512, lseSel (fun k => X (ix4 1 k r c)) (T (ix3 1 r c)) * mask (T (ix3 1 r c)) := by
  unfold tcSnd
  unfold_payloads
  pointwise []
  simp only [plane_apply, labels_apply]
  rfl

/-- The second batch of a step adds its weights. -/
theorem tcSnd_two : (tcSnd X T a).2 = a.2 + ∑ r : Fin 512, ∑ c : Fin 512, mask (T (ix3 1 r c)) := by
  unfold tcSnd
  unfold_payloads
  pointwise []
  simp only [labels_apply]

/-! ## The six points -/

/-- The losses and the weights of one batch. -/
def batchLoss (x : S16x10x512x512.Idx → ℝ) (T : S16x512x512.Idx → BitVec 32) (b : ℕ) : ℝ := ∑ r : Fin 512, ∑ c : Fin 512, lossAt x T b r.val c.val
def batchKeep (T : S16x512x512.Idx → BitVec 32) (b : ℕ) : ℝ := ∑ r : Fin 512, ∑ c : Fin 512, keepAt T b r.val c.val

/-- A step takes the block of its number. -/
theorem index0 : ∀ t : Fin cfg0.N, win0_0.index t = ![t.val, 0, 0, 0] ∧ win0_1.index t = ![t.val, 0, 0] := by decide +kernel

variable (V : Vals Ideal) (d : Dev nD)

/-- A step's logits, read from the whole array. -/
theorem xBlk_apply (t : Fin cfg0.N) (b : Fin 2) (k : Fin 10) (r q : Fin 512) :
    xBlk V d t (ix4 b k r q) = V d main_arg0 (ix4 (Fin.ofNat 16 (2 * t.val + b.val)) k r q) := by
  have h6 : cfg0.N = 6 := N_0
  have := t.isLt
  blk_ext [xBlk, (index0 t).1]
  simp [Fin.ofNat]
  omega

/-- A step's labels, read from the whole array. -/
theorem tBlk_apply (t : Fin cfg0.N) (b : Fin 2) (r q : Fin 512) :
    tBlk V d t (ix3 b r q) = V d main_arg1 (ix3 (Fin.ofNat 16 (2 * t.val + b.val)) r q) := by
  have h6 : cfg0.N = 6 := N_0
  have := t.isLt
  blk_ext [tBlk, (index0 t).2]
  simp [Fin.ofNat]
  omega

variable (x : S16x10x512x512.Idx → ℝ) (hx : ∀ i, V d main_arg0 i = ((x i : ℝ) : EReal)) (hT : ∀ i, (V d main_arg1 i : BitVec 32).toNat < 10)

include hx hT in
/-- A batch of a point's block, summed, is the batch of the arrays. -/
theorem block_loss (t : Fin cfg0.N) (b : Fin 2) :
    (∑ r : Fin 512, ∑ c : Fin 512, lseSel (fun k => xBlk V d t (ix4 b k r c)) (tBlk V d t (ix3 b r c)) * mask (tBlk V d t (ix3 b r c)))
      = ((batchLoss x (V d main_arg1) (2 * t.val + b.val) : ℝ) : EReal) := by
  unfold batchLoss
  rw [coe_sum]
  refine Finset.sum_congr rfl fun r _ => ?_
  rw [coe_sum]
  refine Finset.sum_congr rfl fun c _ => ?_
  simp only [xBlk_apply, tBlk_apply, hx]
  unfold mask
  rw [mask_convert, lseSel_mask (fun k => x (ix4 (Fin.ofNat 16 (2 * t.val + b.val)) k r c)) (hT _)]
  unfold lossAt logitsAt labelAt
  simp only [Fin.ofNat_val_eq_self]

/-- The weights of a batch of a step are the batch's. -/
theorem block_keep (t : Fin cfg0.N) (b : Fin 2) :
    (∑ r : Fin 512, ∑ c : Fin 512, mask (tBlk V d t (ix3 b r c))) = ((batchKeep (V d main_arg1) (2 * t.val + b.val) : ℝ) : EReal) := by
  unfold batchKeep
  rw [coe_sum]
  refine Finset.sum_congr rfl fun r _ => ?_
  rw [coe_sum]
  refine Finset.sum_congr rfl fun c _ => ?_
  simp only [tBlk_apply]
  unfold mask
  rw [mask_convert]
  unfold keepAt labelAt
  simp only [Fin.ofNat_val_eq_self]

include hx hT in
/-- After `k` points the accumulators hold the sums over the first `2 k` batches. -/
theorem tcAcc_coe : ∀ k : ℕ, k ≤ 6 → tcAcc V d k
    = (((∑ b ∈ Finset.range (2 * k), batchLoss x (V d main_arg1) b : ℝ) : EReal), ((∑ b ∈ Finset.range (2 * k), batchKeep (V d main_arg1) b : ℝ) : EReal))
  | 0, _ => by
    show tcZero = _
    simp only [Nat.mul_zero, Finset.range_zero, Finset.sum_empty, EReal.coe_zero]
    exact Prod.ext Ideal.ofBits_zero_f32 Ideal.ofBits_zero_f32
  | k + 1, hk => by
    have h6 : cfg0.N = 6 := N_0
    rw [tcAcc_succ V d ⟨k, by omega⟩, tcAcc_coe k (by omega)]
    have e2 : 2 * (k + 1) = 2 * k + 1 + 1 := by omega
    rw [e2]
    simp only [Finset.sum_range_succ]
    refine Prod.ext ?_ ?_
    · unfold tcStep
      rw [tcSnd_one, tcFst_one, block_loss V d x hx hT ⟨k, by omega⟩ 0, block_loss V d x hx hT ⟨k, by omega⟩ 1]
      simp only [EReal.coe_add]
      rfl
    · unfold tcStep
      rw [tcSnd_two, tcFst_two, block_keep V d ⟨k, by omega⟩ 0, block_keep V d ⟨k, by omega⟩ 1]
      simp only [EReal.coe_add]
      rfl

end Cert.Proof.Loss

end
-- ==== Proof.KernelValue.lean ====
/-
  The loss that the kernel's run ends with, over the reals: the sum of the pixels' losses over the sum of their weights, times
  zero where fewer than two classes occur.
-/
module

public import proofs.«01_k».proof.Proof.Main
public import proofs.«01_k».proof.Proof.TcSum
public import proofs.«01_k».proof.Proof.Presence

@[expose] public section

set_option maxRecDepth 16384

noncomputable section

namespace Cert.Proof.Loss

open Cert.KernelIdeal Cert.KernelIdeal.Gen
open Idealize.ShloMosaic

attribute [local irreducible] chunksVal scanVal combine tcAcc

/-- The losses and the weights of all the pixels, and the count of the classes that occur. -/
def totalLoss (x : (⟨4, ![16, 10, 512, 512]⟩ : Shape).Idx → ℝ) (T : (⟨3, ![16, 512, 512]⟩ : Shape).Idx → BitVec 32) : ℝ :=
  ∑ b ∈ Finset.range 16, batchLoss x T b
def totalKeep (T : (⟨3, ![16, 512, 512]⟩ : Shape).Idx → BitVec 32) : ℝ := ∑ b ∈ Finset.range 16, batchKeep T b
def classes (T : (⟨3, ![16, 512, 512]⟩ : Shape).Idx → BitVec 32) : BitVec 32 := count fun k => ∃ i, T i = BitVec.ofNat 32 k.val

/-- The mean of the losses. -/
def meanLoss (x : (⟨4, ![16, 10, 512, 512]⟩ : Shape).Idx → ℝ) (T : (⟨3, ![16, 512, 512]⟩ : Shape).Idx → BitVec 32) : EReal :=
  outcome (totalLoss x T : ℝ) (totalKeep T : ℝ) (classes T)

/-- A sum of reals, taken as extended reals. -/
theorem sum_coe {ι : Type} [Fintype ι] (f : ι → ℝ) : ∑ i, (f i : EReal) = ((∑ i, f i : ℝ) : EReal) := (coe_sum _ f).symm

variable (m : (ℓ : Loc nD τ sig) → Buf (Elt Ideal) ℓ) (d : Dev nD) (x : (⟨4, ![16, 10, 512, 512]⟩ : Shape).Idx → ℝ)
  (hx : ∀ i, m (xLoc d) i = ((x i : ℝ) : EReal)) (hT : ∀ i, (m (tLoc d) i : BitVec 32).toNat < 10)

/-- A lane of a row of the tiles' sums, and of their counts. -/
def nLane (w : Fin 32) (l : Fin 16) : EReal := NV m d (ix2 w l)
def cLane (w : Fin 32) (l : Fin 16) : EReal := CV m d (ix2 w l)

include hx hT in
/-- The tiles' sums add up to the losses of batches 12 to 15. -/
theorem sum_NV : ∑ w : Fin 32, ∑ l : Fin 16, nLane m d w l = ((∑ b ∈ Finset.range 4, batchLoss x (m (tLoc d)) (12 + b) : ℝ) : EReal) := by
  have h : ∀ (w : Fin 32) (l : Fin 16), nLane m d w l = _ := fun w l => (tile_loss m d (tileOf w) l x hx hT)
  simp only [h, sum_coe, wid_tileOf]
  congr 1
  exact sum_tiles (lossAt x (m (tLoc d)))

/-- The tiles' counts add up to the weights of batches 12 to 15. -/
theorem sum_CV : ∑ w : Fin 32, ∑ l : Fin 16, cLane m d w l = ((∑ b ∈ Finset.range 4, batchKeep (m (tLoc d)) (12 + b) : ℝ) : EReal) := by
  have h : ∀ (w : Fin 32) (l : Fin 16), cLane m d w l = _ := fun w l => (tile_keep m d (tileOf w) l)
  simp only [h, sum_coe, wid_tileOf]
  congr 1
  exact sum_tiles (keepAt (m (tLoc d)))

include hx hT in
/-- What the kernel returns. -/
theorem loss_eq : loss m d = meanLoss x (m (tLoc d)) := by
  have htc : tcAcc (V0 m) d 6 = _ := tcAcc_coe (V0 m) d x hx hT 6 le_rfl
  have e0 : cell (V2 m d main_v0_0) = (tcAcc (V0 m) d 6).1 := by
    rw [V2_of_ne m d main_v0_0 (by decide) (by decide) (by decide), V1_v0_0]; rfl
  have e1 : cell (V2 m d main_v0_1) = (tcAcc (V0 m) d 6).2 := by
    rw [V2_of_ne m d main_v0_1 (by decide) (by decide) (by decide), V1_v0_1]; rfl
  unfold loss combined
  rw [e0, e1, V2_v1_0, V2_v1_1, V2_v1_2, combine_eq, htc]
  have hn := sum_NV m d x hx hT
  have hc := sum_CV m d
  unfold meanLoss classes totalLoss totalKeep
  rw [Finset.sum_range_add _ 12 4, Finset.sum_range_add _ 12 4, EReal.coe_add, EReal.coe_add, ← hn, ← hc]
  refine congrArg (outcome _ _) (congrArg count (funext fun k => ?_))
  exact propext (lanes_bits m d hT k)

end Cert.Proof.Loss
end
-- ==== Proof.RefValue.lean ====
/-
  What the reference returns, over the reals: the same mean of the losses.
-/
module

public import proofs.«01_k».proof.Proof.RefCount
public import proofs.«01_k».proof.Proof.KernelValue

@[expose] public section

set_option maxRecDepth 16384

noncomputable section

namespace Cert.Proof.Loss

open Cert.ReferenceIdeal Cert.ReferenceIdeal.Gen Cert.ReferenceIdeal.Read
open Idealize.ShloMosaic

/-- A coordinate below its extent is itself. -/
theorem ofNat_val {n : ℕ} [NeZero n] (a : Fin n) : Fin.ofNat n a.val = a := Fin.ext (Nat.mod_eq_of_lt a.isLt)

/-- A sum over the pixels, batch by batch. -/
theorem sum_pixels (f : ℕ → ℕ → ℕ → ℝ) :
    ∑ i : S16x512x512.Idx, ((f (i 0).val (i 1).val (i 2).val : ℝ) : EReal)
      = ((∑ b ∈ Finset.range 16, ∑ r : Fin 512, ∑ c : Fin 512, f b r.val c.val : ℝ) : EReal) := by
  rw [sum_coe, ← Fin.sum_univ_eq_sum_range (fun b => ∑ r : Fin 512, ∑ c : Fin 512, f b r.val c.val) 16]
  exact congrArg _ (sum_idx3 _)

/-- The loss at natural coordinates is the loss at the index. -/
theorem lossAt_ix3 (x : (⟨4, ![16, 10, 512, 512]⟩ : Shape).Idx → ℝ) (T : (⟨3, ![16, 512, 512]⟩ : Shape).Idx → BitVec 32) (b : Fin 16) (r c : Fin 512) :
    lossAt x T b.val r.val c.val = pixLoss (fun k => x (ix4 b k r c)) (T (ix3 b r c)) := by
  unfold lossAt labelAt logitsAt
  simp only [ofNat_val]

/-- The weight at natural coordinates is the weight at the index. -/
theorem keepAt_ix3 (T : (⟨3, ![16, 512, 512]⟩ : Shape).Idx → BitVec 32) (b : Fin 16) (r c : Fin 512) :
    keepAt T b.val r.val c.val = pixKeep (T (ix3 b r c)) := by
  unfold keepAt labelAt
  simp only [ofNat_val]

/-- The sum of an array whose entry at each pixel is a real. -/
theorem sum_array (v : S16x512x512.Idx → EReal) (f : ℕ → ℕ → ℕ → ℝ) (h : ∀ (b : Fin 16) (r c : Fin 512), v (ix3 b r c) = ((f b.val r.val c.val : ℝ) : EReal)) :
    0 + ∑ i : S16x512x512.Idx, v i = ((∑ b ∈ Finset.range 16, ∑ r : Fin 512, ∑ c : Fin 512, f b r.val c.val : ℝ) : EReal) := by
  rw [zero_add]
  refine (Finset.sum_congr rfl fun j _ => ?_).trans (sum_pixels f)
  obtain ⟨b, r, c, rfl⟩ : ∃ (b : Fin 16) (r c : Fin 512), j = ix3 b r c := ⟨j 0, j 1, j 2, eq_ix3 j⟩
  exact h b r c

section Value

variable (X : Vec Ideal S16x10x512x512 .f32) (T : Vec Ideal S16x512x512 .i32) (x : (⟨4, ![16, 10, 512, 512]⟩ : Shape).Idx → ℝ)
  (hx : ∀ i, X i = ((x i : ℝ) : EReal)) (hT : ∀ i, (T i : BitVec 32).toNat < 10)

include hx hT in
/-- The sum of the losses. -/
theorem numerator (i : S_.Idx) : val_main_v32 (F := Ideal) X T i = ((totalLoss x T : ℝ) : EReal) := by
  have h0 : val_main_cst (F := Ideal) (Shape.Idx.first h_S_) = (0 : EReal) := Ideal.ofBits_zero_f32
  have h := fun (b : Fin 16) (r c : Fin 512) => (pixel_loss X T x hx hT b r c).trans (congrArg Real.toEReal (lossAt_ix3 x T b r c).symm)
  have e := val_main_v32_apply X T i
  generalize val_main_v31 (F := Ideal) X T = v at e h
  rw [e, h0]
  exact sum_array v (lossAt x T) h

include hT in
/-- The sum of the weights. -/
theorem denominator (i : S_.Idx) : val_main_v33 (F := Ideal) T i = ((totalKeep T : ℝ) : EReal) := by
  have h0 : val_main_cst_12 (F := Ideal) (Shape.Idx.first h_S_) = (0 : EReal) := Ideal.ofBits_zero_f32
  have h : ∀ (b : Fin 16) (r c : Fin 512), val_main_v30 (F := Ideal) T (ix3 b r c) = ((keepAt T b.val r.val c.val : ℝ) : EReal) := fun b r c => by
    obtain ⟨k, hk⟩ := label_cases (hT (ix3 b r c))
    exact (weight_eq T b r c k hk).trans (congrArg Real.toEReal (keepAt_ix3 T b r c).symm)
  have e := val_main_v33_apply T i
  generalize val_main_v30 (F := Ideal) T = v at e h
  rw [e, h0]
  exact sum_array v (keepAt T) h

include hx hT in
/-- What the reference returns. -/
theorem reference_eq : val_main_v36 (F := Ideal) X T = fun _ => meanLoss x T := by
  funext i
  have h0 : val_main_cst_13 (F := Ideal) i = (0 : EReal) := Ideal.ofBits_zero_f32
  have h2 : val_main_c_9 (F := Ideal) i = 2#32 := rfl
  rw [val_main_v36_apply, val_main_v35_apply, val_main_v34_apply, val_main_v20_apply, numerator X T x hx hT, denominator T hT, bins_eq T hT,
    h0, h2]
  rfl

end Value

end Cert.Proof.Loss
end
-- ==== Proof.Domain.lean ====
/-
  The domain of the value claim: the labels are classes and the logits are real numbers.
-/
module

public import proofs.«01_k».proof.Pre_in_classes
public import Idealize.ShloMosaic.Lib.ReduceAll
public import Idealize.ShloMosaic.Lib.Pointwise

@[expose] public section

set_option maxRecDepth 16384

noncomputable section

namespace Cert.Proof.Loss

open Cert.Pre_in_classes
open Idealize.ShloMosaic

/-- The shapes of the domain's operations fit. -/
theorem domain_facts : Cert.Pre_in_classes.Facts where
  bcast_S_S16x512x512 := by decide
  reducesTo_S16x512x512_S_d0_1_2 := by decide
  h_S_ := by decide
  bcast_S_S16x10x512x512 := by decide
  reducesTo_S16x10x512x512_S_d0_1_2_3 := by decide

/-- The bit of a truth value is one exactly where it is true. -/
theorem bool_word {p : Bool} : BitVec.ofBool p = 1#1 ↔ p = true := by cases p <;> decide

/-- A conjunction of bits. -/
theorem and_one : ∀ {a b : BitVec 1}, IntOp.andi a b = 1#1 → a = 1#1 ∧ b = 1#1 := by decide

/-- A word that is at least zero and below ten, read signed. -/
theorem in_ten (t : BitVec 32) (h0 : IntOp.cmpi .sge t 0#32 = 1#1) (h1 : IntOp.cmpi .slt t 10#32 = 1#1) : t.toNat < 10 := by
  have h0' : (0#32 : BitVec 32).toInt ≤ t.toInt := by
    have : BitVec.sle 0#32 t = true := bool_word.1 h0
    simpa [BitVec.sle] using this
  have h1' : t.toInt < (10#32 : BitVec 32).toInt := by
    have : BitVec.slt t 10#32 = true := bool_word.1 h1
    simpa [BitVec.slt] using this
  have e0 : (0#32 : BitVec 32).toInt = 0 := by decide
  have e1 : (10#32 : BitVec 32).toInt = 10 := by decide
  rw [e0] at h0'
  rw [e1] at h1'
  rw [BitVec.toInt_eq_toNat_cond] at h0' h1'
  have := t.isLt
  split at h0' <;> omega

/-- An extended real whose absolute value is below infinity is a real. -/
theorem real_of_abs (v : EReal) (h : Ideal.cmp .olt (max v (-v)) ⊤ = 1#1) : v = ((v.toReal : ℝ) : EReal) := by
  have h' : max v (-v) < ⊤ := by
    by_contra hn
    have : Ideal.cmp .olt (max v (-v)) ⊤ = 0#1 := by
      simp [Ideal.cmp, hn]
    rw [this] at h
    exact absurd h (by decide)
  refine (EReal.coe_toReal ?_ ?_).symm
  · rintro rfl
    simp at h'
  · rintro rfl
    simp at h'

section Domain

variable [Cert.Pre_in_classes.Facts] (X : FVec Ideal S16x10x512x512 .f32) (T : IVec S16x512x512 32) (h : fn (F := Ideal) X T = fun _ => 1#1)

include h in
/-- In the domain, the labels are classes and the logits are reals. -/
theorem domain : (∀ i, (T i).toNat < 10) ∧ ∀ i, X i = (((X i : EReal).toReal : ℝ) : EReal) := by
  have : Subsingleton S_.Idx := ⟨fun a b => funext fun q => q.elim0⟩
  have h' := congrFun h ix0
  unfold fn at h'
  obtain ⟨h12, h3⟩ := and_one h'
  obtain ⟨h1, h2⟩ := and_one h12
  refine ⟨fun i => in_ten _ ?_ ?_, fun i => real_of_abs _ ?_⟩
  · exact Host.reduce_andi_all _ _ _ _ _ h1 i
  · exact Host.reduce_andi_all _ _ _ _ _ h2 i
  · have h4 := Host.reduce_andi_all _ _ _ _ _ h3 i
    have ht : Ideal.ofBits .f32 0x7F800000#32 = ⊤ := by simp [Ideal.ofBits, Ideal.ieee]
    rw [← ht]
    exact h4

end Domain

end Cert.Proof.Loss
end
-- ==== Proof.Equation.lean ====
/-
  The value claim: on the domain, the kernel and the reference over the extended reals return the same loss.
-/
module

public import proofs.«01_k».proof.Proof.Frames
public import proofs.«01_k».proof.Proof.RefValue
public import proofs.«01_k».proof.Proof.Domain

@[expose] public section

noncomputable section

namespace Cert.Proof.Loss

open Idealize.ShloMosaic Idealize.SL.Sem

/-- The kernel over the extended reals, with the domain's precondition, which the frame does not need. -/
theorem frame_kernelIdeal_pre [Cert.Pre_in_classes.Facts] : Cert.quiescent_KernelIdeal_pre_in_classes := fun m ρ _ => frame_kernelIdeal m ρ trivial

/-- The reference likewise. -/
theorem frame_reference_pre [Cert.Pre_in_classes.Facts] : Cert.quiescent_ReferenceIdeal_pre_in_classes := fun m ρ _ => frame_reference m ρ trivial

/-- Both programs end with the mean loss of the real logits and the labels. -/
theorem same_loss [Cert.Pre_in_classes.Facts] : Cert.algebraic_KernelIdeal_ReferenceIdeal_pre_in_classes := fun m ρ m' ρ' hpre hargs => by
  have hd := fun c => domain _ _ (hpre c)
  have hk : ∀ c : Dev Cert.KernelIdeal.nD, loss (F := Ideal) m c = meanLoss (fun i => (m (xLoc c) i : EReal).toReal) (m (tLoc c)) := fun c =>
    loss_eq m c _ (hd c).2 (hd c).1
  have hr : ∀ c : Dev Cert.KernelIdeal.nD, Cert.ReferenceIdeal.Value.res_main_v36 (F := Ideal) m' c = fun _ => loss (F := Ideal) m c := fun c => by
    rw [Cert.ReferenceIdeal.Read.val_main_v36_eq, (hargs c).1, (hargs c).2, hk c]
    exact reference_eq _ _ _ (hd c).2 (hd c).1
  exact ⟨fun c => fun _ => loss (F := Ideal) m c,
    (θ_run Cert.KernelIdeal.defs _ _).mono (fun _ h c => ⟨(h.1 c).2.2, (h.1 c).1, (h.1 c).2.1⟩) (run_main (F := Ideal) m ρ),
    (θ_run Cert.ReferenceIdeal.defs _ _).mono (fun _ h c => ⟨(h c).1.trans (hr c), (h c).2⟩) (Cert.ReferenceIdeal.Value.run (F := Ideal) m' ρ')⟩

end Cert.Proof.Loss

end
-- ==== Proof.lean ====
/-
  The certificate: the kernel as printed, the kernel over the extended reals and the reference run to the end with their
  arguments kept and every counter at zero, the two readings of the kernel are one text, and, where the labels are classes and
  the logits are real numbers, the kernel and the reference over the extended reals return the same loss.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Pre_in_classes
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Loss.domain_facts,
    Loss.frame_kernel, Loss.frame_kernelIdeal, @Loss.frame_kernelIdeal_pre Loss.domain_facts, Loss.frame_reference,
    @Loss.frame_reference_pre Loss.domain_facts, trivial, @Loss.same_loss Loss.domain_facts⟩

end Cert.Proof

end
